-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_shift [hPre_finite_shift : Cert.Pre_finite_shift.Facts] (m : (ℓ : Loc Cert.KernelIdeal.nD Cert.KernelIdeal.τ Cert.KernelIdeal.sig) → Buf (Elt Ideal) ℓ) : Prop :=
  ∀ c : Dev Cert.KernelIdeal.nD,
    (Cert.Pre_finite_shift.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_shift [hPre_finite_shift : Cert.Pre_finite_shift.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_shift.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_shift [hKernelIdeal : Cert.KernelIdeal.Facts] [hPre_finite_shift : Cert.Pre_finite_shift.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_shift m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_shift [hReferenceIdeal : Cert.ReferenceIdeal.Facts] [hPre_finite_shift : Cert.Pre_finite_shift.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_shift m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_shift [hKernelIdeal : Cert.KernelIdeal.Facts] [hReferenceIdeal : Cert.ReferenceIdeal.Facts] [hPre_finite_shift : Cert.Pre_finite_shift.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_shift m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_shift : Cert.Pre_finite_shift.Facts),
    quiescent_Kernel (hKernel := hKernel)
    ∧ quiescent_KernelIdeal (hKernelIdeal := hKernelIdeal)
    ∧ quiescent_KernelIdeal_pre_finite_shift (hKernelIdeal := hKernelIdeal) (hPre_finite_shift := hPre_finite_shift)
    ∧ quiescent_ReferenceIdeal (hReferenceIdeal := hReferenceIdeal)
    ∧ quiescent_ReferenceIdeal_pre_finite_shift (hReferenceIdeal := hReferenceIdeal) (hPre_finite_shift := hPre_finite_shift)
    ∧ preserves_Kernel_KernelIdeal
    ∧ algebraic_KernelIdeal_ReferenceIdeal_pre_finite_shift (hKernelIdeal := hKernelIdeal) (hReferenceIdeal := hReferenceIdeal) (hPre_finite_shift := hPre_finite_shift)
-- ==== Pre_finite_shift.lean ====
abbrev S2x512x3072 : Shape := ⟨3, ![2, 512, 3072]⟩
abbrev S2x3072 : Shape := ⟨2, ![2, 3072]⟩
abbrev S9216x3072 : Shape := ⟨2, ![9216, 3072]⟩
abbrev S9216 : Shape := ⟨1, ![9216]⟩
abbrev S_ : Shape := ⟨0, ![]⟩

class Facts : Prop where
  bcast_S_S2x3072 : S_.BroadcastsInDim S2x3072 (![] : Fin 0 → Fin S2x3072.rank)
  reducesTo_S2x3072_S_d0_1 : S2x3072.ReducesTo [0, 1] S_
  h_S_ : 0 < S_.numel

variable [Facts]

def fn {F : FTy → Type} [FloatOps F] (main_arg0 : FVec F S2x512x3072 .bf16) (main_arg1 : FVec F S2x3072 .f32) (main_arg2 : FVec F S2x3072 .f32) (main_arg3 : FVec F S9216x3072 .fp8e4m3) (main_arg4 : FVec F S9216 .f32) (main_arg5 : FVec F S9216 .f32) : IVec S_ 1 :=
  let main_v0 : FVec F S2x3072 .f32 := Host.absf main_arg2
  let main_cst : FVec F S_ .f32 := constant S_ .f32 0x7F7FFFFF#32
  let main_v1 : FVec F S2x3072 .f32 := broadcastInDim S2x3072 ![] bcast_S_S2x3072 main_cst
  let main_v2 : IVec S2x3072 1 := cmpf .ole main_v0 main_v1
  let main_c : IVec S_ 1 := constantI S_ 1 1#1
  let main_v3 : IVec S_ 1 := (fun x v => Host.reduce IntOp.andi x v reducesTo_S2x3072_S_d0_1 h_S_) main_v2 main_c
  main_v3
-- ==== Kernel.lean ====
abbrev S2x512x3072 : Shape := ⟨3, ![2, 512, 3072]⟩
abbrev S2x3072 : Shape := ⟨2, ![2, 3072]⟩
abbrev S9216x3072 : Shape := ⟨2, ![9216, 3072]⟩
abbrev S9216 : Shape := ⟨1, ![9216]⟩
abbrev S1024x3072 : Shape := ⟨2, ![1024, 3072]⟩
abbrev S1x9216 : Shape := ⟨2, ![1, 9216]⟩
abbrev S2x512x9216 : Shape := ⟨3, ![2, 512, 9216]⟩
abbrev S2x512 : Shape := ⟨2, ![2, 512]⟩
abbrev S2x9216x3072 : Shape := ⟨3, ![2, 9216, 3072]⟩
abbrev S2x9216 : Shape := ⟨2, ![2, 9216]⟩
abbrev S256x3072 : Shape := ⟨2, ![256, 3072]⟩
abbrev S1x256 : Shape := ⟨2, ![1, 256]⟩
abbrev S2x512x256 : Shape := ⟨3, ![2, 512, 256]⟩
abbrev S2x256x3072 : Shape := ⟨3, ![2, 256, 3072]⟩
abbrev S2x256 : Shape := ⟨2, ![2, 256]⟩
abbrev S2x256x128 : Shape := ⟨3, ![2, 256, 128]⟩
abbrev S2x512x128 : Shape := ⟨3, ![2, 512, 128]⟩
abbrev S2x8x3072 : Shape := ⟨3, ![2, 8, 3072]⟩
abbrev S16x3072 : Shape := ⟨2, ![16, 3072]⟩
abbrev S37x2x256 : Shape := ⟨3, ![37, 2, 256]⟩
abbrev S36x2x256 : Shape := ⟨3, ![36, 2, 256]⟩
abbrev S_ : Shape := ⟨0, ![]⟩
abbrev S1x3072 : Shape := ⟨2, ![1, 3072]⟩
abbrev S8x3072 : Shape := ⟨2, ![8, 3072]⟩
abbrev S1x8x3072 : Shape := ⟨3, ![1, 8, 3072]⟩
abbrev S10x3072 : Shape := ⟨2, ![10, 3072]⟩
abbrev S32x8x3072 : Shape := ⟨3, ![32, 8, 3072]⟩
abbrev S1x256x3072 : Shape := ⟨3, ![1, 256, 3072]⟩
abbrev S256x128 : Shape := ⟨2, ![256, 128]⟩
abbrev S1x256x128 : Shape := ⟨3, ![1, 256, 128]⟩
abbrev S16x256 : Shape := ⟨2, ![16, 256]⟩
abbrev S1x2x256 : Shape := ⟨3, ![1, 2, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S128x512 : Shape := ⟨2, ![128, 512]⟩
abbrev S1x512 : Shape := ⟨2, ![1, 512]⟩
abbrev S1x1x256 : Shape := ⟨3, ![1, 1, 256]⟩
abbrev S128x256 : Shape := ⟨2, ![128, 256]⟩
abbrev S1x512x3072 : Shape := ⟨3, ![1, 512, 3072]⟩
abbrev S512x3072 : Shape := ⟨2, ![512, 3072]⟩
abbrev S512x256 : Shape := ⟨2, ![512, 256]⟩
abbrev S1x128 : Shape := ⟨2, ![1, 128]⟩

abbrev nBuf : Space → Nat
  | .hbm => 14
  | .vmem => 29
  | .smem => 0
  | _ => 0

abbrev bufTy : (tb : Table) → Fin (tcTables nBuf tb) → BufTy
  | .hbm, ⟨0, _⟩ => ⟨S2x512x3072, .bf16⟩
  | .hbm, ⟨1, _⟩ => ⟨S2x3072, .f32⟩
  | .hbm, ⟨2, _⟩ => ⟨S2x3072, .f32⟩
  | .hbm, ⟨3, _⟩ => ⟨S9216x3072, .fp8e4m3⟩
  | .hbm, ⟨4, _⟩ => ⟨S9216, .f32⟩
  | .hbm, ⟨5, _⟩ => ⟨S9216, .f32⟩
  | .hbm, ⟨6, _⟩ => ⟨S1024x3072, .bf16⟩
  | .hbm, ⟨7, _⟩ => ⟨S1x9216, .f32⟩
  | .hbm, ⟨8, _⟩ => ⟨S1x9216, .f32⟩
  | .hbm, ⟨9, _⟩ => ⟨S2x512x9216, .bf16⟩
  | .hbm, ⟨10, _⟩ => ⟨S2x512x3072, .fp8e4m3⟩
  | .hbm, ⟨11, _⟩ => ⟨S2x512, .f32⟩
  | .hbm, ⟨12, _⟩ => ⟨S2x9216x3072, .fp8e4m3⟩
  | .hbm, ⟨13, _⟩ => ⟨S2x9216, .f32⟩
  | .local _ .vmem, ⟨0, _⟩ => ⟨S2x3072, .f32⟩
  | .local _ .vmem, ⟨1, _⟩ => ⟨S2x3072, .f32⟩
  | .local _ .vmem, ⟨2, _⟩ => ⟨S256x3072, .fp8e4m3⟩
  | .local _ .vmem, ⟨3, _⟩ => ⟨S256x3072, .fp8e4m3⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2x512x256, .bf16⟩
  | .local _ .vmem, ⟨9, _⟩ => ⟨S2x512x256, .bf16⟩
  | .local _ .vmem, ⟨10, _⟩ => ⟨S2x512, .f32⟩
  | .local _ .vmem, ⟨11, _⟩ => ⟨S2x256x3072, .fp8e4m3⟩
  | .local _ .vmem, ⟨12, _⟩ => ⟨S2x256x3072, .fp8e4m3⟩
  | .local _ .vmem, ⟨13, _⟩ => ⟨S2x256, .f32⟩
  | .local _ .vmem, ⟨14, _⟩ => ⟨S2x256, .f32⟩
  | .local _ .vmem, ⟨15, _⟩ => ⟨S1024x3072, .bf16⟩
  | .local _ .vmem, ⟨16, _⟩ => ⟨S2x256x3072, .f32⟩
  | .local _ .vmem, ⟨17, _⟩ => ⟨S2x256x3072, .f32⟩
  | .local _ .vmem, ⟨18, _⟩ => ⟨S2x256x3072, .fp8e4m3⟩
  | .local _ .vmem, ⟨19, _⟩ => ⟨S2x256x3072, .fp8e4m3⟩
  | .local _ .vmem, ⟨20, _⟩ => ⟨S2x256x128, .f32⟩
  | .local _ .vmem, ⟨21, _⟩ => ⟨S2x256x128, .f32⟩
  | .local _ .vmem, ⟨22, _⟩ => ⟨S2x256x128, .f32⟩
  | .local _ .vmem, ⟨23, _⟩ => ⟨S2x512x3072, .fp8e4m3⟩
  | .local _ .vmem, ⟨24, _⟩ => ⟨S2x512x128, .f32⟩
  | .local _ .vmem, ⟨25, _⟩ => ⟨S2x8x3072, .f32⟩
  | .local _ .vmem, ⟨26, _⟩ => ⟨S16x3072, .bf16⟩
  | .local _ .vmem, ⟨27, _⟩ => ⟨S37x2x256, .f32⟩
  | .local _ .vmem, ⟨28, _⟩ => ⟨S36x2x256, .f32⟩
  | _, _ => ⟨S2x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![38], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_71 : BitVec 32 := 0#32
  let c4_i32 : BitVec 32 := 4#32
  let v216 : BitVec 32 := Scalar.addi c0_i32_71 c4_i32
  let c1_i32_72 : BitVec 32 := 1#32
  ⟨c0_i32_71, v216, c1_i32_72⟩
def k0_mult1 (k0_t1 : Fin k0_t1_loop.trips) : BitVec 32 :=
  let c0_i32_71 : BitVec 32 := 0#32
  let c1_i32_72 : BitVec 32 := 1#32
  let arg28 : BitVec 32 := Scf.iv c0_i32_71 c1_i32_72 k0_t1
  let c2_i32_91 : BitVec 32 := 2#32
  let c0_i32_92 : BitVec 32 := 0#32
  let v244 : BitVec 1 := Scalar.cmpi .eq c2_i32_91 c0_i32_92
  let c1_i32_93 : BitVec 32 := 1#32
  let v245 : BitVec 32 := Scalar.select v244 c1_i32_93 c2_i32_91
  let v246 : BitVec 32 := Scalar.remsi arg28 v245
  let c0_i32_95 : BitVec 32 := 0#32
  let v248 : BitVec 1 := Scalar.cmpi .slt v246 c0_i32_95
  let c0_i32_96 : BitVec 32 := 0#32
  let v249 : BitVec 1 := Scalar.cmpi .slt v245 c0_i32_96
  let v250 : BitVec 1 := Scalar.xori v248 v249
  let c0_i32_94 : BitVec 32 := 0#32
  let v247 : BitVec 1 := Scalar.cmpi .ne v246 c0_i32_94
  let v251 : BitVec 1 := Scalar.andi v250 v247
  let v252 : BitVec 32 := Scalar.addi v246 v245
  let v253 : BitVec 32 := Scalar.select v251 v252 v246
  let c256_i32 : BitVec 32 := 256#32
  let v254 : BitVec 32 := Scalar.muli v253 c256_i32
  v254
def k0_mult2 (k0_t1 : Fin k0_t1_loop.trips) : BitVec 32 :=
  let c0_i32_71 : BitVec 32 := 0#32
  let c1_i32_72 : BitVec 32 := 1#32
  let arg28 : BitVec 32 := Scf.iv c0_i32_71 c1_i32_72 k0_t1
  let c256_i32_97 : BitVec 32 := 256#32
  let v256 : BitVec 32 := Scalar.muli arg28 c256_i32_97
  v256
def k0_off1 (k0_t1 : Fin k0_t1_loop.trips) : Fin 2 → Nat :=
  let c0_i32_71 : BitVec 32 := 0#32
  let c1_i32_72 : BitVec 32 := 1#32
  let arg28 : BitVec 32 := Scf.iv c0_i32_71 c1_i32_72 k0_t1
  let c256_i32_97 : BitVec 32 := 256#32
  let v256 : BitVec 32 := Scalar.muli arg28 c256_i32_97
  let v257 : BitVec 32 := v256
  let c0_i32_99 : BitVec 32 := 0#32
  let v259 : BitVec 32 := Scalar.addi v257 c0_i32_99
  let v260 : Index := Scalar.indexCast v259
  let c0_100 : Index := 0#32
  ![v260.toNat, 0]
def k0_off2 (k0_t1 : Fin k0_t1_loop.trips) : Fin 3 → Nat :=
  let c0_i32_71 : BitVec 32 := 0#32
  let c1_i32_72 : BitVec 32 := 1#32
  let arg28 : BitVec 32 := Scf.iv c0_i32_71 c1_i32_72 k0_t1
  let c0_i32_85 : BitVec 32 := 0#32
  let v228 : BitVec 1 := Scalar.cmpi .sgt arg28 c0_i32_85
  let v229 : BitVec 32 := Scalar.extui v228
  let c0_i32_86 : BitVec 32 := 0#32
  let v230 : BitVec 1 := Scalar.cmpi .slt arg28 c0_i32_86
  let v231 : BitVec 32 := Scalar.extui v230
  let v232 : BitVec 32 := Scalar.subi v229 v231
  let c2_i32_84 : BitVec 32 := 2#32
  let c0_i32_87 : BitVec 32 := 0#32
  let v233 : BitVec 1 := Scalar.cmpi .sgt c2_i32_84 c0_i32_87
  let v234 : BitVec 32 := Scalar.extui v233
  let c0_i32_88 : BitVec 32 := 0#32
  let v235 : BitVec 1 := Scalar.cmpi .slt c2_i32_84 c0_i32_88
  let v236 : BitVec 32 := Scalar.extui v235
  let v237 : BitVec 32 := Scalar.subi v234 v236
  let v238 : BitVec 1 := Scalar.cmpi .ne v232 v237
  let v239 : BitVec 32 := Scalar.remsi arg28 c2_i32_84
  let c0_i32_89 : BitVec 32 := 0#32
  let v240 : BitVec 1 := Scalar.cmpi .ne v239 c0_i32_89
  let v241 : BitVec 1 := Scalar.andi v238 v240
  let v227 : BitVec 32 := Scalar.divsi arg28 c2_i32_84
  let c1_i32_90 : BitVec 32 := 1#32
  let v242 : BitVec 32 := Scalar.subi v227 c1_i32_90
  let v243 : BitVec 32 := Scalar.select v241 v242 v227
  let v318 : Index := Scalar.indexCast v243
  let c2_i32_91 : BitVec 32 := 2#32
  let c0_i32_92 : BitVec 32 := 0#32
  let v244 : BitVec 1 := Scalar.cmpi .eq c2_i32_91 c0_i32_92
  let c1_i32_93 : BitVec 32 := 1#32
  let v245 : BitVec 32 := Scalar.select v244 c1_i32_93 c2_i32_91
  let v246 : BitVec 32 := Scalar.remsi arg28 v245
  let c0_i32_95 : BitVec 32 := 0#32
  let v248 : BitVec 1 := Scalar.cmpi .slt v246 c0_i32_95
  let c0_i32_96 : BitVec 32 := 0#32
  let v249 : BitVec 1 := Scalar.cmpi .slt v245 c0_i32_96
  let v250 : BitVec 1 := Scalar.xori v248 v249
  let c0_i32_94 : BitVec 32 := 0#32
  let v247 : BitVec 1 := Scalar.cmpi .ne v246 c0_i32_94
  let v251 : BitVec 1 := Scalar.andi v250 v247
  let v252 : BitVec 32 := Scalar.addi v246 v245
  let v253 : BitVec 32 := Scalar.select v251 v252 v246
  let c256_i32 : BitVec 32 := 256#32
  let v254 : BitVec 32 := Scalar.muli v253 c256_i32
  let v255 : BitVec 32 := v254
  let c0_i32_103 : BitVec 32 := 0#32
  let v317 : BitVec 32 := Scalar.addi v255 c0_i32_103
  let v319 : Index := Scalar.indexCast v317
  let c0_104 : Index := 0#32
  ![v318.toNat, v319.toNat, 0]
@[reducible] def k0_t2_loop : Scf.Loop 32 :=
  let c0_i32_120 : BitVec 32 := 0#32
  let c8_i32 : BitVec 32 := 8#32
  let v450 : BitVec 32 := Scalar.addi c0_i32_120 c8_i32
  let c1_i32_121 : BitVec 32 := 1#32
  ⟨c0_i32_120, v450, c1_i32_121⟩
def k0_off3 (k0_t1 : Fin k0_t1_loop.trips) : Fin 3 → Nat :=
  let c0_i32_71 : BitVec 32 := 0#32
  let c1_i32_72 : BitVec 32 := 1#32
  let arg28 : BitVec 32 := Scf.iv c0_i32_71 c1_i32_72 k0_t1
  let c0_i32_85 : BitVec 32 := 0#32
  let v228 : BitVec 1 := Scalar.cmpi .sgt arg28 c0_i32_85
  let v229 : BitVec 32 := Scalar.extui v228
  let c0_i32_86 : BitVec 32 := 0#32
  let v230 : BitVec 1 := Scalar.cmpi .slt arg28 c0_i32_86
  let v231 : BitVec 32 := Scalar.extui v230
  let v232 : BitVec 32 := Scalar.subi v229 v231
  let c2_i32_84 : BitVec 32 := 2#32
  let c0_i32_87 : BitVec 32 := 0#32
  let v233 : BitVec 1 := Scalar.cmpi .sgt c2_i32_84 c0_i32_87
  let v234 : BitVec 32 := Scalar.extui v233
  let c0_i32_88 : BitVec 32 := 0#32
  let v235 : BitVec 1 := Scalar.cmpi .slt c2_i32_84 c0_i32_88
  let v236 : BitVec 32 := Scalar.extui v235
  let v237 : BitVec 32 := Scalar.subi v234 v236
  let v238 : BitVec 1 := Scalar.cmpi .ne v232 v237
  let v239 : BitVec 32 := Scalar.remsi arg28 c2_i32_84
  let c0_i32_89 : BitVec 32 := 0#32
  let v240 : BitVec 1 := Scalar.cmpi .ne v239 c0_i32_89
  let v241 : BitVec 1 := Scalar.andi v238 v240
  let v227 : BitVec 32 := Scalar.divsi arg28 c2_i32_84
  let c1_i32_90 : BitVec 32 := 1#32
  let v242 : BitVec 32 := Scalar.subi v227 c1_i32_90
  let v243 : BitVec 32 := Scalar.select v241 v242 v227
  let v494 : Index := Scalar.indexCast v243
  let c2_i32_91 : BitVec 32 := 2#32
  let c0_i32_92 : BitVec 32 := 0#32
  let v244 : BitVec 1 := Scalar.cmpi .eq c2_i32_91 c0_i32_92
  let c1_i32_93 : BitVec 32 := 1#32
  let v245 : BitVec 32 := Scalar.select v244 c1_i32_93 c2_i32_91
  let v246 : BitVec 32 := Scalar.remsi arg28 v245
  let c0_i32_95 : BitVec 32 := 0#32
  let v248 : BitVec 1 := Scalar.cmpi .slt v246 c0_i32_95
  let c0_i32_96 : BitVec 32 := 0#32
  let v249 : BitVec 1 := Scalar.cmpi .slt v245 c0_i32_96
  let v250 : BitVec 1 := Scalar.xori v248 v249
  let c0_i32_94 : BitVec 32 := 0#32
  let v247 : BitVec 1 := Scalar.cmpi .ne v246 c0_i32_94
  let v251 : BitVec 1 := Scalar.andi v250 v247
  let v252 : BitVec 32 := Scalar.addi v246 v245
  let v253 : BitVec 32 := Scalar.select v251 v252 v246
  let c256_i32 : BitVec 32 := 256#32
  let v254 : BitVec 32 := Scalar.muli v253 c256_i32
  let v255 : BitVec 32 := v254
  let c0_i32_140 : BitVec 32 := 0#32
  let v493 : BitVec 32 := Scalar.addi v255 c0_i32_140
  let v495 : Index := Scalar.indexCast v493
  let c0_141 : Index := 0#32
  ![v494.toNat, v495.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

@[reducible] def k0_t3_loop : Scf.Loop 32 :=
  let c0_i32_32 : BitVec 32 := 0#32
  let c8_i32 : BitVec 32 := 8#32
  let v60 : BitVec 32 := Scalar.addi c0_i32_32 c8_i32
  let c1_i32_33 : BitVec 32 := 1#32
  ⟨c0_i32_32, v60, c1_i32_33⟩
@[reducible] def k0_t4_loop : Scf.Loop 32 :=
  let c0_i32_52 : BitVec 32 := 0#32
  let c8_i32_53 : BitVec 32 := 8#32
  let v99 : BitVec 32 := Scalar.addi c0_i32_52 c8_i32_53
  let c1_i32_54 : BitVec 32 := 1#32
  ⟨c0_i32_52, v99, c1_i32_54⟩
def k0_cond3 (i : grid0.Coords) : BitVec 1 :=
  let arg0 : BitVec 32 := BitVec.ofNat 32 (i 0).val
  let c2_i32 : BitVec 32 := 2#32
  let v6 : BitVec 1 := Scalar.cmpi .sge arg0 c2_i32
  let c36_i32 : BitVec 32 := 36#32
  let v7 : BitVec 1 := Scalar.cmpi .slt arg0 c36_i32
  let v8 : BitVec 1 := Scalar.andi v6 v7
  let c2_i32_2 : BitVec 32 := 2#32
  let c0_i32_3 : BitVec 32 := 0#32
  let v9 : BitVec 1 := Scalar.cmpi .eq c2_i32_2 c0_i32_3
  let c1_i32_4 : BitVec 32 := 1#32
  let v10 : BitVec 32 := Scalar.select v9 c1_i32_4 c2_i32_2
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v20 : BitVec 1 := Scalar.andi v8 v19
  let v21 : BitVec 32 := Scalar.extui v20
  let c0_i32_9 : BitVec 32 := 0#32
  let v22 : BitVec 1 := Scalar.cmpi .ne v21 c0_i32_9
  v22

def k0_off4 (i : grid0.Coords) (c2_i32_24 : BitVec 32) : Fin 3 → Nat :=
  let arg0 : BitVec 32 := BitVec.ofNat 32 (i 0).val
  let v48 : BitVec 32 := Scalar.subi arg0 c2_i32_24
  let v54 : Index := Scalar.indexCast v48
  let c0_31 : Index := 0#32
  let c0_32 : Index := 0#32
  ![v54.toNat, 0, 0]
def k0_off5 (i : grid0.Coords) : Fin 3 → Nat :=
  let arg0 : BitVec 32 := BitVec.ofNat 32 (i 0).val
  let c2_i32_24 : BitVec 32 := 2#32
  let v48 : BitVec 32 := Scalar.subi arg0 c2_i32_24
  let v57 : Index := Scalar.indexCast v48
  let c0_33 : Index := 0#32
  let c0_34 : Index := 0#32
  ![v57.toNat, 0, 0]
def k0_off6 (i : grid0.Coords) (c2_i32_24 : BitVec 32) : Fin 3 → Nat :=
  let arg0 : BitVec 32 := BitVec.ofNat 32 (i 0).val
  let v48 : BitVec 32 := Scalar.subi arg0 c2_i32_24
  let v93 : Index := Scalar.indexCast v48
  let c1_52 : Index := 1#32
  let c0_53 : Index := 0#32
  ![v93.toNat, 1, 0]
def k0_off7 (i : grid0.Coords) : Fin 3 → Nat :=
  let arg0 : BitVec 32 := BitVec.ofNat 32 (i 0).val
  let c2_i32_24 : BitVec 32 := 2#32
  let v48 : BitVec 32 := Scalar.subi arg0 c2_i32_24
  let v96 : Index := Scalar.indexCast v48
  let c1_54 : Index := 1#32
  let c0_55 : Index := 0#32
  ![v96.toNat, 1, 0]
@[reducible] def k0_t5_loop : Scf.Loop 32 :=
  let c0_i32_78 : BitVec 32 := 0#32
  let c8_i32 : BitVec 32 := 8#32
  let v140 : BitVec 32 := Scalar.addi c0_i32_78 c8_i32
  let c1_i32_79 : BitVec 32 := 1#32
  ⟨c0_i32_78, v140, c1_i32_79⟩
@[reducible] def k0_t6_loop : Scf.Loop 32 :=
  let c0_i32_98 : BitVec 32 := 0#32
  let c8_i32_99 : BitVec 32 := 8#32
  let v180 : BitVec 32 := Scalar.addi c0_i32_98 c8_i32_99
  let c1_i32_100 : BitVec 32 := 1#32
  ⟨c0_i32_98, v180, c1_i32_100⟩
def k0_off8 (i : grid0.Coords) : Fin 3 → Nat :=
  let arg0 : BitVec 32 := BitVec.ofNat 32 (i 0).val
  let v379 : Index := Scalar.indexCast arg0
  let c0_173 : Index := 0#32
  let c0_174 : Index := 0#32
  ![v379.toNat, 0, 0]
def k0_cond4 (i : grid0.Coords) : BitVec 1 :=
  let arg0 : BitVec 32 := BitVec.ofNat 32 (i 0).val
  let c2_i32 : BitVec 32 := 2#32
  let v6 : BitVec 1 := Scalar.cmpi .sge arg0 c2_i32
  let c36_i32 : BitVec 32 := 36#32
  let v7 : BitVec 1 := Scalar.cmpi .slt arg0 c36_i32
  let v8 : BitVec 1 := Scalar.andi v6 v7
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v8 v33
  let v35 : BitVec 32 := Scalar.extui v34
  let c0_i32_17 : BitVec 32 := 0#32
  let v36 : BitVec 1 := Scalar.cmpi .ne v35 c0_i32_17
  v36

def k0_off9 (i : grid0.Coords) (c2_i32_24 : BitVec 32) : Fin 3 → Nat :=
  let arg0 : BitVec 32 := BitVec.ofNat 32 (i 0).val
  let v48 : BitVec 32 := Scalar.subi arg0 c2_i32_24
  let v54 : Index := Scalar.indexCast v48
  let c0_31 : Index := 0#32
  let c0_32 : Index := 0#32
  ![v54.toNat, 0, 0]
def k0_off10 (i : grid0.Coords) : Fin 3 → Nat :=
  let arg0 : BitVec 32 := BitVec.ofNat 32 (i 0).val
  let c2_i32_24 : BitVec 32 := 2#32
  let v48 : BitVec 32 := Scalar.subi arg0 c2_i32_24
  let v57 : Index := Scalar.indexCast v48
  let c0_33 : Index := 0#32
  let c0_34 : Index := 0#32
  ![v57.toNat, 0, 0]
def k0_off11 (i : grid0.Coords) (c2_i32_24 : BitVec 32) : Fin 3 → Nat :=
  let arg0 : BitVec 32 := BitVec.ofNat 32 (i 0).val
  let v48 : BitVec 32 := Scalar.subi arg0 c2_i32_24
  let v93 : Index := Scalar.indexCast v48
  let c1_52 : Index := 1#32
  let c0_53 : Index := 0#32
  ![v93.toNat, 1, 0]
def k0_off12 (i : grid0.Coords) : Fin 3 → Nat :=
  let arg0 : BitVec 32 := BitVec.ofNat 32 (i 0).val
  let c2_i32_24 : BitVec 32 := 2#32
  let v48 : BitVec 32 := Scalar.subi arg0 c2_i32_24
  let v96 : Index := Scalar.indexCast v48
  let c1_54 : Index := 1#32
  let c0_55 : Index := 0#32
  ![v96.toNat, 1, 0]
@[reducible] def k0_t7_loop : Scf.Loop 32 :=
  let c0_i32_78 : BitVec 32 := 0#32
  let c8_i32 : BitVec 32 := 8#32
  let v140 : BitVec 32 := Scalar.addi c0_i32_78 c8_i32
  let c1_i32_79 : BitVec 32 := 1#32
  ⟨c0_i32_78, v140, c1_i32_79⟩
@[reducible] def k0_t8_loop : Scf.Loop 32 :=
  let c0_i32_98 : BitVec 32 := 0#32
  let c8_i32_99 : BitVec 32 := 8#32
  let v180 : BitVec 32 := Scalar.addi c0_i32_98 c8_i32_99
  let c1_i32_100 : BitVec 32 := 1#32
  ⟨c0_i32_98, v180, c1_i32_100⟩
def k0_off13 (i : grid0.Coords) : Fin 3 → Nat :=
  let arg0 : BitVec 32 := BitVec.ofNat 32 (i 0).val
  let v379 : Index := Scalar.indexCast arg0
  let c0_173 : Index := 0#32
  let c0_174 : Index := 0#32
  ![v379.toNat, 0, 0]
def k0_cond5 (i : grid0.Coords) : BitVec 1 :=
  let arg0 : BitVec 32 := BitVec.ofNat 32 (i 0).val
  let c36_i32_18 : BitVec 32 := 36#32
  let v37 : BitVec 1 := Scalar.cmpi .eq arg0 c36_i32_18
  let v38 : BitVec 32 := Scalar.extui v37
  let c0_i32_19 : BitVec 32 := 0#32
  let v39 : BitVec 1 := Scalar.cmpi .ne v38 c0_i32_19
  v39

def k0_off14 (i : grid0.Coords) (c2_i32_24 : BitVec 32) : Fin 3 → Nat :=
  let arg0 : BitVec 32 := BitVec.ofNat 32 (i 0).val
  let v48 : BitVec 32 := Scalar.subi arg0 c2_i32_24
  let v54 : Index := Scalar.indexCast v48
  let c0_31 : Index := 0#32
  let c0_32 : Index := 0#32
  ![v54.toNat, 0, 0]
def k0_off15 (i : grid0.Coords) : Fin 3 → Nat :=
  let arg0 : BitVec 32 := BitVec.ofNat 32 (i 0).val
  let c2_i32_24 : BitVec 32 := 2#32
  let v48 : BitVec 32 := Scalar.subi arg0 c2_i32_24
  let v57 : Index := Scalar.indexCast v48
  let c0_33 : Index := 0#32
  let c0_34 : Index := 0#32
  ![v57.toNat, 0, 0]
def k0_off16 (i : grid0.Coords) (c2_i32_24 : BitVec 32) : Fin 3 → Nat :=
  let arg0 : BitVec 32 := BitVec.ofNat 32 (i 0).val
  let v48 : BitVec 32 := Scalar.subi arg0 c2_i32_24
  let v93 : Index := Scalar.indexCast v48
  let c1_52 : Index := 1#32
  let c0_53 : Index := 0#32
  ![v93.toNat, 1, 0]
def k0_off17 (i : grid0.Coords) : Fin 3 → Nat :=
  let arg0 : BitVec 32 := BitVec.ofNat 32 (i 0).val
  let c2_i32_24 : BitVec 32 := 2#32
  let v48 : BitVec 32 := Scalar.subi arg0 c2_i32_24
  let v96 : Index := Scalar.indexCast v48
  let c1_54 : Index := 1#32
  let c0_55 : Index := 0#32
  ![v96.toNat, 1, 0]
@[reducible] def k0_t9_loop : Scf.Loop 32 :=
  let c0_i32_78 : BitVec 32 := 0#32
  let c8_i32 : BitVec 32 := 8#32
  let v140 : BitVec 32 := Scalar.addi c0_i32_78 c8_i32
  let c1_i32_79 : BitVec 32 := 1#32
  ⟨c0_i32_78, v140, c1_i32_79⟩
@[reducible] def k0_t10_loop : Scf.Loop 32 :=
  let c0_i32_98 : BitVec 32 := 0#32
  let c8_i32_99 : BitVec 32 := 8#32
  let v180 : BitVec 32 := Scalar.addi c0_i32_98 c8_i32_99
  let c1_i32_100 : BitVec 32 := 1#32
  ⟨c0_i32_98, v180, c1_i32_100⟩
def k0_cond6 (i : grid0.Coords) : BitVec 1 :=
  let arg0 : BitVec 32 := BitVec.ofNat 32 (i 0).val
  let c37_i32 : BitVec 32 := 37#32
  let v40 : BitVec 1 := Scalar.cmpi .eq arg0 c37_i32
  let v41 : BitVec 32 := Scalar.extui v40
  let c0_i32_20 : BitVec 32 := 0#32
  let v42 : BitVec 1 := Scalar.cmpi .ne v41 c0_i32_20
  v42

def k0_off18 (i : grid0.Coords) : Fin 3 → Nat :=
  let arg0 : BitVec 32 := BitVec.ofNat 32 (i 0).val
  let c2_i32_24 : BitVec 32 := 2#32
  let v48 : BitVec 32 := Scalar.subi arg0 c2_i32_24
  let v54 : Index := Scalar.indexCast v48
  let c0_31 : Index := 0#32
  let c0_32 : Index := 0#32
  ![v54.toNat, 0, 0]
def k0_off19 (i : grid0.Coords) : Fin 3 → Nat :=
  let arg0 : BitVec 32 := BitVec.ofNat 32 (i 0).val
  let c2_i32_24 : BitVec 32 := 2#32
  let v48 : BitVec 32 := Scalar.subi arg0 c2_i32_24
  let v57 : Index := Scalar.indexCast v48
  let c0_33 : Index := 0#32
  let c0_34 : Index := 0#32
  ![v57.toNat, 0, 0]
def k0_off20 (i : grid0.Coords) : Fin 3 → Nat :=
  let arg0 : BitVec 32 := BitVec.ofNat 32 (i 0).val
  let c2_i32_24 : BitVec 32 := 2#32
  let v48 : BitVec 32 := Scalar.subi arg0 c2_i32_24
  let v93 : Index := Scalar.indexCast v48
  let c1_52 : Index := 1#32
  let c0_53 : Index := 0#32
  ![v93.toNat, 1, 0]
def k0_off21 (i : grid0.Coords) : Fin 3 → Nat :=
  let arg0 : BitVec 32 := BitVec.ofNat 32 (i 0).val
  let c2_i32_24 : BitVec 32 := 2#32
  let v48 : BitVec 32 := Scalar.subi arg0 c2_i32_24
  let v96 : Index := Scalar.indexCast v48
  let c1_54 : Index := 1#32
  let c0_55 : Index := 0#32
  ![v96.toNat, 1, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c35_i32 : BitVec 32 := 35#32
  let v1 : BitVec 32 := Scalar.maxsi c0_i32 v0
  let v2 : BitVec 32 := Scalar.minsi c35_i32 v1
  let c0_i32_0 : BitVec 32 := 0#32
  let c0_i32_1 : BitVec 32 := 0#32
  let c0_i32_2 : BitVec 32 := 0#32
  ![c0_i32_0.toNat, c0_i32_1.toNat, v2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c35_i32 : BitVec 32 := 35#32
  let v1 : BitVec 32 := Scalar.maxsi c0_i32 v0
  let v2 : BitVec 32 := Scalar.minsi c35_i32 v1
  let c0_i32_0 : BitVec 32 := 0#32
  let c0_i32_1 : BitVec 32 := 0#32
  let c0_i32_2 : BitVec 32 := 0#32
  ![c0_i32_0.toNat, v2.toNat, c0_i32_1.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c35_i32 : BitVec 32 := 35#32
  let v1 : BitVec 32 := Scalar.maxsi c0_i32 v0
  let v2 : BitVec 32 := Scalar.minsi c35_i32 v1
  let c0_i32_0 : BitVec 32 := 0#32
  let c0_i32_1 : BitVec 32 := 0#32
  ![c0_i32_0.toNat, v2.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x3072 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x512x3072 : Shape := ⟨3, ![2, 512, 3072]⟩
abbrev S2x3072 : Shape := ⟨2, ![2, 3072]⟩
abbrev S9216x3072 : Shape := ⟨2, ![9216, 3072]⟩
abbrev S9216 : Shape := ⟨1, ![9216]⟩
abbrev S2x512x9216 : Shape := ⟨3, ![2, 512, 9216]⟩
abbrev S2x512 : Shape := ⟨2, ![2, 512]⟩
abbrev S2x9216x3072 : Shape := ⟨3, ![2, 9216, 3072]⟩
abbrev S2x9216 : Shape := ⟨2, ![2, 9216]⟩
abbrev S2x512x1 : Shape := ⟨3, ![2, 512, 1]⟩
abbrev S9216x1 : Shape := ⟨2, ![9216, 1]⟩
abbrev S2x1x3072 : Shape := ⟨3, ![2, 1, 3072]⟩
abbrev S1x9216x3072 : Shape := ⟨3, ![1, 9216, 3072]⟩
abbrev S2x9216x1 : Shape := ⟨3, ![2, 9216, 1]⟩
abbrev S1x9216 : Shape := ⟨2, ![1, 9216]⟩
abbrev S2x1x9216 : Shape := ⟨3, ![2, 1, 9216]⟩

abbrev nBuf : Space → Nat
  | .hbm => 11
  | .vmem => 11
  | .smem => 0
  | _ => 0

abbrev bufTy : (tb : Table) → Fin (tcTables nBuf tb) → BufTy
  | .hbm, ⟨0, _⟩ => ⟨S2x512x3072, .bf16⟩
  | .hbm, ⟨1, _⟩ => ⟨S2x3072, .f32⟩
  | .hbm, ⟨2, _⟩ => ⟨S2x3072, .f32⟩
  | .hbm, ⟨3, _⟩ => ⟨S9216x3072, .fp8e4m3⟩
  | .hbm, ⟨4, _⟩ => ⟨S9216, .f32⟩
  | .hbm, ⟨5, _⟩ => ⟨S9216, .f32⟩
  | .hbm, ⟨6, _⟩ => ⟨S2x512x9216, .bf16⟩
  | .hbm, ⟨7, _⟩ => ⟨S2x512x3072, .fp8e4m3⟩
  | .hbm, ⟨8, _⟩ => ⟨S2x512, .f32⟩
  | .hbm, ⟨9, _⟩ => ⟨S2x9216x3072, .fp8e4m3⟩
  | .hbm, ⟨10, _⟩ => ⟨S2x9216, .f32⟩
  | .local _ .vmem, ⟨0, _⟩ => ⟨S2x512x3072, .bf16⟩
  | .local _ .vmem, ⟨1, _⟩ => ⟨S2x3072, .f32⟩
  | .local _ .vmem, ⟨2, _⟩ => ⟨S2x3072, .f32⟩
  | .local _ .vmem, ⟨3, _⟩ => ⟨S9216x3072, .fp8e4m3⟩
  | .local _ .vmem, ⟨4, _⟩ => ⟨S9216, .f32⟩
  | .local _ .vmem, ⟨5, _⟩ => ⟨S9216, .f32⟩
  | .local _ .vmem, ⟨6, _⟩ => ⟨S2x512x9216, .bf16⟩
  | .local _ .vmem, ⟨7, _⟩ => ⟨S2x512x3072, .fp8e4m3⟩
  | .local _ .vmem, ⟨8, _⟩ => ⟨S2x512, .f32⟩
  | .local _ .vmem, ⟨9, _⟩ => ⟨S2x9216x3072, .fp8e4m3⟩
  | .local _ .vmem, ⟨10, _⟩ => ⟨S2x9216, .f32⟩
  | _, _ => ⟨S2x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c255_i32 : BitVec 32 := 255#32
  let v24 : BitVec 32 := Scalar.addi c0_i32 c255_i32
  let c1_i32 : BitVec 32 := 1#32
  ⟨c0_i32, v24, c1_i32⟩
@[reducible] def k0_t2_loop : Scf.Loop 32 :=
  let c0_i32_24 : BitVec 32 := 0#32
  let c255_i32_25 : BitVec 32 := 255#32
  let v69 : BitVec 32 := Scalar.addi c0_i32_24 c255_i32_25
  let c1_i32_26 : BitVec 32 := 1#32
  ⟨c0_i32_24, v69, c1_i32_26⟩
abbrev stage0_0 : Fin 1 → Memref sig .tc .vmem S2x512x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x9216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x9216x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x9216 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Base.lean ====
/-
  The kernel's launch read at the algebra its copies need: the buffers when the region is entered, the scratch buffers
  and semaphores the body owns beside its windows, and the body as the pipeline calls it.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Pipeline.FrameBody
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's beside the counters of the body's own copies. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The buffers and semaphores the body owns -/

abbrev xH : Memref sig .tc .hbm S1024x3072 .bf16 := Memref.whole main_v0
abbrev hH : Memref sig .tc .hbm S2x512x3072 .fp8e4m3 := Memref.whole main_v3_1
abbrev xV : Memref sig .tc .vmem S1024x3072 .bf16 := Memref.whole cc0_scratch0
abbrev p0 : Memref sig .tc .vmem S2x256x3072 .f32 := Memref.whole cc0_scratch1
abbrev p1 : Memref sig .tc .vmem S2x256x3072 .f32 := Memref.whole cc0_scratch2
abbrev wq0 : Memref sig .tc .vmem S2x256x3072 .fp8e4m3 := Memref.whole cc0_scratch3
abbrev wq1 : Memref sig .tc .vmem S2x256x3072 .fp8e4m3 := Memref.whole cc0_scratch4
abbrev m0 : Memref sig .tc .vmem S2x256x128 .f32 := Memref.whole cc0_scratch5
abbrev m1 : Memref sig .tc .vmem S2x256x128 .f32 := Memref.whole cc0_scratch6
abbrev rV : Memref sig .tc .vmem S2x256x128 .f32 := Memref.whole cc0_scratch7
abbrev hV : Memref sig .tc .vmem S2x512x3072 .fp8e4m3 := Memref.whole cc0_scratch8
abbrev hrep : Memref sig .tc .vmem S2x512x128 .f32 := Memref.whole cc0_scratch9
abbrev mrep : Memref sig .tc .vmem S2x8x3072 .f32 := Memref.whole cc0_scratch10
abbrev shV : Memref sig .tc .vmem S16x3072 .bf16 := Memref.whole cc0_scratch11
abbrev cV : Memref sig .tc .vmem S37x2x256 .f32 := Memref.whole cc0_scratch12
abbrev scV : Memref sig .tc .vmem S36x2x256 .f32 := Memref.whole cc0_scratch13

/-- The two cells of the body's copies. -/
abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl

/-- The array the body reads by a copy, and the one it writes by a copy. -/
def H0 : Finset (Ref sig .tc) := {main_v0}
def R0 : Finset (Ref sig .tc) := {main_v3_1}
theorem H0_sub : H0 ⊆ Pipeline.restRefs sig spec0 := by decide
theorem R0_sub : R0 ⊆ Pipeline.restRefs sig spec0 \ H0 := by decide

/-- The body at a grid position, on any staging buffers. -/
abbrev bodyW (i : grid0.Coords) (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole) : Prog (TpuEff nD τ sig (Elt F) Λ₀ .tc) PUnit :=
  cc0_adaln_fp8_linear i xH (Memref.isWhole_whole _) arg2 harg2 arg3 harg3 arg4 harg4 arg5 harg5 arg6 harg6 arg7 harg7 hH (Memref.isWhole_whole _)
    arg9 harg9 arg10 harg10 arg11 harg11 xV (Memref.isWhole_whole _) p0 (Memref.isWhole_whole _) p1 (Memref.isWhole_whole _)
    wq0 (Memref.isWhole_whole _) wq1 (Memref.isWhole_whole _) m0 (Memref.isWhole_whole _) m1 (Memref.isWhole_whole _)
    rV (Memref.isWhole_whole _) hV (Memref.isWhole_whole _) hrep (Memref.isWhole_whole _) mrep (Memref.isWhole_whole _)
    shV (Memref.isWhole_whole _) cV (Memref.isWhole_whole _) scV (Memref.isWhole_whole _) cc0_scratch14 cc0_scratch15

end Cert.Kernel.Hand

end
-- ==== Proof.Kernel.Stages.lean ====
/-
  What one grid step computes, as functions of the values it reads: the three stages of the software pipeline (multiply a weight
  tile and take its row maxima; turn the maxima into scales and codes; multiply the codes by the activations), and a block of
  256 rows of the layer norm. Each is the composition of the step's own payloads.
-/
module

public import proofs.«01_k».proof.Proof.Kernel.Base
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.VecWindow

variable {F : FTy → Type} [FloatOps F]

/-! ## Two-plane buffers -/

/-- The buffer of planes `A` and `B`. -/
def planes {α : Type} {a b : ℕ} (A B : (⟨3, ![1, a, b]⟩ : Shape).Idx → α) : (⟨3, ![2, a, b]⟩ : Shape).Idx → α :=
  fun y => if (y 0).val = 0 then A (fun d => match d with | 0 => ⟨0, Nat.one_pos⟩ | 1 => y 1 | 2 => y 2)
    else B (fun d => match d with | 0 => ⟨0, Nat.one_pos⟩ | 1 => y 1 | 2 => y 2)

/-- Plane `p` of a two-plane buffer. -/
def plane {α : Type} {a b : ℕ} (p : Fin 2) (X : (⟨3, ![2, a, b]⟩ : Shape).Idx → α) : (⟨3, ![1, a, b]⟩ : Shape).Idx → α :=
  fun y => X (fun d => match d with | 0 => p | 1 => y 1 | 2 => y 2)

theorem plane_planes0 {α : Type} {a b : ℕ} (A B : (⟨3, ![1, a, b]⟩ : Shape).Idx → α) : plane 0 (planes A B) = A := by
  funext y
  unfold plane planes
  refine (if_pos rfl).trans ?_
  exact congrArg A (funext fun d => match d with
    | 0 => Fin.ext (by have := (y 0).isLt; show 0 = (y 0).val; have h : (y 0).val < 1 := this; omega)
    | 1 => rfl | 2 => rfl)
theorem plane_planes1 {α : Type} {a b : ℕ} (A B : (⟨3, ![1, a, b]⟩ : Shape).Idx → α) : plane 1 (planes A B) = B := by
  funext y
  unfold plane planes
  refine (if_neg (fun h : (1 : Fin 2).val = 0 => absurd h (by decide))).trans ?_
  exact congrArg B (funext fun d => match d with
    | 0 => Fin.ext (by have := (y 0).isLt; show 0 = (y 0).val; have h : (y 0).val < 1 := this; omega)
    | 1 => rfl | 2 => rfl)

section
variable {sig : RefSig} {κ : Kind} {sp : Space} {e : EltTy} {Val : EltTy → Type} {a b : ℕ}

/-- A load of plane 0, and of plane 1. -/
theorem ld_plane0 (v : View sig κ sp ⟨3, ![2, a, b]⟩ e) (f : v.ty.Contents Val) (inb : ∀ d, (![0, 0, 0] : Fin 3 → ℕ) d + (![1, a, b] : Fin 3 → ℕ) d ≤ (⟨3, ![2, a, b]⟩ : Shape).size d) :
    v.readAt Val (Rect.unit (s := ⟨3, ![2, a, b]⟩) ![0, 0, 0] ![1, a, b] inb).toLoadRect f = plane (α := Val e) 0 (v.read Val f) := by
  funext y
  exact congrArg (v.read Val f) (funext fun d => match d with
    | 0 => Fin.ext (by have : (y 0).val < 1 := (y 0).isLt; show 0 + 1 * (y 0).val = 0; omega)
    | 1 => Fin.ext (by show 0 + 1 * (y 1).val = (y 1).val; omega)
    | 2 => Fin.ext (by show 0 + 1 * (y 2).val = (y 2).val; omega))
theorem ld_plane1 (v : View sig κ sp ⟨3, ![2, a, b]⟩ e) (f : v.ty.Contents Val) (inb : ∀ d, (![1, 0, 0] : Fin 3 → ℕ) d + (![1, a, b] : Fin 3 → ℕ) d ≤ (⟨3, ![2, a, b]⟩ : Shape).size d) :
    v.readAt Val (Rect.unit (s := ⟨3, ![2, a, b]⟩) ![1, 0, 0] ![1, a, b] inb).toLoadRect f = plane (α := Val e) 1 (v.read Val f) := by
  funext y
  exact congrArg (v.read Val f) (funext fun d => match d with
    | 0 => Fin.ext (by have : (y 0).val < 1 := (y 0).isLt; show 1 + 1 * (y 0).val = 1; omega)
    | 1 => Fin.ext (by show 0 + 1 * (y 1).val = (y 1).val; omega)
    | 2 => Fin.ext (by show 0 + 1 * (y 2).val = (y 2).val; omega))

/-- Both planes stored: the buffer is the two planes. -/
theorem st_planes (v : View sig κ sp ⟨3, ![2, a, b]⟩ e) (f : v.ty.Contents Val)
    (inb0 : ∀ d, (![0, 0, 0] : Fin 3 → ℕ) d + (![1, a, b] : Fin 3 → ℕ) d ≤ (⟨3, ![2, a, b]⟩ : Shape).size d)
    (inb1 : ∀ d, (![1, 0, 0] : Fin 3 → ℕ) d + (![1, a, b] : Fin 3 → ℕ) d ≤ (⟨3, ![2, a, b]⟩ : Shape).size d)
    (A B : (⟨3, ![1, a, b]⟩ : Shape).Idx → Val e) :
    v.read Val (v.writes Val f [⟨Rect.unit (s := ⟨3, ![2, a, b]⟩) ![1, 0, 0] ![1, a, b] inb1, B⟩, ⟨Rect.unit (s := ⟨3, ![2, a, b]⟩) ![0, 0, 0] ![1, a, b] inb0, A⟩])
      = planes (α := Val e) A B := by
  funext y
  rw [View.read_writes_cons_unit v f inb1 B _ y rfl]
  have h0 : (y 0).val < 2 := (y 0).isLt
  have h1 : (y 1).val < a := (y 1).isLt
  have h2 : (y 2).val < b := (y 2).isLt
  unfold planes
  by_cases h : (y 0).val = 0
  · rw [dif_neg (fun hh => by have := (hh 0).1; have e1 : 1 ≤ (y 0).val := this; omega), if_pos h, View.read_writes_cons_unit v f inb0 A _ y rfl,
      dif_pos (fun d => match d with
        | 0 => ⟨Nat.zero_le _, by show (y 0).val < 0 + 1; omega⟩
        | 1 => ⟨Nat.zero_le _, by show (y 1).val < 0 + a; omega⟩
        | 2 => ⟨Nat.zero_le _, by show (y 2).val < 0 + b; omega⟩)]
    exact congrArg A (funext fun d => match d with
      | 0 => Fin.ext (by show (y 0).val - 0 = 0; omega)
      | 1 => Fin.ext (by show (y 1).val - 0 = (y 1).val; omega)
      | 2 => Fin.ext (by show (y 2).val - 0 = (y 2).val; omega))
  · rw [if_neg h, dif_pos (fun d => match d with
        | 0 => ⟨by show 1 ≤ (y 0).val; omega, by show (y 0).val < 1 + 1; omega⟩
        | 1 => ⟨Nat.zero_le _, by show (y 1).val < 0 + a; omega⟩
        | 2 => ⟨Nat.zero_le _, by show (y 2).val < 0 + b; omega⟩)]
    exact congrArg B (funext fun d => match d with
      | 0 => Fin.ext (by show (y 0).val - 1 = 0; omega)
      | 1 => Fin.ext (by show (y 1).val - 0 = (y 1).val; omega)
      | 2 => Fin.ext (by show (y 2).val - 0 = (y 2).val; omega))

/-- A covered load of one of two stored planes is that plane. -/
theorem cov_plane0 [∀ e, Nonempty (Val e)] (v : View sig κ sp ⟨3, ![2, a, b]⟩ e)
    (inb0 inb0' : ∀ d, (![0, 0, 0] : Fin 3 → ℕ) d + (![1, a, b] : Fin 3 → ℕ) d ≤ (⟨3, ![2, a, b]⟩ : Shape).size d)
    (inb1 : ∀ d, (![1, 0, 0] : Fin 3 → ℕ) d + (![1, a, b] : Fin 3 → ℕ) d ≤ (⟨3, ![2, a, b]⟩ : Shape).size d)
    (A B : (⟨3, ![1, a, b]⟩ : Shape).Idx → Val e) :
    v.readCov [⟨Rect.unit (s := ⟨3, ![2, a, b]⟩) ![1, 0, 0] ![1, a, b] inb1, B⟩, ⟨Rect.unit (s := ⟨3, ![2, a, b]⟩) ![0, 0, 0] ![1, a, b] inb0, A⟩]
      (Rect.unit (s := ⟨3, ![2, a, b]⟩) ![0, 0, 0] ![1, a, b] inb0').toLoadRect = A :=
  (ld_plane0 v _ inb0').trans ((congrArg (plane 0) (st_planes v _ inb0 inb1 A B)).trans (plane_planes0 A B))
theorem cov_plane1 [∀ e, Nonempty (Val e)] (v : View sig κ sp ⟨3, ![2, a, b]⟩ e)
    (inb0 : ∀ d, (![0, 0, 0] : Fin 3 → ℕ) d + (![1, a, b] : Fin 3 → ℕ) d ≤ (⟨3, ![2, a, b]⟩ : Shape).size d)
    (inb1 inb1' : ∀ d, (![1, 0, 0] : Fin 3 → ℕ) d + (![1, a, b] : Fin 3 → ℕ) d ≤ (⟨3, ![2, a, b]⟩ : Shape).size d)
    (A B : (⟨3, ![1, a, b]⟩ : Shape).Idx → Val e) :
    v.readCov [⟨Rect.unit (s := ⟨3, ![2, a, b]⟩) ![1, 0, 0] ![1, a, b] inb1, B⟩, ⟨Rect.unit (s := ⟨3, ![2, a, b]⟩) ![0, 0, 0] ![1, a, b] inb0, A⟩]
      (Rect.unit (s := ⟨3, ![2, a, b]⟩) ![1, 0, 0] ![1, a, b] inb1').toLoadRect = B :=
  (ld_plane1 v _ inb1').trans ((congrArg (plane 1) (st_planes v _ inb0 inb1 A B)).trans (plane_planes1 A B))

/-- Both rows of a two-row buffer stored. -/
def rows2 {α : Type} {b : ℕ} (A B : (⟨2, ![1, b]⟩ : Shape).Idx → α) : (⟨2, ![2, b]⟩ : Shape).Idx → α :=
  fun y => if (y 0).val = 0 then A (fun d => match d with | 0 => ⟨0, Nat.one_pos⟩ | 1 => y 1)
    else B (fun d => match d with | 0 => ⟨0, Nat.one_pos⟩ | 1 => y 1)
theorem st_rows (v : View sig κ sp ⟨2, ![2, b]⟩ e) (f : v.ty.Contents Val)
    (inb0 : ∀ d, (![0, 0] : Fin 2 → ℕ) d + (![1, b] : Fin 2 → ℕ) d ≤ (⟨2, ![2, b]⟩ : Shape).size d)
    (inb1 : ∀ d, (![1, 0] : Fin 2 → ℕ) d + (![1, b] : Fin 2 → ℕ) d ≤ (⟨2, ![2, b]⟩ : Shape).size d)
    (A B : (⟨2, ![1, b]⟩ : Shape).Idx → Val e) :
    v.read Val (v.writes Val f [⟨Rect.unit (s := ⟨2, ![2, b]⟩) ![1, 0] ![1, b] inb1, B⟩, ⟨Rect.unit (s := ⟨2, ![2, b]⟩) ![0, 0] ![1, b] inb0, A⟩])
      = rows2 (α := Val e) A B := by
  funext y
  rw [View.read_writes_cons_unit v f inb1 B _ y rfl]
  have h0 : (y 0).val < 2 := (y 0).isLt
  have h1 : (y 1).val < b := (y 1).isLt
  unfold rows2
  by_cases h : (y 0).val = 0
  · rw [dif_neg (fun hh => by have := (hh 0).1; have e1 : 1 ≤ (y 0).val := this; omega), if_pos h, View.read_writes_cons_unit v f inb0 A _ y rfl,
      dif_pos (fun d => match d with
        | 0 => ⟨Nat.zero_le _, by show (y 0).val < 0 + 1; omega⟩
        | 1 => ⟨Nat.zero_le _, by show (y 1).val < 0 + b; omega⟩)]
    exact congrArg A (funext fun d => match d with
      | 0 => Fin.ext (by show (y 0).val - 0 = 0; omega)
      | 1 => Fin.ext (by show (y 1).val - 0 = (y 1).val; omega))
  · rw [if_neg h, dif_pos (fun d => match d with
        | 0 => ⟨by show 1 ≤ (y 0).val; omega, by show (y 0).val < 1 + 1; omega⟩
        | 1 => ⟨Nat.zero_le _, by show (y 1).val < 0 + b; omega⟩)]
    exact congrArg B (funext fun d => match d with
      | 0 => Fin.ext (by show (y 0).val - 1 = 0; omega)
      | 1 => Fin.ext (by show (y 1).val - 0 = (y 1).val; omega))

/-- The `1 × 1 × 256` row of a `K × 2 × 256` buffer at offsets `off`. -/
def win {α : Type} {K : ℕ} (X : (⟨3, ![K + 1, 2, 256]⟩ : Shape).Idx → α) (off : Fin 3 → ℕ) : (⟨3, ![1, 1, 256]⟩ : Shape).Idx → α :=
  fun y => X (fun d => match d with
    | 0 => ⟨min (off 0) K, by show min (off 0) K < K + 1; omega⟩
    | 1 => ⟨min (off 1) 1, by show min (off 1) 1 < 2; omega⟩
    | 2 => y 2)
theorem ld_win {K : ℕ} (v : View sig κ sp ⟨3, ![K + 1, 2, 256]⟩ e) (f : v.ty.Contents Val) (off : Fin 3 → ℕ)
    (inb : ∀ d, off d + (![1, 1, 256] : Fin 3 → ℕ) d ≤ (⟨3, ![K + 1, 2, 256]⟩ : Shape).size d) :
    v.readAt Val (Rect.unit (s := ⟨3, ![K + 1, 2, 256]⟩) off ![1, 1, 256] inb).toLoadRect f = win (α := Val e) (v.read Val f) off := by
  have i0 : off 0 + 1 ≤ K + 1 := inb 0
  have i1 : off 1 + 1 ≤ 2 := inb 1
  have i2 : off 2 + 256 ≤ 256 := inb 2
  funext y
  exact congrArg (v.read Val f) (funext fun d => match d with
    | 0 => Fin.ext (by have : (y 0).val < 1 := (y 0).isLt; show off 0 + 1 * (y 0).val = min (off 0) K; omega)
    | 1 => Fin.ext (by have : (y 1).val < 1 := (y 1).isLt; show off 1 + 1 * (y 1).val = min (off 1) 1; omega)
    | 2 => Fin.ext (by show off 2 + 1 * (y 2).val = (y 2).val; omega))

/-- A load of a whole matrix. -/
theorem ld_all (v : View sig κ sp ⟨2, ![a, b]⟩ e) (f : v.ty.Contents Val) (inb : ∀ d, (![0, 0] : Fin 2 → ℕ) d + (![a, b] : Fin 2 → ℕ) d ≤ (⟨2, ![a, b]⟩ : Shape).size d) :
    v.readAt Val (Rect.unit (s := ⟨2, ![a, b]⟩) ![0, 0] ![a, b] inb).toLoadRect f = v.read Val f :=
  View.readAt_full v f inb

/-- Four blocks side by side: two planes of two halves. -/
def quads {α : Type} (A0 A1 B0 B1 : (⟨3, ![1, 512, 128]⟩ : Shape).Idx → α) : (⟨3, ![2, 512, 256]⟩ : Shape).Idx → α :=
  fun y =>
    let l : Fin 128 := ⟨(y 2).val % 128, Nat.mod_lt _ (by decide)⟩
    let z : (⟨3, ![1, 512, 128]⟩ : Shape).Idx := fun d => match d with | 0 => ⟨0, Nat.one_pos⟩ | 1 => y 1 | 2 => l
    if (y 0).val = 0 then (if (y 2).val < 128 then A0 z else A1 z) else (if (y 2).val < 128 then B0 z else B1 z)
theorem st_quads (v : View sig κ sp ⟨3, ![2, 512, 256]⟩ e) (f : v.ty.Contents Val)
    (i00 : ∀ d, (![0, 0, 0] : Fin 3 → ℕ) d + (![1, 512, 128] : Fin 3 → ℕ) d ≤ (⟨3, ![2, 512, 256]⟩ : Shape).size d)
    (i01 : ∀ d, (![0, 0, 128] : Fin 3 → ℕ) d + (![1, 512, 128] : Fin 3 → ℕ) d ≤ (⟨3, ![2, 512, 256]⟩ : Shape).size d)
    (i10 : ∀ d, (![1, 0, 0] : Fin 3 → ℕ) d + (![1, 512, 128] : Fin 3 → ℕ) d ≤ (⟨3, ![2, 512, 256]⟩ : Shape).size d)
    (i11 : ∀ d, (![1, 0, 128] : Fin 3 → ℕ) d + (![1, 512, 128] : Fin 3 → ℕ) d ≤ (⟨3, ![2, 512, 256]⟩ : Shape).size d)
    (A0 A1 B0 B1 : (⟨3, ![1, 512, 128]⟩ : Shape).Idx → Val e) :
    v.read Val (v.writes Val f [⟨Rect.unit (s := ⟨3, ![2, 512, 256]⟩) ![1, 0, 128] ![1, 512, 128] i11, B1⟩,
        ⟨Rect.unit (s := ⟨3, ![2, 512, 256]⟩) ![1, 0, 0] ![1, 512, 128] i10, B0⟩,
        ⟨Rect.unit (s := ⟨3, ![2, 512, 256]⟩) ![0, 0, 128] ![1, 512, 128] i01, A1⟩,
        ⟨Rect.unit (s := ⟨3, ![2, 512, 256]⟩) ![0, 0, 0] ![1, 512, 128] i00, A0⟩])
      = quads (α := Val e) A0 A1 B0 B1 := by
  funext y
  have h0 : (y 0).val < 2 := (y 0).isLt
  have h1 : (y 1).val < 512 := (y 1).isLt
  have h2 : (y 2).val < 256 := (y 2).isLt
  have key : ∀ (p q : ℕ) (hp : (y 0).val = p) (hq : q ≤ (y 2).val ∧ (y 2).val < q + 128) (d : Fin 3),
      (![p, 0, q] : Fin 3 → ℕ) d ≤ (y d).val ∧ (y d).val < (![p, 0, q] : Fin 3 → ℕ) d + (![1, 512, 128] : Fin 3 → ℕ) d := fun p q hp hq d => match d with
    | 0 => ⟨by show p ≤ (y 0).val; omega, by show (y 0).val < p + 1; omega⟩
    | 1 => ⟨Nat.zero_le _, by show (y 1).val < 0 + 512; omega⟩
    | 2 => hq
  have keyn : ∀ (p q : ℕ) (hn : ¬ ((y 0).val = p ∧ q ≤ (y 2).val ∧ (y 2).val < q + 128)),
      ¬ ∀ d : Fin 3, (![p, 0, q] : Fin 3 → ℕ) d ≤ (y d).val ∧ (y d).val < (![p, 0, q] : Fin 3 → ℕ) d + (![1, 512, 128] : Fin 3 → ℕ) d := fun p q hn hh => by
    have a1 : p ≤ (y 0).val := (hh 0).1
    have a2 : (y 0).val < p + 1 := (hh 0).2
    have a3 : q ≤ (y 2).val := (hh 2).1
    have a4 : (y 2).val < q + 128 := (hh 2).2
    exact hn ⟨by omega, a3, a4⟩
  unfold quads
  by_cases hA : (y 0).val = 0 <;> by_cases hB : (y 2).val < 128
  · rw [View.read_writes_cons_unit v f i11 B1 _ y rfl, dif_neg (keyn 1 128 (by omega)), View.read_writes_cons_unit v f i10 B0 _ y rfl, dif_neg (keyn 1 0 (by omega)),
      View.read_writes_cons_unit v f i01 A1 _ y rfl, dif_neg (keyn 0 128 (by omega)), View.read_writes_cons_unit v f i00 A0 _ y rfl, dif_pos (key 0 0 hA (by omega))]
    simp only [if_pos hA, if_pos hB]
    exact congrArg A0 (funext fun d => match d with
      | 0 => Fin.ext (by show (y 0).val - 0 = 0; omega)
      | 1 => Fin.ext (by show (y 1).val - 0 = (y 1).val; omega)
      | 2 => Fin.ext (by show (y 2).val - 0 = (y 2).val % 128; omega))
  · rw [View.read_writes_cons_unit v f i11 B1 _ y rfl, dif_neg (keyn 1 128 (by omega)), View.read_writes_cons_unit v f i10 B0 _ y rfl, dif_neg (keyn 1 0 (by omega)),
      View.read_writes_cons_unit v f i01 A1 _ y rfl, dif_pos (key 0 128 hA (by omega))]
    simp only [if_pos hA, if_neg hB]
    exact congrArg A1 (funext fun d => match d with
      | 0 => Fin.ext (by show (y 0).val - 0 = 0; omega)
      | 1 => Fin.ext (by show (y 1).val - 0 = (y 1).val; omega)
      | 2 => Fin.ext (by show (y 2).val - 128 = (y 2).val % 128; omega))
  · rw [View.read_writes_cons_unit v f i11 B1 _ y rfl, dif_neg (keyn 1 128 (by omega)), View.read_writes_cons_unit v f i10 B0 _ y rfl, dif_pos (key 1 0 (by omega) (by omega))]
    simp only [if_neg hA, if_pos hB]
    exact congrArg B0 (funext fun d => match d with
      | 0 => Fin.ext (by show (y 0).val - 1 = 0; omega)
      | 1 => Fin.ext (by show (y 1).val - 0 = (y 1).val; omega)
      | 2 => Fin.ext (by show (y 2).val - 0 = (y 2).val % 128; omega))
  · rw [View.read_writes_cons_unit v f i11 B1 _ y rfl, dif_pos (key 1 128 (by omega) (by omega))]
    simp only [if_neg hA, if_neg hB]
    exact congrArg B1 (funext fun d => match d with
      | 0 => Fin.ext (by show (y 0).val - 1 = 0; omega)
      | 1 => Fin.ext (by show (y 1).val - 0 = (y 1).val; omega)
      | 2 => Fin.ext (by show (y 2).val - 128 = (y 2).val % 128; omega))
end

/-! ## The three stages -/

/-- The products of a weight tile with one row of `1 + mod_scale`, and each row's maxima over its 24 groups of lanes. -/
def aP (w : Vec F S256x3072 .fp8e4m3) (mr : Vec F S1x8x3072 .f32) : Vec F S1x256x3072 .f32 := k0_pay70 w mr
def aM (w : Vec F S256x3072 .fp8e4m3) (mr : Vec F S1x8x3072 .f32) : Vec F S1x256x128 .f32 :=
  k0_pay78 (k0_pay73 (k0_pay71 w mr) (k0_pay72 w mr))
/-- The additive term of a tile: shift product times the weight scale, plus the bias. -/
def aC (sh : Vec F S16x3072 .bf16) (w : Vec F S256x3072 .fp8e4m3) (ws b : Vec F S1x256 .f32) : Vec F S1x2x256 .f32 := k0_pay1 sh w ws b

/-- The exponent field of the scale, the scale, and the factor of the codes, from the weight scales and the row maxima. -/
def bE (ws : Vec F S1x1x256 .f32) (mx : Vec F S1x256x128 .f32) : IVec S1x256 32 := Scf.fold (fun k x => k0_pay47 ws mx k x) k0_pay46
def bS (ws : Vec F S1x1x256 .f32) (mx : Vec F S1x256x128 .f32) : Vec F S1x256 .f32 := k0_pay49 ws mx (bE ws mx)
def bR (ws : Vec F S1x1x256 .f32) (mx : Vec F S1x256x128 .f32) : Vec F S1x256x128 .f32 :=
  k0_pay52 (k0_pay44 ws) (k0_pay50 ws mx (bE ws mx))
/-- The codes of a tile for one batch element. -/
def bQ (ws : Vec F S1x1x256 .f32) (mx : Vec F S1x256x128 .f32) (p : Vec F S1x256x3072 .f32) : Vec F S1x256x3072 .fp8e4m3 :=
  k0_pay62 (bR ws mx) p
/-- A row of scales as it lies in the buffer of scales. -/
def up (s : Vec F S1x256 .f32) : Vec F S1x1x256 .f32 := k0_pay59 s

/-- The two halves of an output tile for one batch element. -/
def cY0 (h : Vec F S1x512x3072 .fp8e4m3) (q : Vec F S1x256x3072 .fp8e4m3) (sc cc : Vec F S1x1x256 .f32) (hr : Vec F S1x512x128 .f32) :
    Vec F S1x512x128 .bf16 := k0_pay86 h q sc cc hr
def cY1 (h : Vec F S1x512x3072 .fp8e4m3) (q : Vec F S1x256x3072 .fp8e4m3) (sc cc : Vec F S1x1x256 .f32) (hr : Vec F S1x512x128 .f32) :
    Vec F S1x512x128 .bf16 := k0_pay88 (k0_pay87 h q sc cc hr)

/-! ## The buffers carried from step to step -/

/-- The contents of the scratch buffers every step may read or write. -/
structure Bufs (F : FTy → Type) where
  p0 : Vec F S2x256x3072 .f32
  p1 : Vec F S2x256x3072 .f32
  q0 : Vec F S2x256x3072 .fp8e4m3
  q1 : Vec F S2x256x3072 .fp8e4m3
  m0 : Vec F S2x256x128 .f32
  m1 : Vec F S2x256x128 .f32
  r : Vec F S2x256x128 .f32
  hr : Vec F S2x512x128 .f32
  mr : Vec F S2x8x3072 .f32
  sh : Vec F S16x3072 .bf16
  cv : Vec F S37x2x256 .f32
  sc : Vec F S36x2x256 .f32

/-- Both planes of the stage-A products, of the maxima, and of the stage-B results. -/
def aP2 (w : Vec F S256x3072 .fp8e4m3) (mr : Vec F S2x8x3072 .f32) : Vec F S2x256x3072 .f32 := planes (aP w (plane 0 mr)) (aP w (plane 1 mr))
def aM2 (w : Vec F S256x3072 .fp8e4m3) (mr : Vec F S2x8x3072 .f32) : Vec F S2x256x128 .f32 := planes (aM w (plane 0 mr)) (aM w (plane 1 mr))
def bQ2 (ws : Vec F S1x1x256 .f32) (mx : Vec F S2x256x128 .f32) (p : Vec F S2x256x3072 .f32) : Vec F S2x256x3072 .fp8e4m3 :=
  planes (bQ ws (plane 0 mx) (plane 0 p)) (bQ ws (plane 1 mx) (plane 1 p))
def bS2 (ws : Vec F S1x1x256 .f32) (mx : Vec F S2x256x128 .f32) : Vec F S2x256 .f32 := rows2 (bS ws (plane 0 mx)) (bS ws (plane 1 mx))
def bR2 (ws : Vec F S1x1x256 .f32) (mx : Vec F S2x256x128 .f32) : Vec F S2x256x128 .f32 := planes (bR ws (plane 0 mx)) (bR ws (plane 1 mx))
/-- The buffer of scales with a tile's two rows stored. -/
def scPut (Sc : Vec F S36x2x256 .f32) (o0 o1 : Fin 3 → ℕ) (ws : Vec F S1x1x256 .f32) (mx : Vec F S2x256x128 .f32) : Vec F S36x2x256 .f32 :=
  put (put Sc o0 S1x1x256.size (up (bS ws (plane 0 mx)))) o1 S1x1x256.size (up (bS ws (plane 1 mx)))
/-- The buffer of additive terms with a tile's rows stored, and with the weight scales kept in its last plane. -/
def cvPut (C : Vec F S37x2x256 .f32) (o : Fin 3 → ℕ) (a : Vec F S1x2x256 .f32) : Vec F S37x2x256 .f32 := put C o S1x2x256.size a
def cvKeep (C : Vec F S37x2x256 .f32) (ws : Vec F S1x256 .f32) : Vec F S37x2x256 .f32 := put C ![36, 0, 0] S1x1x256.size (k0_pay7 ws)
/-- An output tile. -/
def cY (h : Vec F S2x512x3072 .fp8e4m3) (q : Vec F S2x256x3072 .fp8e4m3) (hr : Vec F S2x512x128 .f32) (s0 c0 s1 c1 : Vec F S1x1x256 .f32) :
    Vec F S2x512x256 .bf16 :=
  quads (cY0 (plane 0 h) (plane 0 q) s0 c0 (plane 0 hr)) (cY1 (plane 0 h) (plane 0 q) s0 c0 (plane 0 hr))
    (cY0 (plane 1 h) (plane 1 q) s1 c1 (plane 1 hr)) (cY1 (plane 1 h) (plane 1 q) s1 c1 (plane 1 hr))

/-- The buffers after each kind of step: step 1, the even and odd steps in between, step 36 and step 37. -/
def step2 (S : Bufs F) (w : Vec F S256x3072 .fp8e4m3) (ws b : Vec F S1x256 .f32) : Bufs F :=
  { S with p1 := aP2 w S.mr, m1 := aM2 w S.mr, q0 := bQ2 (win S.cv ![36, 0, 0]) S.m0 S.p0, r := bR2 (win S.cv ![36, 0, 0]) S.m0,
           sc := scPut S.sc ![0, 0, 0] ![0, 1, 0] (win S.cv ![36, 0, 0]) S.m0, cv := cvKeep (cvPut S.cv ![1, 0, 0] (aC S.sh w ws b)) ws }
def step3 (i : grid0.Coords) (S : Bufs F) (w : Vec F S256x3072 .fp8e4m3) (ws b : Vec F S1x256 .f32) : Bufs F :=
  { S with p0 := aP2 w S.mr, m0 := aM2 w S.mr, q1 := bQ2 (win S.cv ![36, 0, 0]) S.m1 S.p1, r := bR2 (win S.cv ![36, 0, 0]) S.m1,
           sc := scPut S.sc (k0_off4 i 1#32) (k0_off6 i 1#32) (win S.cv ![36, 0, 0]) S.m1, cv := cvKeep (cvPut S.cv (k0_off8 i) (aC S.sh w ws b)) ws }
def step4 (i : grid0.Coords) (S : Bufs F) (w : Vec F S256x3072 .fp8e4m3) (ws b : Vec F S1x256 .f32) : Bufs F :=
  { S with p1 := aP2 w S.mr, m1 := aM2 w S.mr, q0 := bQ2 (win S.cv ![36, 0, 0]) S.m0 S.p0, r := bR2 (win S.cv ![36, 0, 0]) S.m0,
           sc := scPut S.sc (k0_off9 i 1#32) (k0_off11 i 1#32) (win S.cv ![36, 0, 0]) S.m0, cv := cvKeep (cvPut S.cv (k0_off13 i) (aC S.sh w ws b)) ws }
def step5 (i : grid0.Coords) (S : Bufs F) (ws : Vec F S1x256 .f32) : Bufs F :=
  { S with q1 := bQ2 (win S.cv ![36, 0, 0]) S.m1 S.p1, r := bR2 (win S.cv ![36, 0, 0]) S.m1,
           sc := scPut S.sc (k0_off14 i 1#32) (k0_off16 i 1#32) (win S.cv ![36, 0, 0]) S.m1, cv := cvKeep S.cv ws }
def step6 (S : Bufs F) (ws : Vec F S1x256 .f32) : Bufs F := { S with cv := cvKeep S.cv ws }

end Cert.Kernel.Hand

end
-- ==== Proof.Kernel.Held.lean ====
/-
  The scratch buffers and the copy of the activation codes, as the steps hold them.
-/
module

public import proofs.«01_k».proof.Proof.Kernel.Stages

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

/-- The scratch buffers held whole at given contents. -/
def held (c : Dev nD) (S : Bufs F) : sProp 𝕄 :=
  iprop(owns (c : Thread nD τ) p0 fullShare S.p0 ∗ owns (c : Thread nD τ) p1 fullShare S.p1 ∗ owns (c : Thread nD τ) wq0 fullShare S.q0 ∗ owns (c : Thread nD τ) wq1 fullShare S.q1
    ∗ owns (c : Thread nD τ) m0 fullShare S.m0 ∗ owns (c : Thread nD τ) m1 fullShare S.m1 ∗ owns (c : Thread nD τ) rV fullShare S.r ∗ owns (c : Thread nD τ) hrep fullShare S.hr
    ∗ owns (c : Thread nD τ) mrep fullShare S.mr ∗ owns (c : Thread nD τ) shV fullShare S.sh ∗ owns (c : Thread nD τ) cV fullShare S.cv ∗ owns (c : Thread nD τ) scV fullShare S.sc)

/-- The activation codes on their way out: the copy delivers the array and gives back the half of the buffer it was lent. -/
abbrev hFlight (c : Dev nD) (fy : Buf (Elt F) (hH.view.loc (c : Thread nD τ))) (fk : Buf (Elt F) (hV.view.loc (c : Thread nD τ))) : sProp 𝕄 :=
  Transfers.Flight (countersEmb (U := Pipeline.UD sig nD τ)) (c : Thread nD τ) (.dma 16) () (hH.view.amount (SemLoc.dma (sig := sig) 16))
    iprop((hH.view.loc (c : Thread nD τ) ↦[hH.view.set]{fullShare} fy) ∗ (hV.view.loc (c : Thread nD τ) ↦[hV.view.set]{fullShare.right} fk))
/-- The half of the codes the steps go on reading. -/
abbrev hKept (c : Dev nD) (fk : Buf (Elt F) (hV.view.loc (c : Thread nD τ))) : sProp 𝕄 := (hV.view.loc (c : Thread nD τ) ↦[hV.view.set]{fullShare.left} fk)

end Cert.Kernel.Hand
end
-- ==== Proof.Kernel.Ln.lean ====
/-
  The normalisation of the activations: one block of 256 rows per trip of its loop.
-/
module

public import proofs.«01_k».proof.Proof.Kernel.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

set_option maxHeartbeats 400000

/-! ## One block of rows -/

def lnMu (xb : Vec F S256x3072 .bf16) : Vec F S1x256x128 .f32 := k0_pay11 (k0_pay8 xb) (k0_pay9 xb) (k0_pay10 xb)
def lnXc (xb : Vec F S256x3072 .bf16) : Vec F S1x256x3072 .f32 := k0_pay13 (lnMu xb) xb
def lnXX (xb : Vec F S256x3072 .bf16) : FVec F S256x3072 .f32 := k0_pay14 (lnMu xb) xb
def lnAX (xb : Vec F S256x3072 .bf16) : FVec F S256x3072 .f32 := k0_pay15 (lnMu xb) xb
def lnSq (xb : Vec F S256x3072 .bf16) : FVec F S256x128 .f32 := k0_pay18 (lnXX xb) (k0_pay16 (lnMu xb) xb)
def lnMx (xb : Vec F S256x3072 .bf16) : FVec F S256x128 .f32 := k0_pay19 (lnAX xb) (k0_pay17 (lnMu xb) xb)
def lnE (xb : Vec F S256x3072 .bf16) : IVec S256x1 32 :=
  Scf.fold (fun k x => k0_pay23 (lnXX xb) (lnAX xb) (lnSq xb) (lnMx xb) k x) k0_pay22
def lnScale (xb : Vec F S256x3072 .bf16) : Vec F S1x256x128 .f32 := k0_pay40 (k0_pay26 (lnXX xb) (lnAX xb) (lnSq xb) (lnMx xb) (lnE xb))
def lnRI (xb : Vec F S256x3072 .bf16) : Vec F S1x256x128 .f32 := k0_pay41 (k0_pay20 (lnXX xb) (lnSq xb)) (k0_pay25 (lnXX xb) (lnAX xb) (lnSq xb) (lnMx xb) (lnE xb))
def lnH (xb : Vec F S256x3072 .bf16) : Vec F S1x256x3072 .fp8e4m3 := k0_pay42 (lnRI xb) (lnXc xb)

theorem off1_eq : ∀ k : Fin k0_t1_loop.trips, k0_off1 k = ![256 * k.val, 0] := by decide
theorem off2_eq : ∀ k : Fin k0_t1_loop.trips, k0_off2 k = ![k.val / 2, 256 * (k.val % 2), 0] := by decide
theorem off3_eq : ∀ k : Fin k0_t1_loop.trips, k0_off3 k = ![k.val / 2, 256 * (k.val % 2), 0] := by decide
theorem trips1 : k0_t1_loop.trips = 4 := by decide

/-- The 256 rows from row `o` on. -/
def rowsAt (X : Vec F S1024x3072 .bf16) (o : ℕ) : Vec F S256x3072 .bf16 :=
  fun y => X (fun d => match d with
    | 0 => ⟨min (o + (y 0).val) 1023, by show min (o + (y 0).val) 1023 < 1024; omega⟩
    | 1 => y 1)

/-- The scales and the codes of all the rows. -/
def lnHR (X : Vec F S1024x3072 .bf16) : Vec F S2x512x128 .f32 :=
  fun y => lnScale (rowsAt X (256 * (2 * (y 0).val + (y 1).val / 256))) (fun d => match d with
    | 0 => ⟨0, Nat.one_pos⟩
    | 1 => ⟨(y 1).val % 256, Nat.mod_lt _ (by decide)⟩
    | 2 => y 2)
def lnHV (X : Vec F S1024x3072 .bf16) : Vec F S2x512x3072 .fp8e4m3 :=
  fun y => lnH (rowsAt X (256 * (2 * (y 0).val + (y 1).val / 256))) (fun d => match d with
    | 0 => ⟨0, Nat.one_pos⟩
    | 1 => ⟨(y 1).val % 256, Nat.mod_lt _ (by decide)⟩
    | 2 => y 2)

section
variable (c : Dev nD) (i : grid0.Coords) (arg1 : Memref sig .tc .hbm S1024x3072 .bf16) (harg1 : arg1.IsWhole) (arg2 : Memref sig .tc .vmem S2x3072 .f32) (harg2 : arg2.IsWhole) (arg3 : Memref sig .tc .vmem S2x3072 .f32) (harg3 : arg3.IsWhole) (arg4 : Memref sig .tc .vmem S256x3072 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x512x256 .bf16) (harg7 : arg7.IsWhole) (arg8 : Memref sig .tc .hbm S2x512x3072 .fp8e4m3) (harg8 : arg8.IsWhole) (arg9 : Memref sig .tc .vmem S2x512 .f32) (harg9 : arg9.IsWhole) (arg10 : Memref sig .tc .vmem S2x256x3072 .fp8e4m3) (harg10 : arg10.IsWhole) (arg11 : Memref sig .tc .vmem S2x256 .f32) (harg11 : arg11.IsWhole) (arg12 : Memref sig .tc .vmem S1024x3072 .bf16) (harg12 : arg12.IsWhole) (arg13 : Memref sig .tc .vmem S2x256x3072 .f32) (harg13 : arg13.IsWhole) (arg14 : Memref sig .tc .vmem S2x256x3072 .f32) (harg14 : arg14.IsWhole) (arg15 : Memref sig .tc .vmem S2x256x3072 .fp8e4m3) (harg15 : arg15.IsWhole) (arg16 : Memref sig .tc .vmem S2x256x3072 .fp8e4m3) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x128 .f32) (harg19 : arg19.IsWhole) (arg20 : Memref sig .tc .vmem S2x512x3072 .fp8e4m3) (harg20 : arg20.IsWhole) (arg21 : Memref sig .tc .vmem S2x512x128 .f32) (harg21 : arg21.IsWhole) (arg22 : Memref sig .tc .vmem S2x8x3072 .f32) (harg22 : arg22.IsWhole) (arg23 : Memref sig .tc .vmem S16x3072 .bf16) (harg23 : arg23.IsWhole) (arg24 : Memref sig .tc .vmem S37x2x256 .f32) (harg24 : arg24.IsWhole) (arg25 : Memref sig .tc .vmem S36x2x256 .f32) (harg25 : arg25.IsWhole) (arg26 : DmaSems sig S_) (arg27 : DmaSems sig S_) (k0_h1 : k0_cond1 i = 1#1) (v135 : FVec F S256x128 .f32) (v190 : FVec F S256x128 .f32)

/-- The rows a trip reads. -/
def xrows (X : arg12.view.ty.Contents (Elt F)) (k : Fin k0_t1_loop.trips) : Vec F S256x3072 .bf16 :=
  arg12.view.readAt (Elt F) (Rect.unit (s := S1024x3072) (k0_off1 k) S256x3072.size (k0_off1_inb i k k0_h1)).toLoadRect X

/-- What the trips before `k` stored into the scales and into the codes, newest first. -/
def hrP (X : arg12.view.ty.Contents (Elt F)) : ℕ → List (View.Piece (Elt F) S2x512x128 .f32)
  | 0 => []
  | k + 1 => if h : k < k0_t1_loop.trips then
      ⟨Rect.unit (s := S2x512x128) (k0_off2 ⟨k, h⟩) S1x256x128.size (k0_off2_inb i ⟨k, h⟩ k0_h1), lnScale (xrows i arg12 k0_h1 X ⟨k, h⟩)⟩
        :: ⟨Rect.unit (s := S2x512x128) (k0_off2 ⟨k, h⟩) S1x256x128.size (k0_off2_inb i ⟨k, h⟩ k0_h1), lnMu (xrows i arg12 k0_h1 X ⟨k, h⟩)⟩ :: hrP X k
    else hrP X k
def hvP (X : arg12.view.ty.Contents (Elt F)) : ℕ → List (View.Piece (Elt F) S2x512x3072 .fp8e4m3)
  | 0 => []
  | k + 1 => if h : k < k0_t1_loop.trips then
      ⟨Rect.unit (s := S2x512x3072) (k0_off3 ⟨k, h⟩) S1x256x3072.size (k0_off3_inb i ⟨k, h⟩ k0_h1), lnH (xrows i arg12 k0_h1 X ⟨k, h⟩)⟩ :: hvP X k
    else hvP X k

/-- Before trip `k`: the rows untouched, the scales and the codes of the blocks before `k` stored. -/
def lnInv (X : Buf (Elt F) (arg12.view.loc (c : Thread nD τ))) (R : Buf (Elt F) (arg21.view.loc (c : Thread nD τ))) (Hv : Buf (Elt F) (arg20.view.loc (c : Thread nD τ))) (k : ℕ) (acc : Unit) : sProp 𝕄 :=
  iprop((arg12.view.loc (c : Thread nD τ) ↦[arg12.view.set]{fullShare} X)
    ∗ (∃ fr, (arg21.view.loc (c : Thread nD τ) ↦[arg21.view.set]{fullShare} fr) ∗ ⌜fr = arg21.view.writes (Elt F) R (hrP i arg12 k0_h1 X k)⌝)
    ∗ (∃ fh, (arg20.view.loc (c : Thread nD τ) ↦[arg20.view.set]{fullShare} fh) ∗ ⌜fh = arg20.view.writes (Elt F) Hv (hvP i arg12 k0_h1 X k)⌝)
    ∗ (∃ f, arg14.view.loc (c : Thread nD τ) ↦[arg14.view.set]{fullShare} f)
    ∗ (∃ f, arg19.view.loc (c : Thread nD τ) ↦[arg19.view.set]{fullShare} f))

set_option warn.classDefReducibility false in
@[sl_loop] noncomputable def loopInv_k0_t1 (X : Buf (Elt F) (arg12.view.loc (c : Thread nD τ))) (R : Buf (Elt F) (arg21.view.loc (c : Thread nD τ))) (Hv : Buf (Elt F) (arg20.view.loc (c : Thread nD τ))) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 k0_h1 v135 v190 where
  inv := lnInv c i arg12 arg14 arg19 arg20 arg21 k0_h1 X R Hv
  step := fun k acc => by
    unfold lnInv k0_t1_body
    iintro ⟨H12, ⟨%fr, H21, %hr⟩, ⟨%fh, H20, %hh⟩, ⟨%f14, H14⟩, ⟨%f19, H19⟩⟩
    subst hr hh
    sl_exec
    sl_step
    isplitl [H12]; · iexact H12
    isplitl [H21]
    · iexists _; isplitl [H21]; · iexact H21
      ipureintro
      sl_unfold_run_names
      simp only [View.readCov_cons_toLoadRect]
      show _ = arg21.view.writes (Elt F) R (hrP i arg12 k0_h1 X (k.val + 1))
      rw [hrP, dif_pos k.isLt]; rfl
    isplitl [H20]
    · iexists _; isplitl [H20]; · iexact H20
      ipureintro
      sl_unfold_run_names
      simp only [View.readCov_cons_toLoadRect]
      show _ = arg20.view.writes (Elt F) Hv (hvP i arg12 k0_h1 X (k.val + 1))
      rw [hvP, dif_pos k.isLt]; rfl
    isplitl [H14]
    · iexists _; iexact H14
    iexists _; iexact H19

theorem xrows_eq (X : arg12.view.ty.Contents (Elt F)) (k : Fin k0_t1_loop.trips) :
    xrows i arg12 k0_h1 X k = rowsAt (arg12.view.read (Elt F) X) (256 * k.val) := by
  have e0 : k0_off1 k 0 = 256 * k.val := by rw [off1_eq]; rfl
  have e1 : k0_off1 k 1 = 0 := by rw [off1_eq]; rfl
  have hk : k.val < 4 := trips1 ▸ k.isLt
  funext y
  have h0 : (y 0).val < 256 := (y 0).isLt
  exact congrArg (arg12.view.read (Elt F) X) (funext fun d => match d with
    | 0 => Fin.ext (by show k0_off1 k 0 + 1 * (y 0).val = min (256 * k.val + (y 0).val) 1023; omega)
    | 1 => Fin.ext (by show k0_off1 k 1 + 1 * (y 1).val = (y 1).val; omega))

theorem hr_get (X : arg12.view.ty.Contents (Elt F)) (R : arg21.view.ty.Contents (Elt F)) : ∀ (k : ℕ) (_ : k ≤ k0_t1_loop.trips) (y : S2x512x128.Idx)
    (_ : 2 * (y 0).val + (y 1).val / 256 < k),
    arg21.view.read (Elt F) (arg21.view.writes (Elt F) R (hrP i arg12 k0_h1 X k)) y = lnHR (arg12.view.read (Elt F) X) y
  | 0, _, y, h => absurd h (Nat.not_lt_zero _)
  | k + 1, hk, y, h => by
    have h0 : (y 0).val < 2 := (y 0).isLt
    have h1 : (y 1).val < 512 := (y 1).isLt
    have hk4 : k < 4 := by have := trips1; omega
    rw [hrP, dif_pos (show k < k0_t1_loop.trips by omega)]
    by_cases e : 2 * (y 0).val + (y 1).val / 256 = k
    · have hit : ∀ (w : Vec F S1x256x128 .f32) (L : List (View.Piece (Elt F) S2x512x128 .f32)),
          arg21.view.read (Elt F) (arg21.view.writes (Elt F) R ((⟨Rect.unit (s := S2x512x128) (k0_off2 ⟨k, by omega⟩) S1x256x128.size (k0_off2_inb i ⟨k, by omega⟩ k0_h1), w⟩ : View.Piece (Elt F) S2x512x128 .f32) :: L)) y
            = w (fun d => match d with | 0 => ⟨0, Nat.one_pos⟩ | 1 => ⟨(y 1).val % 256, Nat.mod_lt _ (by decide)⟩ | 2 => y 2) := fun w L =>
        View.read_writes_cons_unit_of_mem arg21.view R _ w L y _ (off2_eq ⟨k, by omega⟩) (fun d => match d with
          | 0 => by show (y 0).val = k / 2 + 0; omega
          | 1 => by show (y 1).val = 256 * (k % 2) + (y 1).val % 256; omega
          | 2 => by show (y 2).val = 0 + (y 2).val; omega)
      refine (hit _ _).trans ?_
      rw [xrows_eq]; unfold lnHR; rw [e]
    · have hne : (k / 2 ≠ (y 0).val) ∨ k % 2 ≠ (y 1).val / 256 := by omega
      have step : ∀ (w : Vec F S1x256x128 .f32) (L : List (View.Piece (Elt F) S2x512x128 .f32)),
          arg21.view.read (Elt F) (arg21.view.writes (Elt F) R ((⟨Rect.unit (s := S2x512x128) (k0_off2 ⟨k, by omega⟩) S1x256x128.size (k0_off2_inb i ⟨k, by omega⟩ k0_h1), w⟩ : View.Piece (Elt F) S2x512x128 .f32) :: L)) y
            = arg21.view.read (Elt F) (arg21.view.writes (Elt F) R L) y := fun w L => by
        by_cases ha : k / 2 = (y 0).val
        · exact View.read_writes_cons_unit_of_not_mem arg21.view R _ w L y (off2_eq ⟨k, by omega⟩) 1
            (by show (y 1).val < 256 * (k % 2) ∨ 256 * (k % 2) + 256 ≤ (y 1).val; omega)
        · exact View.read_writes_cons_unit_of_not_mem arg21.view R _ w L y (off2_eq ⟨k, by omega⟩) 0
            (by show (y 0).val < k / 2 ∨ k / 2 + 1 ≤ (y 0).val; omega)
      exact (step _ _).trans ((step _ _).trans (hr_get X R k (by omega) y (by omega)))

theorem hv_get (X : arg12.view.ty.Contents (Elt F)) (R : arg20.view.ty.Contents (Elt F)) : ∀ (k : ℕ) (_ : k ≤ k0_t1_loop.trips) (y : S2x512x3072.Idx)
    (_ : 2 * (y 0).val + (y 1).val / 256 < k),
    arg20.view.read (Elt F) (arg20.view.writes (Elt F) R (hvP i arg12 k0_h1 X k)) y = lnHV (arg12.view.read (Elt F) X) y
  | 0, _, y, h => absurd h (Nat.not_lt_zero _)
  | k + 1, hk, y, h => by
    have h0 : (y 0).val < 2 := (y 0).isLt
    have h1 : (y 1).val < 512 := (y 1).isLt
    have hk4 : k < 4 := by have := trips1; omega
    rw [hvP, dif_pos (show k < k0_t1_loop.trips by omega)]
    by_cases e : 2 * (y 0).val + (y 1).val / 256 = k
    · have hit : ∀ (w : Vec F S1x256x3072 .fp8e4m3) (L : List (View.Piece (Elt F) S2x512x3072 .fp8e4m3)),
          arg20.view.read (Elt F) (arg20.view.writes (Elt F) R ((⟨Rect.unit (s := S2x512x3072) (k0_off3 ⟨k, by omega⟩) S1x256x3072.size (k0_off3_inb i ⟨k, by omega⟩ k0_h1), w⟩ : View.Piece (Elt F) S2x512x3072 .fp8e4m3) :: L)) y
            = w (fun d => match d with | 0 => ⟨0, Nat.one_pos⟩ | 1 => ⟨(y 1).val % 256, Nat.mod_lt _ (by decide)⟩ | 2 => y 2) := fun w L =>
        View.read_writes_cons_unit_of_mem arg20.view R _ w L y _ (off3_eq ⟨k, by omega⟩) (fun d => match d with
          | 0 => by show (y 0).val = k / 2 + 0; omega
          | 1 => by show (y 1).val = 256 * (k % 2) + (y 1).val % 256; omega
          | 2 => by show (y 2).val = 0 + (y 2).val; omega)
      refine (hit _ _).trans ?_
      rw [xrows_eq]; unfold lnHV; rw [e]
    · have hne : (k / 2 ≠ (y 0).val) ∨ k % 2 ≠ (y 1).val / 256 := by omega
      have step : ∀ (w : Vec F S1x256x3072 .fp8e4m3) (L : List (View.Piece (Elt F) S2x512x3072 .fp8e4m3)),
          arg20.view.read (Elt F) (arg20.view.writes (Elt F) R ((⟨Rect.unit (s := S2x512x3072) (k0_off3 ⟨k, by omega⟩) S1x256x3072.size (k0_off3_inb i ⟨k, by omega⟩ k0_h1), w⟩ : View.Piece (Elt F) S2x512x3072 .fp8e4m3) :: L)) y
            = arg20.view.read (Elt F) (arg20.view.writes (Elt F) R L) y := fun w L => by
        by_cases ha : k / 2 = (y 0).val
        · exact View.read_writes_cons_unit_of_not_mem arg20.view R _ w L y (off3_eq ⟨k, by omega⟩) 1
            (by show (y 1).val < 256 * (k % 2) ∨ 256 * (k % 2) + 256 ≤ (y 1).val; omega)
        · exact View.read_writes_cons_unit_of_not_mem arg20.view R _ w L y (off3_eq ⟨k, by omega⟩) 0
            (by show (y 0).val < k / 2 ∨ k / 2 + 1 ≤ (y 0).val; omega)
      exact (step _ _).trans (hv_get X R k (by omega) y (by omega))

theorem hr_all (X : arg12.view.ty.Contents (Elt F)) (R : arg21.view.ty.Contents (Elt F)) :
    arg21.view.read (Elt F) (arg21.view.writes (Elt F) R (hrP i arg12 k0_h1 X k0_t1_loop.trips)) = lnHR (arg12.view.read (Elt F) X) :=
  funext fun y => hr_get i arg12 arg21 k0_h1 X R _ le_rfl y (by
    have h0 : (y 0).val < 2 := (y 0).isLt
    have h1 : (y 1).val < 512 := (y 1).isLt
    have := trips1; omega)
theorem hv_all (X : arg12.view.ty.Contents (Elt F)) (R : arg20.view.ty.Contents (Elt F)) :
    arg20.view.read (Elt F) (arg20.view.writes (Elt F) R (hvP i arg12 k0_h1 X k0_t1_loop.trips)) = lnHV (arg12.view.read (Elt F) X) :=
  funext fun y => hv_get i arg12 arg20 k0_h1 X R _ le_rfl y (by
    have h0 : (y 0).val < 2 := (y 0).isLt
    have h1 : (y 1).val < 512 := (y 1).isLt
    have := trips1; omega)
end

end Cert.Kernel.Hand
end
-- ==== Proof.Kernel.Case1.lean ====
/-
  One grid step of each kind, run: what it leaves in the windows and in the scratch buffers, from what it found there.
-/
module

public import proofs.«01_k».proof.Proof.Kernel.Ln

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- A row of a two-row operand. -/
def mrow {α : Type} {b : ℕ} (p : Fin 2) (X : (⟨2, ![2, b]⟩ : Shape).Idx → α) : (⟨2, ![1, b]⟩ : Shape).Idx → α :=
  fun y => X (fun d => match d with | 0 => p | 1 => y 1)
theorem ld_row0 {Val : EltTy → Type} {sig : RefSig} {κ : Kind} {sp : Space} {e : EltTy} {b : ℕ} (v : View sig κ sp ⟨2, ![2, b]⟩ e) (f : v.ty.Contents Val)
    (inb : ∀ d, (![0, 0] : Fin 2 → ℕ) d + (![1, b] : Fin 2 → ℕ) d ≤ (⟨2, ![2, b]⟩ : Shape).size d) :
    v.readAt Val (Rect.unit (s := ⟨2, ![2, b]⟩) ![0, 0] ![1, b] inb).toLoadRect f = mrow (α := Val e) 0 (v.read Val f) := by
  funext y
  exact congrArg (v.read Val f) (funext fun d => match d with
    | 0 => Fin.ext (by have : (y 0).val < 1 := (y 0).isLt; show 0 + 1 * (y 0).val = 0; omega)
    | 1 => Fin.ext (by show 0 + 1 * (y 1).val = (y 1).val; omega))
theorem ld_row1 {Val : EltTy → Type} {sig : RefSig} {κ : Kind} {sp : Space} {e : EltTy} {b : ℕ} (v : View sig κ sp ⟨2, ![2, b]⟩ e) (f : v.ty.Contents Val)
    (inb : ∀ d, (![1, 0] : Fin 2 → ℕ) d + (![1, b] : Fin 2 → ℕ) d ≤ (⟨2, ![2, b]⟩ : Shape).size d) :
    v.readAt Val (Rect.unit (s := ⟨2, ![2, b]⟩) ![1, 0] ![1, b] inb).toLoadRect f = mrow (α := Val e) 1 (v.read Val f) := by
  funext y
  exact congrArg (v.read Val f) (funext fun d => match d with
    | 0 => Fin.ext (by have : (y 0).val < 1 := (y 0).isLt; show 1 + 1 * (y 0).val = 1; omega)
    | 1 => Fin.ext (by show 0 + 1 * (y 1).val = (y 1).val; omega))

/-- The replicated rows of `1 + mod_scale`, the row scales of the activations. -/
def mrOf (x2 : Vec F S2x3072 .f32) : Vec F S2x8x3072 .f32 := planes (k0_pay27 (mrow 0 x2)) (k0_pay28 (mrow 1 x2))
def hsOf (X : Vec F S1024x3072 .bf16) : Vec F S2x512 .f32 :=
  rows2 (k0_pay229 (k0_pay43 (plane 0 (lnHR X)))) (k0_pay230 (plane 1 (lnHR X)))
/-- The buffers after step 0. -/
def step1 (S : Bufs F) (X : Vec F S1024x3072 .bf16) (x2 x3 : Vec F S2x3072 .f32) (w : Vec F S256x3072 .fp8e4m3) (ws b : Vec F S1x256 .f32)
    (a : Vec F S2x256x3072 .f32) (r : Vec F S2x256x128 .f32) : Bufs F :=
  { S with p0 := aP2 w (mrOf x2), m0 := aM2 w (mrOf x2), p1 := a, r := r, hr := lnHR X, mr := mrOf x2, sh := k0_pay29 x3,
           cv := cvKeep (cvPut S.cv ![0, 0, 0] (aC (k0_pay29 x3) w ws b)) ws }

/-- The first tile's product and row maxima are the ones of the steady steps. -/
theorem first_p (w : Vec F S256x3072 .fp8e4m3) (x2 : Vec F S2x3072 .f32) :
    planes (k0_pay32 (k0_pay30 w) (k0_pay27 (mrow 0 x2))) (k0_pay35 (k0_pay30 w) (k0_pay28 (mrow 1 x2))) = aP2 w (mrOf x2) := by
  unfold aP2 mrOf; rw [plane_planes0, plane_planes1]; unfold aP k0_pay32 k0_pay35 k0_pay70; rfl
theorem first_m0 (w : Vec F S256x3072 .fp8e4m3) (m : Vec F S1x8x3072 .f32) : k0_pay37 (k0_pay33 (k0_pay30 w) m) = aM w m := by
  have e : k0_pay71 w m = absf (k0_pay31 (k0_pay30 w) m) := rfl
  unfold aM k0_pay78 k0_pay73 k0_pay72 k0_pay37 k0_pay33; rw [e]
theorem first_m1 (w : Vec F S256x3072 .fp8e4m3) (m : Vec F S1x8x3072 .f32) : k0_pay38 (k0_pay36 (k0_pay30 w) m) = aM w m := by
  have e : k0_pay71 w m = absf (k0_pay34 (k0_pay30 w) m) := rfl
  unfold aM k0_pay78 k0_pay73 k0_pay72 k0_pay38 k0_pay36; rw [e]
theorem first_m (w : Vec F S256x3072 .fp8e4m3) (x2 : Vec F S2x3072 .f32) :
    planes (k0_pay37 (k0_pay33 (k0_pay30 w) (k0_pay27 (mrow 0 x2)))) (k0_pay38 (k0_pay36 (k0_pay30 w) (k0_pay28 (mrow 1 x2)))) = aM2 w (mrOf x2) := by
  unfold aM2 mrOf; rw [plane_planes0, plane_planes1, first_m0, first_m1]

/-- Step 0: the activations normalised and turned into codes, their copy out begun, the first tile multiplied. -/
theorem run1 (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1)
    (x2 x3 : Vec F S2x3072 .f32) (x4 : Vec F S256x3072 .fp8e4m3) (x5 : Vec F S1x256 .f32) (x6 : Vec F S1x256 .f32) (S : Bufs F)
    (x1 : Vec F S1024x3072 .bf16) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
      ∗ owns (c : Thread nD τ) arg6 fullShare x6 ∗ (∃ d, owns (c : Thread nD τ) arg9 fullShare d)
      ∗ owns (c : Thread nD τ) xH fullShare x1 ∗ (∃ d, owns (c : Thread nD τ) xV fullShare d) ∗ (∃ d, owns (c : Thread nD τ) hV fullShare d)
      ∗ (∃ d, owns (c : Thread nD τ) hH fullShare d)
      ∗ semVal ((c : Thread nD τ), SemLoc.dma 15) 0 ∗ semVal ((c : Thread nD τ), SemLoc.dma 16) 0 ∗ owes (c : Thread nD τ) 0 W ∗ held c S
      ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg9 fullShare (hsOf x1)
        ∗ owns (c : Thread nD τ) xH fullShare x1 ∗ (∃ d, owns (c : Thread nD τ) xV fullShare d)
        ∗ semVal ((c : Thread nD τ), SemLoc.dma 15) 0 ∗ (∃ W', owes (c : Thread nD τ) 0 W')
        ∗ (∃ fy fk, ⌜hH.view.read (Elt F) fy = lnHV x1⌝ ∗ ⌜hV.view.read (Elt F) fk = lnHV x1⌝ ∗ hFlight c fy fk ∗ hKept c fk)
        ∗ (∃ a r, held c (step1 S x1 x2 x3 x4 x5 x6 a r))) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns
  obtain ⟨Xp0, Xp1, Xq0, Xq1, Xm0, Xm1, Xr, Xhr, Xmr, Xsh, Xcv, Xsc⟩ := S
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%f1, %hf1, HX⟩, ⟨%d12, %f12, -, H12⟩, ⟨%d20, %f20, -, HK⟩, ⟨%d8, %f8, -, HY⟩, HS15, HS16, HO, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf1 hf2 hf3 hf4 hf5 hf6 hp0 hp1 hq0 hq1 hm0 hm1 hr hhr hmr hsh hcv hsc

  set_option sl_exec.lendShare "HK" in sl_exec
  sl_step
  iapply Hk

  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H9]
  · iexists _; isplitr; swap; · iexact H9
    ipureintro
    refine (st_rows _ _ _ _ _ _).trans ?_
    sl_unfold_run_names
    have e0 : ∀ (R : hrep.view.ty.Contents (Elt F)), View.readAt (Elt F) hrep.view (Rect.unit (s := S2x512x128) ![0, 0, 0] ![1, 512, 128] (by decide)).toLoadRect
        (hrep.view.writes (Elt F) R (hrP i xV h1 (xV.view.writes (Elt F) xV.view.junk [⟨Rect.whole S1024x3072, ReadAs.same.apply (View.read (Elt F) xH.view f1)⟩]) k0_t1_loop.trips))
          = plane 0 (lnHR (xH.view.read (Elt F) f1)) := fun R =>
      (ld_plane0 _ _ _).trans (congrArg (plane 0) ((hr_all i xV hrep h1 _ _).trans (congrArg lnHR (View.read_writes_whole _ _ _))))
    have e1 : ∀ (R : hrep.view.ty.Contents (Elt F)), View.readAt (Elt F) hrep.view (Rect.unit (s := S2x512x128) ![1, 0, 0] ![1, 512, 128] (by decide)).toLoadRect
        (hrep.view.writes (Elt F) R (hrP i xV h1 (xV.view.writes (Elt F) xV.view.junk [⟨Rect.whole S1024x3072, ReadAs.same.apply (View.read (Elt F) xH.view f1)⟩]) k0_t1_loop.trips))
          = plane 1 (lnHR (xH.view.read (Elt F) f1)) := fun R =>
      (ld_plane1 _ _ _).trans (congrArg (plane 1) ((hr_all i xV hrep h1 _ _).trans (congrArg lnHR (View.read_writes_whole _ _ _))))
    exact congrArg₂ (fun u v => rows2 (k0_pay229 (k0_pay43 u)) (k0_pay230 v)) (e0 _) (e1 _)
  isplitl [HX]
  · iexists _; isplitr; swap; · iexact HX
    ipureintro; rfl
  isplitl [H12]
  · iexists _, _; isplitr; swap; · iexact H12
    ipureintro; rfl
  isplitl [HS15]; · iexact HS15
  isplitl [HO]; · iexists _; iexact HO
  isplitl [HS16 HK]
  · iexists _, _
    isplitr; swap
    · isplitr; swap
      · isplitl [HS16]; · iexact HS16
        iexact HK
      ipureintro
      exact (hv_all i xV hV h1 _ _).trans (congrArg lnHV (View.read_writes_whole _ _ _))
    ipureintro
    refine (View.read_writes_whole _ _ _).trans ?_
    exact (hv_all i xV hV h1 _ _).trans (congrArg lnHV (View.read_writes_whole _ _ _))
  iexists (p1.view.read (Elt F) fL2), (rV.view.read (Elt F) fL3)
  unfold step1
  isplitl [Hp0]
  · iexists _; isplitr; swap; · iexact Hp0
    ipureintro
    refine (st_planes _ _ _ _ _ _).trans ?_
    sl_unfold_run_names
    simp only [ld_plane0, ld_plane1, cov_plane0, cov_plane1, ld_win, ld_all, ld_row0, ld_row1]
    exact first_p _ _
  isplitl [Hp1]
  · iexists _; isplitr; swap; · iexact Hp1
    ipureintro
    rfl
  isplitl [Hq0]
  · iexists _; isplitr; swap; · iexact Hq0
    ipureintro
    rfl
  isplitl [Hq1]
  · iexists _; isplitr; swap; · iexact Hq1
    ipureintro
    rfl
  isplitl [Hm0]
  · iexists _; isplitr; swap; · iexact Hm0
    ipureintro
    refine (st_planes _ _ _ _ _ _).trans ?_
    sl_unfold_run_names
    simp only [ld_plane0, ld_plane1, cov_plane0, cov_plane1, ld_win, ld_all, ld_row0, ld_row1]
    exact first_m _ _
  isplitl [Hm1]
  · iexists _; isplitr; swap; · iexact Hm1
    ipureintro
    rfl
  isplitl [Hr]
  · iexists _; isplitr; swap; · iexact Hr
    ipureintro
    rfl
  isplitl [Hhr]
  · iexists _; isplitr; swap; · iexact Hhr
    ipureintro
    exact (hr_all i xV hrep h1 _ _).trans (congrArg lnHR (View.read_writes_whole _ _ _))
  isplitl [Hmr]
  · iexists _; isplitr; swap; · iexact Hmr
    ipureintro
    refine (st_planes _ _ _ _ _ _).trans ?_
    sl_unfold_run_names
    simp only [ld_row0, ld_row1]
    rfl
  isplitl [Hsh]
  · iexists _; isplitr; swap; · iexact Hsh
    ipureintro
    refine (View.read_writes_full _ _ _ _ _).trans ?_
    exact congrArg k0_pay29 (ld_all _ _ _)
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    exact congrArg (fun z => cvKeep (cvPut _ ![0, 0, 0] (k0_pay39 z _ _ _)) _) (View.readCov_full _ _ _ _ _)
  · iexists _; isplitr; swap; · iexact Hsc
    ipureintro
    rfl

end
end Cert.Kernel.Hand
end
-- ==== Proof.Kernel.State.lean ====
/-
  What the scratch buffers hold before each grid point, as functions of the operands alone, and that every kind of step
  carries one such state into the next.
-/
module

public import proofs.«01_k».proof.Proof.Kernel.Case1

@[expose] public section

set_option maxRecDepth 16384

noncomputable section

namespace Cert.Kernel.Hand

open Cert.Kernel Cert.Kernel.Gen
open Idealize.ShloMosaic Idealize.ShloMosaic.TcCoe
open Idealize.ShloMosaic.VecWindow

variable {F : FTy → Type} [FloatOps F]

/-! ## Rows of the carried buffers after a store -/

/-- A row of a `1 × 2 × 256` value. -/
def crow {α : Type} (b : Fin 2) (a : (⟨3, ![1, 2, 256]⟩ : Shape).Idx → α) : (⟨3, ![1, 1, 256]⟩ : Shape).Idx → α :=
  fun y => a (fun d => match d with | 0 => ⟨0, Nat.one_pos⟩ | 1 => b | 2 => y 2)

section
variable {α : Type} {K : ℕ} (X : (⟨3, ![K + 1, 2, 256]⟩ : Shape).Idx → α) (τ σ b b' : ℕ)
theorem win_put_same (v : (⟨3, ![1, 1, 256]⟩ : Shape).Idx → α) (hτ : τ ≤ K) (hb : b ≤ 1) :
    win (put X ![τ, b, 0] (⟨3, ![1, 1, 256]⟩ : Shape).size v) ![τ, b, 0] = v := by
  funext y
  have y0 : (y 0).val < 1 := (y 0).isLt
  have y1 : (y 1).val < 1 := (y 1).isLt
  have y2 : (y 2).val < 256 := (y 2).isLt
  unfold win put
  rw [dif_pos (fun d => match d with
    | 0 => ⟨by show τ ≤ min τ K; omega, by show min τ K < τ + 1; omega⟩
    | 1 => ⟨by show b ≤ min b 1; omega, by show min b 1 < b + 1; omega⟩
    | 2 => ⟨Nat.zero_le _, by show (y 2).val < 0 + 256; omega⟩)]
  exact congrArg v (funext fun d => match d with
    | 0 => Fin.ext (by show min τ K - τ = (y 0).val; omega)
    | 1 => Fin.ext (by show min b 1 - b = (y 1).val; omega)
    | 2 => Fin.ext (by show (y 2).val - 0 = (y 2).val; omega))
theorem win_put_ne (v : (⟨3, ![1, 1, 256]⟩ : Shape).Idx → α) (hτ : τ ≤ K) (hσ : σ ≤ K) (hb : b ≤ 1) (hb' : b' ≤ 1) (h : τ ≠ σ ∨ b ≠ b') :
    win (put X ![τ, b, 0] (⟨3, ![1, 1, 256]⟩ : Shape).size v) ![σ, b', 0] = win X ![σ, b', 0] := by
  funext y
  unfold win put
  rw [dif_neg]
  intro hh
  have h0 : τ ≤ min σ K ∧ min σ K < τ + 1 := hh 0
  have h1 : b ≤ min b' 1 ∧ min b' 1 < b + 1 := hh 1
  omega
theorem win_put2_same (v : (⟨3, ![1, 2, 256]⟩ : Shape).Idx → α) (β : Fin 2) (hτ : τ ≤ K) :
    win (put X ![τ, 0, 0] (⟨3, ![1, 2, 256]⟩ : Shape).size v) ![τ, β.val, 0] = crow β v := by
  funext y
  have y2 : (y 2).val < 256 := (y 2).isLt
  have hβ : β.val < 2 := β.isLt
  unfold win put crow
  rw [dif_pos (fun d => match d with
    | 0 => ⟨by show τ ≤ min τ K; omega, by show min τ K < τ + 1; omega⟩
    | 1 => ⟨Nat.zero_le _, by show min β.val 1 < 0 + 2; omega⟩
    | 2 => ⟨Nat.zero_le _, by show (y 2).val < 0 + 256; omega⟩)]
  exact congrArg v (funext fun d => match d with
    | 0 => Fin.ext (by show min τ K - τ = 0; omega)
    | 1 => Fin.ext (by show min β.val 1 - 0 = β.val; omega)
    | 2 => Fin.ext (by show (y 2).val - 0 = (y 2).val; omega))
theorem win_put2_ne (v : (⟨3, ![1, 2, 256]⟩ : Shape).Idx → α) (hτ : τ ≤ K) (hσ : σ ≤ K) (h : τ ≠ σ) :
    win (put X ![τ, 0, 0] (⟨3, ![1, 2, 256]⟩ : Shape).size v) ![σ, b, 0] = win X ![σ, b, 0] := by
  funext y
  unfold win put
  rw [dif_neg]
  intro hh
  have h0 : τ ≤ min σ K ∧ min σ K < τ + 1 := hh 0
  omega
end

/-! ## The state before a point -/

/-- The operands as the steps see them: the whole activations and modulation rows, and a weight tile with its scales and bias
    at each point. -/
structure Ops (F : FTy → Type) where
  X : Vec F S1024x3072 .bf16
  ms : Vec F S2x3072 .f32
  mh : Vec F S2x3072 .f32
  w : ℕ → Vec F S256x3072 .fp8e4m3
  ws : ℕ → Vec F S1x256 .f32
  b : ℕ → Vec F S1x256 .f32

variable (O : Ops F)
def tP (τ : ℕ) : Vec F S2x256x3072 .f32 := aP2 (O.w τ) (mrOf O.ms)
def tM (τ : ℕ) : Vec F S2x256x128 .f32 := aM2 (O.w τ) (mrOf O.ms)
def tK (τ : ℕ) : Vec F S1x1x256 .f32 := k0_pay7 (O.ws τ)
def tC (τ : ℕ) : Vec F S1x2x256 .f32 := aC (k0_pay29 O.mh) (O.w τ) (O.ws τ) (O.b τ)
def tQ (τ : ℕ) : Vec F S2x256x3072 .fp8e4m3 := bQ2 (tK O τ) (tM O τ) (tP O τ)
def tS (τ : ℕ) : Vec F S2x256 .f32 := bS2 (tK O τ) (tM O τ)
def tU (τ : ℕ) (p : Fin 2) : Vec F S1x1x256 .f32 := up (bS (tK O τ) (plane p (tM O τ)))
def tY (τ : ℕ) : Vec F S2x512x256 .bf16 :=
  cY (lnHV O.X) (tQ O τ) (lnHR O.X) (tU O τ 0) (crow 0 (tC O τ)) (tU O τ 1) (crow 1 (tC O τ))

/-- The state after `t` points, `1 ≤ t`. -/
structure Inv (t : ℕ) (S : Bufs F) : Prop where
  mr : S.mr = mrOf O.ms
  sh : S.sh = k0_pay29 O.mh
  hr : S.hr = lnHR O.X
  pe : ∀ τ, τ + 1 = t → τ < 36 → τ % 2 = 0 → S.p0 = tP O τ ∧ S.m0 = tM O τ
  po : ∀ τ, τ + 1 = t → τ < 36 → τ % 2 = 1 → S.p1 = tP O τ ∧ S.m1 = tM O τ
  qe : ∀ τ, τ + 2 = t → τ % 2 = 0 → S.q0 = tQ O τ
  qo : ∀ τ, τ + 2 = t → τ % 2 = 1 → S.q1 = tQ O τ
  k : ∀ τ, τ + 1 = t → win S.cv ![36, 0, 0] = tK O τ
  c : ∀ τ, τ < t → τ < 36 → win S.cv ![τ, 0, 0] = crow 0 (tC O τ) ∧ win S.cv ![τ, 1, 0] = crow 1 (tC O τ)
  s : ∀ τ, τ + 1 < t → win S.sc ![τ, 0, 0] = tU O τ 0 ∧ win S.sc ![τ, 1, 0] = tU O τ 1

section
variable {O}
variable {S : Bufs F} {t : ℕ}

theorem keep_k (C : Vec F S37x2x256 .f32) (ws : Vec F S1x256 .f32) : win (cvKeep C ws) ![36, 0, 0] = k0_pay7 ws :=
  win_put_same (K := 36) C 36 0 _ le_rfl (by omega)
theorem keep_ne (C : Vec F S37x2x256 .f32) (ws : Vec F S1x256 .f32) (τ b : ℕ) (h : τ < 36) (hb : b ≤ 1) :
    win (cvKeep C ws) ![τ, b, 0] = win C ![τ, b, 0] :=
  win_put_ne (K := 36) C 36 τ 0 b _ le_rfl (by omega) (by omega) hb (by omega)
/-- The rows of the additive terms after a tile's rows are stored and the weight scales kept. -/
theorem put_c (C : Vec F S37x2x256 .f32) (n : ℕ) (hn : n < 36)
    (h : ∀ τ, τ < n → win C ![τ, 0, 0] = crow 0 (tC O τ) ∧ win C ![τ, 1, 0] = crow 1 (tC O τ)) (ws : Vec F S1x256 .f32) (τ : ℕ) (hτ : τ < n + 1) :
    win (cvKeep (cvPut C ![n, 0, 0] (tC O n)) ws) ![τ, 0, 0] = crow 0 (tC O τ)
      ∧ win (cvKeep (cvPut C ![n, 0, 0] (tC O n)) ws) ![τ, 1, 0] = crow 1 (tC O τ) := by
  rw [keep_ne _ _ _ _ (by omega) (by omega), keep_ne _ _ _ _ (by omega) (by omega)]
  by_cases e : τ = n
  · subst e
    exact ⟨win_put2_same (K := 36) C τ _ 0 (by omega), win_put2_same (K := 36) C τ _ 1 (by omega)⟩
  · have h' := h τ (by omega)
    exact ⟨(win_put2_ne (K := 36) C n τ 0 _ (by omega) (by omega) (by omega)).trans h'.1, (win_put2_ne (K := 36) C n τ 1 _ (by omega) (by omega) (by omega)).trans h'.2⟩
/-- The rows of scales after a tile's two rows are stored. -/
theorem put_s (C : Vec F S36x2x256 .f32) (n : ℕ) (hn : n < 36)
    (h : ∀ τ, τ < n → win C ![τ, 0, 0] = tU O τ 0 ∧ win C ![τ, 1, 0] = tU O τ 1) (τ : ℕ) (hτ : τ < n + 1) :
    win (scPut C ![n, 0, 0] ![n, 1, 0] (tK O n) (tM O n)) ![τ, 0, 0] = tU O τ 0
      ∧ win (scPut C ![n, 0, 0] ![n, 1, 0] (tK O n) (tM O n)) ![τ, 1, 0] = tU O τ 1 := by
  unfold scPut
  by_cases e : τ = n
  · subst e
    exact ⟨(win_put_ne (K := 35) _ τ τ 1 0 _ (by omega) (by omega) (by omega) (by omega) (by omega)).trans (win_put_same (K := 35) C τ 0 _ (by omega) (by omega)),
      win_put_same (K := 35) _ τ 1 _ (by omega) (by omega)⟩
  · have h' := h τ (by omega)
    exact ⟨((win_put_ne (K := 35) _ n τ 1 0 _ (by omega) (by omega) (by omega) (by omega) (by omega)).trans
        (win_put_ne (K := 35) C n τ 0 0 _ (by omega) (by omega) (by omega) (by omega) (by omega))).trans h'.1,
      ((win_put_ne (K := 35) _ n τ 1 1 _ (by omega) (by omega) (by omega) (by omega) (by omega)).trans
        (win_put_ne (K := 35) C n τ 0 1 _ (by omega) (by omega) (by omega) (by omega) (by omega))).trans h'.2⟩

theorem inv1 (S : Bufs F) (a : Vec F S2x256x3072 .f32) (r : Vec F S2x256x128 .f32) : Inv O 1 (step1 S O.X O.ms O.mh (O.w 0) (O.ws 0) (O.b 0) a r) where
  mr := rfl
  sh := rfl
  hr := rfl
  pe τ h _ _ := by obtain rfl : τ = 0 := by omega
                   exact ⟨rfl, rfl⟩
  po τ h _ e := by omega
  qe τ h _ := by omega
  qo τ h _ := by omega
  k τ h := by obtain rfl : τ = 0 := by omega
              exact keep_k _ _
  c τ h _ := put_c S.cv 0 (by omega) (fun τ h => by omega) _ τ h
  s τ h := by omega

theorem inv2 (h : Inv O 1 S) : Inv O 2 (step2 S (O.w 1) (O.ws 1) (O.b 1)) where
  mr := h.mr
  sh := h.sh
  hr := h.hr
  pe τ e _ _ := by omega
  po τ e _ _ := by
    obtain rfl : τ = 1 := by omega
    exact ⟨by show aP2 _ S.mr = _; rw [h.mr]; rfl, by show aM2 _ S.mr = _; rw [h.mr]; rfl⟩
  qe τ e _ := by
    obtain rfl : τ = 0 := by omega
    show bQ2 (win S.cv ![36, 0, 0]) S.m0 S.p0 = _
    obtain ⟨e1, e2⟩ := h.pe 0 rfl (by omega) rfl
    rw [h.k 0 rfl, e1, e2]; rfl
  qo τ e _ := by omega
  k τ e := by obtain rfl : τ = 1 := by omega
              exact keep_k _ _
  c τ e e' := by
    show win (cvKeep (cvPut S.cv ![1, 0, 0] (aC S.sh (O.w 1) (O.ws 1) (O.b 1))) (O.ws 1)) _ = _ ∧ win (cvKeep (cvPut S.cv ![1, 0, 0] (aC S.sh (O.w 1) (O.ws 1) (O.b 1))) (O.ws 1)) _ = _
    rw [h.sh]
    exact put_c S.cv 1 (by omega) (fun τ hτ => h.c τ hτ (by omega)) _ τ e
  s τ e := by
    show win (scPut S.sc ![0, 0, 0] ![0, 1, 0] (win S.cv ![36, 0, 0]) S.m0) _ = _ ∧ win (scPut S.sc ![0, 0, 0] ![0, 1, 0] (win S.cv ![36, 0, 0]) S.m0) _ = _
    rw [h.k 0 rfl, (h.pe 0 rfl (by omega) rfl).2]
    exact put_s S.sc 0 (by omega) (fun τ hτ => h.s τ (by omega)) τ (by omega)

/-- An even step in between. -/
theorem inv3 (i : grid0.Coords) (ht : 2 ≤ t) (ht' : t < 36) (he : t % 2 = 0) (o4 : k0_off4 i 1#32 = ![t - 1, 0, 0]) (o6 : k0_off6 i 1#32 = ![t - 1, 1, 0])
    (o8 : k0_off8 i = ![t, 0, 0]) (h : Inv O t S) : Inv O (t + 1) (step3 i S (O.w t) (O.ws t) (O.b t)) where
  mr := h.mr
  sh := h.sh
  hr := h.hr
  pe τ e _ _ := by
    obtain rfl : τ = t := by omega
    exact ⟨by show aP2 _ S.mr = _; rw [h.mr]; rfl, by show aM2 _ S.mr = _; rw [h.mr]; rfl⟩
  po τ e _ _ := by omega
  qe τ e _ := by omega
  qo τ e _ := by
    show bQ2 (win S.cv ![36, 0, 0]) S.m1 S.p1 = _
    obtain ⟨e1, e2⟩ := h.po τ (by omega) (by omega) (by omega)
    rw [h.k τ (by omega), e1, e2]; rfl
  k τ e := by obtain rfl : τ = t := by omega
              exact keep_k _ _
  c τ e e' := by
    show win (cvKeep (cvPut S.cv (k0_off8 i) (aC S.sh (O.w t) (O.ws t) (O.b t))) (O.ws t)) _ = _ ∧ win (cvKeep (cvPut S.cv (k0_off8 i) (aC S.sh (O.w t) (O.ws t) (O.b t))) (O.ws t)) _ = _
    rw [h.sh, o8]
    exact put_c S.cv t (by omega) (fun τ hτ => h.c τ hτ (by omega)) _ τ e
  s τ e := by
    show win (scPut S.sc (k0_off4 i 1#32) (k0_off6 i 1#32) (win S.cv ![36, 0, 0]) S.m1) _ = _ ∧ win (scPut S.sc (k0_off4 i 1#32) (k0_off6 i 1#32) (win S.cv ![36, 0, 0]) S.m1) _ = _
    rw [h.k (t - 1) (by omega), (h.po (t - 1) (by omega) (by omega) (by omega)).2, o4, o6]
    exact put_s S.sc (t - 1) (by omega) (fun τ hτ => h.s τ (by omega)) τ (by omega)

/-- An odd step in between. -/
theorem inv4 (i : grid0.Coords) (ht : 2 ≤ t) (ht' : t < 36) (he : t % 2 = 1) (o4 : k0_off9 i 1#32 = ![t - 1, 0, 0]) (o6 : k0_off11 i 1#32 = ![t - 1, 1, 0])
    (o8 : k0_off13 i = ![t, 0, 0]) (h : Inv O t S) : Inv O (t + 1) (step4 i S (O.w t) (O.ws t) (O.b t)) where
  mr := h.mr
  sh := h.sh
  hr := h.hr
  pe τ e _ _ := by omega
  po τ e _ _ := by
    obtain rfl : τ = t := by omega
    exact ⟨by show aP2 _ S.mr = _; rw [h.mr]; rfl, by show aM2 _ S.mr = _; rw [h.mr]; rfl⟩
  qe τ e _ := by
    show bQ2 (win S.cv ![36, 0, 0]) S.m0 S.p0 = _
    obtain ⟨e1, e2⟩ := h.pe τ (by omega) (by omega) (by omega)
    rw [h.k τ (by omega), e1, e2]; rfl
  qo τ e _ := by omega
  k τ e := by obtain rfl : τ = t := by omega
              exact keep_k _ _
  c τ e e' := by
    show win (cvKeep (cvPut S.cv (k0_off13 i) (aC S.sh (O.w t) (O.ws t) (O.b t))) (O.ws t)) _ = _ ∧ win (cvKeep (cvPut S.cv (k0_off13 i) (aC S.sh (O.w t) (O.ws t) (O.b t))) (O.ws t)) _ = _
    rw [h.sh, o8]
    exact put_c S.cv t (by omega) (fun τ hτ => h.c τ hτ (by omega)) _ τ e
  s τ e := by
    show win (scPut S.sc (k0_off9 i 1#32) (k0_off11 i 1#32) (win S.cv ![36, 0, 0]) S.m0) _ = _ ∧ win (scPut S.sc (k0_off9 i 1#32) (k0_off11 i 1#32) (win S.cv ![36, 0, 0]) S.m0) _ = _
    rw [h.k (t - 1) (by omega), (h.pe (t - 1) (by omega) (by omega) (by omega)).2, o4, o6]
    exact put_s S.sc (t - 1) (by omega) (fun τ hτ => h.s τ (by omega)) τ (by omega)

/-- The step that quantises the last tile. -/
theorem inv5 (i : grid0.Coords) (o4 : k0_off14 i 1#32 = ![35, 0, 0]) (o6 : k0_off16 i 1#32 = ![35, 1, 0])
    (h : Inv O 36 S) : Inv O 37 (step5 i S (O.ws 36)) where
  mr := h.mr
  sh := h.sh
  hr := h.hr
  pe τ e _ _ := by omega
  po τ e _ _ := by omega
  qe τ e _ := by omega
  qo τ e _ := by
    show bQ2 (win S.cv ![36, 0, 0]) S.m1 S.p1 = _
    obtain ⟨e1, e2⟩ := h.po τ (by omega) (by omega) (by omega)
    rw [h.k τ (by omega), e1, e2]; rfl
  k τ e := by obtain rfl : τ = 36 := by omega
              exact keep_k _ _
  c τ e e' := by
    show win (cvKeep S.cv (O.ws 36)) _ = _ ∧ win (cvKeep S.cv (O.ws 36)) _ = _
    rw [keep_ne _ _ _ _ e' (by omega), keep_ne _ _ _ _ e' (by omega)]
    exact h.c τ (by omega) e'
  s τ e := by
    show win (scPut S.sc (k0_off14 i 1#32) (k0_off16 i 1#32) (win S.cv ![36, 0, 0]) S.m1) _ = _ ∧ win (scPut S.sc (k0_off14 i 1#32) (k0_off16 i 1#32) (win S.cv ![36, 0, 0]) S.m1) _ = _
    rw [h.k 35 (by omega), (h.po 35 (by omega) (by omega) (by omega)).2, o4, o6]
    exact put_s S.sc 35 (by omega) (fun τ hτ => h.s τ (by omega)) τ (by omega)

/-- What the quantising stage stores at point `t`: the codes and scales of tile `t - 1`. -/
theorem outQe (h : Inv O t S) (h1 : 1 ≤ t) (h2 : t ≤ 36) (he : (t - 1) % 2 = 0) : bQ2 (win S.cv ![36, 0, 0]) S.m0 S.p0 = tQ O (t - 1) ∧ bS2 (win S.cv ![36, 0, 0]) S.m0 = tS O (t - 1) := by
  obtain ⟨e1, e2⟩ := h.pe (t - 1) (by omega) (by omega) he
  rw [h.k (t - 1) (by omega), e1, e2]; exact ⟨rfl, rfl⟩
theorem outQo (h : Inv O t S) (h1 : 1 ≤ t) (h2 : t ≤ 36) (he : (t - 1) % 2 = 1) : bQ2 (win S.cv ![36, 0, 0]) S.m1 S.p1 = tQ O (t - 1) ∧ bS2 (win S.cv ![36, 0, 0]) S.m1 = tS O (t - 1) := by
  obtain ⟨e1, e2⟩ := h.po (t - 1) (by omega) (by omega) he
  rw [h.k (t - 1) (by omega), e1, e2]; exact ⟨rfl, rfl⟩
/-- What the multiplying stage stores at point `t`: output tile `t - 2`. -/
theorem outYe (h : Inv O t S) (h1 : 2 ≤ t) (h2 : t ≤ 37) (he : t % 2 = 0) :
    cY (lnHV O.X) S.q0 S.hr (win S.sc ![t - 2, 0, 0]) (win S.cv ![t - 2, 0, 0]) (win S.sc ![t - 2, 1, 0]) (win S.cv ![t - 2, 1, 0]) = tY O (t - 2) := by
  obtain ⟨s0, s1⟩ := h.s (t - 2) (by omega)
  obtain ⟨c0, c1⟩ := h.c (t - 2) (by omega) (by omega)
  rw [h.qe (t - 2) (by omega) (by omega), h.hr, s0, s1, c0, c1]; rfl
theorem outYo (h : Inv O t S) (h1 : 2 ≤ t) (h2 : t ≤ 37) (he : t % 2 = 1) :
    cY (lnHV O.X) S.q1 S.hr (win S.sc ![t - 2, 0, 0]) (win S.cv ![t - 2, 0, 0]) (win S.sc ![t - 2, 1, 0]) (win S.cv ![t - 2, 1, 0]) = tY O (t - 2) := by
  obtain ⟨s0, s1⟩ := h.s (t - 2) (by omega)
  obtain ⟨c0, c1⟩ := h.c (t - 2) (by omega) (by omega)
  rw [h.qo (t - 2) (by omega) (by omega), h.hr, s0, s1, c0, c1]; rfl
end

end Cert.Kernel.Hand

end
-- ==== Proof.Kernel.Sched.lean ====
/-
  The grid's schedule in closed form: which kind of step each grid point is, the rows of the carried buffers it reads and
  writes, and where each output window is stored and written back.
-/
module

public import proofs.«01_k».proof.Proof.Kernel.Base

@[expose] public section

set_option maxRecDepth 16384

noncomputable section

namespace Cert.Kernel.Hand

open Cert.Kernel Cert.Kernel.Gen
open Idealize.ShloMosaic Idealize.ShloMosaic.TcCoe

theorem cond1_iff : ∀ t : Fin grid0.N, k0_cond1 (grid0.coords t) = 1#1 ↔ t.val = 0 := by decide +kernel
theorem cond2_iff : ∀ t : Fin grid0.N, k0_cond2 (grid0.coords t) = 1#1 ↔ t.val = 1 := by decide +kernel
theorem cond3_iff : ∀ t : Fin grid0.N, k0_cond3 (grid0.coords t) = 1#1 ↔ (2 ≤ t.val ∧ t.val < 36 ∧ t.val % 2 = 0) := by decide +kernel
theorem cond4_iff : ∀ t : Fin grid0.N, k0_cond4 (grid0.coords t) = 1#1 ↔ (2 ≤ t.val ∧ t.val < 36 ∧ t.val % 2 = 1) := by decide +kernel
theorem cond5_iff : ∀ t : Fin grid0.N, k0_cond5 (grid0.coords t) = 1#1 ↔ t.val = 36 := by decide +kernel
theorem cond6_iff : ∀ t : Fin grid0.N, k0_cond6 (grid0.coords t) = 1#1 ↔ t.val = 37 := by decide +kernel

theorem off4_1 : ∀ t : Fin grid0.N, 2 ≤ t.val → k0_off4 (grid0.coords t) 1#32 = ![t.val - 1, 0, 0] := by decide +kernel
theorem off6_1 : ∀ t : Fin grid0.N, 2 ≤ t.val → k0_off6 (grid0.coords t) 1#32 = ![t.val - 1, 1, 0] := by decide +kernel
theorem off4_2 : ∀ t : Fin grid0.N, 2 ≤ t.val → k0_off4 (grid0.coords t) 2#32 = ![t.val - 2, 0, 0] := by decide +kernel
theorem off6_2 : ∀ t : Fin grid0.N, 2 ≤ t.val → k0_off6 (grid0.coords t) 2#32 = ![t.val - 2, 1, 0] := by decide +kernel
theorem off5_2 : ∀ t : Fin grid0.N, 2 ≤ t.val → k0_off5 (grid0.coords t) = ![t.val - 2, 0, 0] := by decide +kernel
theorem off7_2 : ∀ t : Fin grid0.N, 2 ≤ t.val → k0_off7 (grid0.coords t) = ![t.val - 2, 1, 0] := by decide +kernel
theorem off8_0 : ∀ t : Fin grid0.N, 2 ≤ t.val → k0_off8 (grid0.coords t) = ![t.val, 0, 0] := by decide +kernel
theorem off9_1 : ∀ t : Fin grid0.N, 2 ≤ t.val → k0_off9 (grid0.coords t) 1#32 = ![t.val - 1, 0, 0] := by decide +kernel
theorem off11_1 : ∀ t : Fin grid0.N, 2 ≤ t.val → k0_off11 (grid0.coords t) 1#32 = ![t.val - 1, 1, 0] := by decide +kernel
theorem off9_2 : ∀ t : Fin grid0.N, 2 ≤ t.val → k0_off9 (grid0.coords t) 2#32 = ![t.val - 2, 0, 0] := by decide +kernel
theorem off11_2 : ∀ t : Fin grid0.N, 2 ≤ t.val → k0_off11 (grid0.coords t) 2#32 = ![t.val - 2, 1, 0] := by decide +kernel
theorem off10_2 : ∀ t : Fin grid0.N, 2 ≤ t.val → k0_off10 (grid0.coords t) = ![t.val - 2, 0, 0] := by decide +kernel
theorem off12_2 : ∀ t : Fin grid0.N, 2 ≤ t.val → k0_off12 (grid0.coords t) = ![t.val - 2, 1, 0] := by decide +kernel
theorem off13_0 : ∀ t : Fin grid0.N, 2 ≤ t.val → k0_off13 (grid0.coords t) = ![t.val, 0, 0] := by decide +kernel
theorem off14_1 : ∀ t : Fin grid0.N, 2 ≤ t.val → k0_off14 (grid0.coords t) 1#32 = ![t.val - 1, 0, 0] := by decide +kernel
theorem off16_1 : ∀ t : Fin grid0.N, 2 ≤ t.val → k0_off16 (grid0.coords t) 1#32 = ![t.val - 1, 1, 0] := by decide +kernel
theorem off14_2 : ∀ t : Fin grid0.N, 2 ≤ t.val → k0_off14 (grid0.coords t) 2#32 = ![t.val - 2, 0, 0] := by decide +kernel
theorem off16_2 : ∀ t : Fin grid0.N, 2 ≤ t.val → k0_off16 (grid0.coords t) 2#32 = ![t.val - 2, 1, 0] := by decide +kernel
theorem off15_2 : ∀ t : Fin grid0.N, 2 ≤ t.val → k0_off15 (grid0.coords t) = ![t.val - 2, 0, 0] := by decide +kernel
theorem off17_2 : ∀ t : Fin grid0.N, 2 ≤ t.val → k0_off17 (grid0.coords t) = ![t.val - 2, 1, 0] := by decide +kernel
theorem off18_2 : ∀ t : Fin grid0.N, 2 ≤ t.val → k0_off18 (grid0.coords t) = ![t.val - 2, 0, 0] := by decide +kernel
theorem off19_2 : ∀ t : Fin grid0.N, 2 ≤ t.val → k0_off19 (grid0.coords t) = ![t.val - 2, 0, 0] := by decide +kernel
theorem off20_2 : ∀ t : Fin grid0.N, 2 ≤ t.val → k0_off20 (grid0.coords t) = ![t.val - 2, 1, 0] := by decide +kernel
theorem off21_2 : ∀ t : Fin grid0.N, 2 ≤ t.val → k0_off21 (grid0.coords t) = ![t.val - 2, 1, 0] := by decide +kernel

theorem idle5 : ∀ t : Fin grid0.N, idle0 5 (grid0.coords t) = decide (t.val < 2) := by decide +kernel
theorem idle6 : ∀ t : Fin grid0.N, idle0 6 (grid0.coords t) = decide (t.val ≠ 0) := by decide +kernel
theorem idle7 : ∀ t : Fin grid0.N, idle0 7 (grid0.coords t) = decide (t.val = 0 ∨ t.val = 37) := by decide +kernel
theorem idle8 : ∀ t : Fin grid0.N, idle0 8 (grid0.coords t) = decide (t.val = 0 ∨ t.val = 37) := by decide +kernel
theorem flush5 : ∀ t : Fin grid0.N, win0_5.flush t = decide (2 ≤ t.val) := by decide +kernel
theorem flush6 : ∀ t : Fin grid0.N, win0_6.flush t = decide (t.val = 37) := by decide +kernel
theorem flush7 : ∀ t : Fin grid0.N, win0_7.flush t = decide (1 ≤ t.val ∧ t.val ≠ 36) := by decide +kernel
theorem flush8 : ∀ t : Fin grid0.N, win0_8.flush t = decide (1 ≤ t.val ∧ t.val ≠ 36) := by decide +kernel

end Cert.Kernel.Hand

end
-- ==== Proof.Kernel.Dats.lean ====
/-
  The data of the launch: what the body holds before each grid point, what it leaves in each window, and how that is read
  off the arrays the launch finds.
-/
module

public import proofs.«01_k».proof.Proof.Kernel.State
public import proofs.«01_k».proof.Proof.Kernel.Sched
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ)

/-- A point of the grid by its number. -/
abbrev pt (n : ℕ) : Fin cfg0.N := ⟨min n 37, by show min n 37 < grid0.N; rw [N_0]; omega⟩
theorem pt_val (t : Fin cfg0.N) : pt t.val = t :=
  Fin.ext (by have h : t.val < 38 := N_0 ▸ t.isLt
              show min t.val 37 = t.val; omega)

/-- The operands on a core. -/
def ops (c : Dev nD) : Ops F where
  X := V m c main_v0
  ms := iblk m c 0 (pt 0)
  mh := iblk m c 1 (pt 0)
  w n := iblk m c 2 (pt n)
  ws n := iblk m c 3 (pt n)
  b n := iblk m c 4 (pt n)

/-- What the written arrays hold at the end. -/
def Gout (c : Dev nD) : (b : Ref sig .tc) → Buf (Elt F) ((c.tc : Thread nD τ).loc b) :=
  Function.update (β := fun b => Buf (Elt F) ((c.tc : Thread nD τ).loc b)) (V m c) main_v3_1 (lnHV (ops m c).X)
theorem Gout_h (c : Dev nD) : Gout m c main_v3_1 = lnHV (ops m c).X := Function.update_self ..

/-- What the body holds between two points. -/
def mid (c : Dev nD) (n : ℕ) : sProp 𝕄 :=
  iprop((∃ S, ⌜Inv (ops m c) n S⌝ ∗ held c S) ∗ owns (c : Thread nD τ) xH fullShare (ops m c).X ∗ (∃ d, owns (c : Thread nD τ) xV fullShare d)
    ∗ semVal ((c : Thread nD τ), SemLoc.dma 15) 0
    ∗ (∃ fy fk, ⌜hH.view.read (Elt F) fy = lnHV (ops m c).X⌝ ∗ ⌜hV.view.read (Elt F) fk = lnHV (ops m c).X⌝ ∗ hFlight c fy fk ∗ hKept c fk)
    ∗ (∃ r, prngReg c r))

def PhiAt (c : Dev nD) (n : ℕ) : sProp 𝕄 :=
  if n = 0 then Pipeline.ΦDRG osem0 spec0 H0 R0 (V m) (V m) c
  else if n ≤ 37 then mid m c n
  else Pipeline.ΦDRG osem0 spec0 H0 R0 (V m) (Gout m) c

theorem PhiDRG_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ d, owns (c : Thread nD τ) xV fullShare d) ∗ (∃ d, owns (c : Thread nD τ) p0 fullShare d) ∗ (∃ d, owns (c : Thread nD τ) p1 fullShare d)
          ∗ (∃ d, owns (c : Thread nD τ) wq0 fullShare d) ∗ (∃ d, owns (c : Thread nD τ) wq1 fullShare d) ∗ (∃ d, owns (c : Thread nD τ) m0 fullShare d)
          ∗ (∃ d, owns (c : Thread nD τ) m1 fullShare d) ∗ (∃ d, owns (c : Thread nD τ) rV fullShare d) ∗ (∃ d, owns (c : Thread nD τ) hV fullShare d)
          ∗ (∃ d, owns (c : Thread nD τ) hrep fullShare d) ∗ (∃ d, owns (c : Thread nD τ) mrep fullShare d) ∗ (∃ d, owns (c : Thread nD τ) shV fullShare d)
          ∗ (∃ d, owns (c : Thread nD τ) cV fullShare d) ∗ (∃ d, owns (c : Thread nD τ) scV fullShare d))
        ∗ (∃ r, prngReg c r)
        ∗ iprop(semVal ((c : Thread nD τ), SemLoc.dma 15) 0 ∗ semVal ((c : Thread nD τ), SemLoc.dma 16) 0)
        ∗ owns (c : Thread nD τ) xH fullShare (V m c main_v0) ∗ owns (c : Thread nD τ) hH fullShare (G c main_v3_1)) := by
  rw [Pipeline.ΦDRG_eq, scopedRest0_eq, ownSems00_eq]
  unfold Pipeline.routed
  rw [BI.bigSep_eq_bigSepL_of_eq (S := H0) [main_v0] (by decide) (by decide), BI.bigSep_eq_bigSepL_of_eq (S := R0) [main_v3_1] (by decide) (by decide)]
  simp only [xV, p0, p1, wq0, wq1, m0, m1, rV, hV, hrep, mrep, shV, cV, scV, xH, hH, owns_whole]; try rfl

theorem held_of (c : Dev nD) :
    iprop((∃ d, owns (c : Thread nD τ) p0 fullShare d) ∗ (∃ d, owns (c : Thread nD τ) p1 fullShare d)
      ∗ (∃ d, owns (c : Thread nD τ) wq0 fullShare d) ∗ (∃ d, owns (c : Thread nD τ) wq1 fullShare d) ∗ (∃ d, owns (c : Thread nD τ) m0 fullShare d)
      ∗ (∃ d, owns (c : Thread nD τ) m1 fullShare d) ∗ (∃ d, owns (c : Thread nD τ) rV fullShare d)
      ∗ (∃ d, owns (c : Thread nD τ) hrep fullShare d) ∗ (∃ d, owns (c : Thread nD τ) mrep fullShare d) ∗ (∃ d, owns (c : Thread nD τ) shV fullShare d)
      ∗ (∃ d, owns (c : Thread nD τ) cV fullShare d) ∗ (∃ d, owns (c : Thread nD τ) scV fullShare d)) ⊢ (iprop(∃ S, held c S) : sProp 𝕄) := by
  unfold held
  iintro ⟨⟨%a1, H1⟩, ⟨%a2, H2⟩, ⟨%a3, H3⟩, ⟨%a4, H4⟩, ⟨%a5, H5⟩, ⟨%a6, H6⟩, ⟨%a7, H7⟩, ⟨%a8, H8⟩, ⟨%a9, H9⟩, ⟨%a10, H10⟩, ⟨%a11, H11⟩, ⟨%a12, H12⟩⟩
  iexists (⟨a1, a2, a3, a4, a5, a6, a7, a8, a9, a10, a11, a12⟩ : Bufs F)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What the body leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tY (ops m c) (t.val - 2)
    | ⟨6, _⟩ => hsOf (ops m c).X
    | ⟨7, _⟩ => tQ (ops m c) (min (t.val - 1) 35)
    | ⟨8, _⟩ => tS (ops m c) (min (t.val - 1) 35)
  Φ t := PhiAt m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tY (ops m c) (t.val - 2) := by dsimp only [dats]
theorem after6 (c : Dev nD) (t : Fin cfg0.N) : (dats m 0 c).after 6 t = hsOf (ops m c).X := by dsimp only [dats]
theorem after7 (c : Dev nD) (t : Fin cfg0.N) : (dats m 0 c).after 7 t = tQ (ops m c) (min (t.val - 1) 35) := by dsimp only [dats]
theorem after8 (c : Dev nD) (t : Fin cfg0.N) : (dats m 0 c).after 8 t = tS (ops m c) (min (t.val - 1) 35) := by dsimp only [dats]
theorem Phi_eq (c : Dev nD) (t : Fin (cfg0.N + 1)) : (dats m 0 c).Φ t = PhiAt m c t.val := by dsimp only [dats]

/-! ## What the body finds in the input windows -/

section
variable (c : Dev nD) (t : Fin cfg0.N)
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
end

/-! ## What the body hands back of a window -/

/-- What the body leaves of window `w` at point `t`: the window as found where it stores nothing and nothing is written back,
    else the window at its new contents. -/
def Leave (c : Dev nD) (t : Fin cfg0.N) (w : Fin cfg0.W) : sProp 𝕄 :=
  match cfg0.idle w (cfg0.grid.coords t) with
  | true => match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

section
variable (c : Dev nD) (t : Fin cfg0.N) (w : Fin cfg0.W)
theorem leave_live (h : cfg0.idle w (cfg0.grid.coords t) = false) :
    Leave m c t w = owns (c : Thread nD τ) ((cfg0.win w).stage (cfg0.slots t w)) fullShare ((dats m 0 c).after w t) := by
  unfold Leave; rw [h]
theorem leave_idle (h : cfg0.idle w (cfg0.grid.coords t) = true) (hf : (cfg0.win w).flush t = false) :
    Leave m c t w = iprop(∃ d, owns (c : Thread nD τ) ((cfg0.win w).stage (cfg0.slots t w)) fullShare ((dats m 0 c).before w t d)) := by
  unfold Leave; rw [h, hf]
theorem leave_out (hf : (cfg0.win w).flush t = true) :
    Leave m c t w = owns (c : Thread nD τ) ((cfg0.win w).stage (cfg0.slots t w)) fullShare ((dats m 0 c).after w t) := by
  unfold Leave; rw [hf]; cases cfg0.idle w (cfg0.grid.coords t) <;> rfl
end

/-! ## The windows written back at the last point without being stored there -/

theorem kept_after (c : Dev nD) (w : Fin cfg0.W) (hclip : ∀ i a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

theorem left_live (c : Dev nD) (w : Fin cfg0.W) (hclip : ∀ i a, (cfg0.win w).clip i a = none) (t : Fin cfg0.N)
    (h : cfg0.idle w (cfg0.grid.coords t) = false) (d) : (dats m 0 c).left w t d = (dats m 0 c).after w t := by
  unfold Dat.left; rw [h]; exact kept_after m c w hclip t d

theorem before_last (c : Dev nD) (w : Fin cfg0.W) (hfetch : ∀ t, (cfg0.win w).fetch t = false) (hclip : ∀ i a, (cfg0.win w).clip i a = none)
    (t : Fin cfg0.N) (ht : t.val = 37) (hi : cfg0.idle w (cfg0.grid.coords (pt 36)) = false) (hf : (cfg0.win w).flush (pt 36) = false) (d) :
    (dats m 0 c).before w t d = (dats m 0 c).after w (pt 36) := by
  have e : (⟨t.val - 1, Nat.lt_of_le_of_lt (Nat.sub_le _ _) t.isLt⟩ : Fin cfg0.N) = pt 36 := Fin.ext (by show t.val - 1 = 36; omega)
  rw [(dats m 0 c).before_of_pos w t (by omega) (hfetch t) d, e, hf, if_neg Bool.false_ne_true]
  exact left_live m c w hclip _ hi d

theorem before7_last (c : Dev nD) (t : Fin cfg0.N) (ht : t.val = 37) (d) : (dats m 0 c).before 7 t d = (dats m 0 c).after 7 t := by
  refine (before_last m c 7 (fun _ => rfl) (fun _ _ => rfl) t ht ((idle7 (pt 36)).trans rfl) ((flush7 (pt 36)).trans rfl) d).trans ?_
  rw [after7, after7, ht]; rfl
theorem before8_last (c : Dev nD) (t : Fin cfg0.N) (ht : t.val = 37) (d) : (dats m 0 c).before 8 t d = (dats m 0 c).after 8 t := by
  refine (before_last m c 8 (fun _ => rfl) (fun _ _ => rfl) t ht ((idle8 (pt 36)).trans rfl) ((flush8 (pt 36)).trans rfl) d).trans ?_
  rw [after8, after8, ht]; rfl
theorem before6_last (c : Dev nD) (t : Fin cfg0.N) (ht : t.val = 37) (d) : (dats m 0 c).before 6 t d = (dats m 0 c).after 6 t := by
  rw [(dats m 0 c).before_idle_run 6 (fun _ => rfl) d 36 t (by omega) (fun j h1 h2 =>
    ⟨(idle6 j).trans (decide_eq_true (by omega)), (flush6 j).trans (decide_eq_false (by omega))⟩)]
  have e : (⟨t.val - 36, by omega⟩ : Fin cfg0.N) = pt 1 := Fin.ext (by show t.val - 36 = 1; omega)
  rw [e, (dats m 0 c).before_of_pos 6 (pt 1) (by decide) rfl d]
  have e0 : (⟨(pt 1).val - 1, Nat.lt_of_le_of_lt (Nat.sub_le _ _) (pt 1).isLt⟩ : Fin cfg0.N) = pt 0 := Fin.ext (by decide)
  rw [e0, show (cfg0.win 6).flush (pt 0) = false from (flush6 (pt 0)).trans rfl, if_neg Bool.false_ne_true,
    left_live m c 6 (fun _ _ => rfl) _ ((idle6 (pt 0)).trans rfl), after6, after6]

end Cert.Kernel.Hand

end
-- ==== Proof.Kernel.Case2.lean ====
/-
  One grid step of each kind, run: what it leaves in the windows and in the scratch buffers, from what it found there.
-/
module

public import proofs.«01_k».proof.Proof.Kernel.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- Step 1: the first tile turned into codes, the second multiplied. -/
theorem run2 (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x4 : Vec F S256x3072 .fp8e4m3) (x5 : Vec F S1x256 .f32) (x6 : Vec F S1x256 .f32) (S : Bufs F) (K : PUnit → sProp 𝕄) :
    iprop(owns (c : Thread nD τ) arg4 fullShare x4 ∗ owns (c : Thread nD τ) arg5 fullShare x5 ∗ owns (c : Thread nD τ) arg6 fullShare x6 ∗ (∃ d, owns (c : Thread nD τ) arg10 fullShare d) ∗ (∃ d, owns (c : Thread nD τ) arg11 fullShare d) ∗ held c S
      ∗ (iprop(owns (c : Thread nD τ) arg4 fullShare x4 ∗ owns (c : Thread nD τ) arg5 fullShare x5 ∗ owns (c : Thread nD τ) arg6 fullShare x6 ∗ owns (c : Thread nD τ) arg10 fullShare (bQ2 (win S.cv ![36, 0, 0]) S.m0 S.p0) ∗ owns (c : Thread nD τ) arg11 fullShare (bS2 (win S.cv ![36, 0, 0]) S.m0) ∗ held c (step2 S x4 x5 x6)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns
  obtain ⟨Xp0, Xp1, Xq0, Xq1, Xm0, Xm1, Xr, Xhr, Xmr, Xsh, Xcv, Xsc⟩ := S
  iintro ⟨⟨%f4, %hf4, H4⟩, ⟨%f5, %hf5, H5⟩, ⟨%f6, %hf6, H6⟩, ⟨%d10, %f10, -, H10⟩, ⟨%d11, %f11, -, H11⟩, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf4 hf5 hf6 hp0 hp1 hq0 hq1 hm0 hm1 hr hhr hmr hsh hcv hsc
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  unfold step2
  isplitl [Hp0]
  · iexists _; isplitr; swap; · iexact Hp0
    ipureintro; rfl
  isplitl [Hp1]
  · iexists _; isplitr; swap; · iexact Hp1
    ipureintro
    refine (st_planes _ _ _ _ _ _).trans ?_
    sl_unfold_run_names
    simp only [ld_plane0, ld_plane1, cov_plane0, cov_plane1, ld_win, ld_all]
    rfl
  isplitl [Hq0]
  · iexists _; isplitr; swap; · iexact Hq0
    ipureintro
    refine (st_planes _ _ _ _ _ _).trans ?_
    sl_unfold_run_names
    simp only [ld_plane0, ld_plane1, cov_plane0, cov_plane1, ld_win, ld_all]
    rfl
  isplitl [Hq1]
  · iexists _; isplitr; swap; · iexact Hq1
    ipureintro; rfl
  isplitl [Hm0]
  · iexists _; isplitr; swap; · iexact Hm0
    ipureintro; rfl
  isplitl [Hm1]
  · iexists _; isplitr; swap; · iexact Hm1
    ipureintro
    refine (st_planes _ _ _ _ _ _).trans ?_
    sl_unfold_run_names
    simp only [ld_plane0, ld_plane1, cov_plane0, cov_plane1, ld_win, ld_all]
    rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.Kernel.Hand
end
-- ==== Proof.Kernel.Case3.lean ====
/-
  One grid step of each kind, run: what it leaves in the windows and in the scratch buffers, from what it found there.
-/
module

public import proofs.«01_k».proof.Proof.Kernel.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- An even step in between. -/
theorem run3 (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1)
    (x4 : Vec F S256x3072 .fp8e4m3) (x5 : Vec F S1x256 .f32) (x6 : Vec F S1x256 .f32) (S : Bufs F) (fk : Buf (Elt F) (hV.view.loc (c : Thread nD τ))) (K : PUnit → sProp 𝕄) :
    iprop(owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg10 fullShare d) ∗ (∃ d, owns (c : Thread nD τ) arg11 fullShare d) ∗ hKept c fk ∗ held c S
      ∗ (iprop(owns (c : Thread nD τ) arg4 fullShare x4 ∗ owns (c : Thread nD τ) arg5 fullShare x5 ∗ owns (c : Thread nD τ) arg6 fullShare x6 ∗ owns (c : Thread nD τ) arg7 fullShare (cY (hV.view.read (Elt F) fk) S.q0 S.hr (win S.sc (k0_off4 i 2#32)) (win S.cv (k0_off5 i)) (win S.sc (k0_off6 i 2#32)) (win S.cv (k0_off7 i))) ∗ owns (c : Thread nD τ) arg10 fullShare (bQ2 (win S.cv ![36, 0, 0]) S.m1 S.p1) ∗ owns (c : Thread nD τ) arg11 fullShare (bS2 (win S.cv ![36, 0, 0]) S.m1) ∗ hKept c fk ∗ held c (step3 i S x4 x5 x6)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f4, %hf4, H4⟩, ⟨%f5, %hf5, H5⟩, ⟨%f6, %hf6, H6⟩, ⟨%d7, %f7, -, H7⟩, ⟨%d10, %f10, -, H10⟩, ⟨%d11, %f11, -, H11⟩, HK, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf4 hf5 hf6 hp0 hp1 hq0 hq1 hm0 hm1 hr hhr hmr hsh hcv hsc
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  isplitl [HK]; · iexact HK
  unfold step3
  isplitl [Hp0]
  · iexists _; isplitr; swap; · iexact Hp0
    ipureintro
    refine (st_planes _ _ _ _ _ _).trans ?_
    sl_unfold_run_names
    simp only [ld_plane0, ld_plane1, cov_plane0, cov_plane1, ld_win, ld_all]
    rfl
  isplitl [Hp1]
  · iexists _; isplitr; swap; · iexact Hp1
    ipureintro; rfl
  isplitl [Hq0]
  · iexists _; isplitr; swap; · iexact Hq0
    ipureintro; rfl
  isplitl [Hq1]
  · iexists _; isplitr; swap; · iexact Hq1
    ipureintro
    refine (st_planes _ _ _ _ _ _).trans ?_
    sl_unfold_run_names
    simp only [ld_plane0, ld_plane1, cov_plane0, cov_plane1, ld_win, ld_all]
    rfl
  isplitl [Hm0]
  · iexists _; isplitr; swap; · iexact Hm0
    ipureintro
    refine (st_planes _ _ _ _ _ _).trans ?_
    sl_unfold_run_names
    simp only [ld_plane0, ld_plane1, cov_plane0, cov_plane1, ld_win, ld_all]
    rfl
  isplitl [Hm1]
  · iexists _; isplitr; swap; · iexact Hm1
    ipureintro; rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.Kernel.Hand
end
-- ==== Proof.Kernel.Case4.lean ====
/-
  One grid step of each kind, run: what it leaves in the windows and in the scratch buffers, from what it found there.
-/
module

public import proofs.«01_k».proof.Proof.Kernel.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- An odd step in between. -/
theorem run4 (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (x4 : Vec F S256x3072 .fp8e4m3) (x5 : Vec F S1x256 .f32) (x6 : Vec F S1x256 .f32) (S : Bufs F) (fk : Buf (Elt F) (hV.view.loc (c : Thread nD τ))) (K : PUnit → sProp 𝕄) :
    iprop(owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg10 fullShare d) ∗ (∃ d, owns (c : Thread nD τ) arg11 fullShare d) ∗ hKept c fk ∗ held c S
      ∗ (iprop(owns (c : Thread nD τ) arg4 fullShare x4 ∗ owns (c : Thread nD τ) arg5 fullShare x5 ∗ owns (c : Thread nD τ) arg6 fullShare x6 ∗ owns (c : Thread nD τ) arg7 fullShare (cY (hV.view.read (Elt F) fk) S.q1 S.hr (win S.sc (k0_off9 i 2#32)) (win S.cv (k0_off10 i)) (win S.sc (k0_off11 i 2#32)) (win S.cv (k0_off12 i))) ∗ owns (c : Thread nD τ) arg10 fullShare (bQ2 (win S.cv ![36, 0, 0]) S.m0 S.p0) ∗ owns (c : Thread nD τ) arg11 fullShare (bS2 (win S.cv ![36, 0, 0]) S.m0) ∗ hKept c fk ∗ held c (step4 i S x4 x5 x6)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f4, %hf4, H4⟩, ⟨%f5, %hf5, H5⟩, ⟨%f6, %hf6, H6⟩, ⟨%d7, %f7, -, H7⟩, ⟨%d10, %f10, -, H10⟩, ⟨%d11, %f11, -, H11⟩, HK, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf4 hf5 hf6 hp0 hp1 hq0 hq1 hm0 hm1 hr hhr hmr hsh hcv hsc
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  isplitl [HK]; · iexact HK
  unfold step4
  isplitl [Hp0]
  · iexists _; isplitr; swap; · iexact Hp0
    ipureintro; rfl
  isplitl [Hp1]
  · iexists _; isplitr; swap; · iexact Hp1
    ipureintro
    refine (st_planes _ _ _ _ _ _).trans ?_
    sl_unfold_run_names
    simp only [ld_plane0, ld_plane1, cov_plane0, cov_plane1, ld_win, ld_all]
    rfl
  isplitl [Hq0]
  · iexists _; isplitr; swap; · iexact Hq0
    ipureintro
    refine (st_planes _ _ _ _ _ _).trans ?_
    sl_unfold_run_names
    simp only [ld_plane0, ld_plane1, cov_plane0, cov_plane1, ld_win, ld_all]
    rfl
  isplitl [Hq1]
  · iexists _; isplitr; swap; · iexact Hq1
    ipureintro; rfl
  isplitl [Hm0]
  · iexists _; isplitr; swap; · iexact Hm0
    ipureintro; rfl
  isplitl [Hm1]
  · iexists _; isplitr; swap; · iexact Hm1
    ipureintro
    refine (st_planes _ _ _ _ _ _).trans ?_
    sl_unfold_run_names
    simp only [ld_plane0, ld_plane1, cov_plane0, cov_plane1, ld_win, ld_all]
    rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.Kernel.Hand
end
-- ==== Proof.Kernel.Case5.lean ====
/-
  One grid step of each kind, run: what it leaves in the windows and in the scratch buffers, from what it found there.
-/
module

public import proofs.«01_k».proof.Proof.Kernel.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- Step 36: the last tile turned into codes. -/
theorem run5 (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1)
    (x5 : Vec F S1x256 .f32) (S : Bufs F) (fk : Buf (Elt F) (hV.view.loc (c : Thread nD τ))) (K : PUnit → sProp 𝕄) :
    iprop(owns (c : Thread nD τ) arg5 fullShare x5 ∗ (∃ d, owns (c : Thread nD τ) arg7 fullShare d) ∗ (∃ d, owns (c : Thread nD τ) arg10 fullShare d) ∗ (∃ d, owns (c : Thread nD τ) arg11 fullShare d) ∗ hKept c fk ∗ held c S
      ∗ (iprop(owns (c : Thread nD τ) arg5 fullShare x5 ∗ owns (c : Thread nD τ) arg7 fullShare (cY (hV.view.read (Elt F) fk) S.q0 S.hr (win S.sc (k0_off14 i 2#32)) (win S.cv (k0_off15 i)) (win S.sc (k0_off16 i 2#32)) (win S.cv (k0_off17 i))) ∗ owns (c : Thread nD τ) arg10 fullShare (bQ2 (win S.cv ![36, 0, 0]) S.m1 S.p1) ∗ owns (c : Thread nD τ) arg11 fullShare (bS2 (win S.cv ![36, 0, 0]) S.m1) ∗ hKept c fk ∗ held c (step5 i S x5)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f5, %hf5, H5⟩, ⟨%d7, %f7, -, H7⟩, ⟨%d10, %f10, -, H10⟩, ⟨%d11, %f11, -, H11⟩, HK, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf5 hp0 hp1 hq0 hq1 hm0 hm1 hr hhr hmr hsh hcv hsc
  sl_exec
  sl_step
  iapply Hk
  isplitl [H5]
  · iexists _; isplitr; swap; · iexact H5
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  isplitl [HK]; · iexact HK
  unfold step5
  isplitl [Hp0]
  · iexists _; isplitr; swap; · iexact Hp0
    ipureintro; rfl
  isplitl [Hp1]
  · iexists _; isplitr; swap; · iexact Hp1
    ipureintro; rfl
  isplitl [Hq0]
  · iexists _; isplitr; swap; · iexact Hq0
    ipureintro; rfl
  isplitl [Hq1]
  · iexists _; isplitr; swap; · iexact Hq1
    ipureintro
    refine (st_planes _ _ _ _ _ _).trans ?_
    sl_unfold_run_names
    simp only [ld_plane0, ld_plane1, cov_plane0, cov_plane1, ld_win, ld_all]
    rfl
  isplitl [Hm0]
  · iexists _; isplitr; swap; · iexact Hm0
    ipureintro; rfl
  isplitl [Hm1]
  · iexists _; isplitr; swap; · iexact Hm1
    ipureintro; rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.Kernel.Hand
end
-- ==== Proof.Kernel.Case6.lean ====
/-
  One grid step of each kind, run: what it leaves in the windows and in the scratch buffers, from what it found there.
-/
module

public import proofs.«01_k».proof.Proof.Kernel.Held

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- Step 37: the last output tile, and the end of the copy of the activation codes. -/
theorem run6 (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (x5 : Vec F S1x256 .f32) (S : Bufs F) (fk : Buf (Elt F) (hV.view.loc (c : Thread nD τ))) (fy : Buf (Elt F) (hH.view.loc (c : Thread nD τ))) (W : Waits sig Unit) (K : PUnit → sProp 𝕄) :
    iprop(owns (c : Thread nD τ) arg5 fullShare x5 ∗ (∃ d, owns (c : Thread nD τ) arg7 fullShare d) ∗ hFlight c fy fk ∗ hKept c fk ∗ owes (c : Thread nD τ) 0 W ∗ held c S
      ∗ (iprop(owns (c : Thread nD τ) arg5 fullShare x5 ∗ owns (c : Thread nD τ) arg7 fullShare (cY (hV.view.read (Elt F) fk) S.q1 S.hr (win S.sc (k0_off18 i)) (win S.cv (k0_off19 i)) (win S.sc (k0_off20 i)) (win S.cv (k0_off21 i))) ∗ (hH.view.loc (c : Thread nD τ) ↦[hH.view.set]{fullShare} fy) ∗ (hV.view.loc (c : Thread nD τ) ↦[hV.view.set]{fullShare} fk) ∗ semVal ((c : Thread nD τ), SemLoc.dma 16) 0 ∗ (∃ W', owes (c : Thread nD τ) 0 W') ∗ held c (step6 S x5)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f5, %hf5, H5⟩, ⟨%d7, %f7, -, H7⟩, HF, HK, HO, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf5 hp0 hp1 hq0 hq1 hm0 hm1 hr hhr hmr hsh hcv hsc
  set_option sl_exec.lendShare "HK" in sl_exec
  sl_step
  iapply Hk
  isplitl [H5]
  · iexists _; isplitr; swap; · iexact H5
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [HF_dst]; · iexact HF_dst
  isplitl [HK]; · iexact HK
  isplitl [HF]; · iexact HF
  isplitl [HO]; · iexists _; iexact HO
  unfold step6
  isplitl [Hp0]
  · iexists _; isplitr; swap; · iexact Hp0
    ipureintro; rfl
  isplitl [Hp1]
  · iexists _; isplitr; swap; · iexact Hp1
    ipureintro; rfl
  isplitl [Hq0]
  · iexists _; isplitr; swap; · iexact Hq0
    ipureintro; rfl
  isplitl [Hq1]
  · iexists _; isplitr; swap; · iexact Hq1
    ipureintro; rfl
  isplitl [Hm0]
  · iexists _; isplitr; swap; · iexact Hm0
    ipureintro; rfl
  isplitl [Hm1]
  · iexists _; isplitr; swap; · iexact Hm1
    ipureintro; rfl
  isplitl [Hr]
  · iexists _; isplitr; swap; · iexact Hr
    ipureintro; rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl]
    sl_unfold_run_names
    simp only [ld_plane0, ld_plane1, cov_plane0, cov_plane1, ld_win, ld_all]
    rfl
  · iexists _; isplitr; swap; · iexact Hsc
    ipureintro; rfl

end
end Cert.Kernel.Hand
end
-- ==== Proof.Kernel.Body.lean ====
/-
  The body's obligation at every grid point: each kind of step, run from what the point before left.
-/
module

public import proofs.«01_k».proof.Proof.Kernel.Dats
public import proofs.«01_k».proof.Proof.Kernel.Case2
public import proofs.«01_k».proof.Proof.Kernel.Case3
public import proofs.«01_k».proof.Proof.Kernel.Case4
public import proofs.«01_k».proof.Proof.Kernel.Case5
public import proofs.«01_k».proof.Proof.Kernel.Case6

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ)

/-- What the body is handed at a point, the input windows' contents named. -/
def bodyPre (c : Dev nD) (t : Fin cfg0.N) : sProp 𝕄 :=
  iprop(PhiAt m c t.val ∗ (∃ W, owes (c : Thread nD τ) 0 W)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t)
    ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare ((dats m 0 c).before 7 t d)) ∗ (∃ d, owns (c : Thread nD τ) (st0_8 t) fullShare ((dats m 0 c).before 8 t d)))
/-- What it hands back. -/
def bodyPost (c : Dev nD) (t : Fin cfg0.N) : sProp 𝕄 :=
  iprop(PhiAt m c (t.val + 1) ∗ (∃ W, owes (c : Thread nD τ) 0 W)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t)
    ∗ Leave m c t 5 ∗ Leave m c t 6 ∗ Leave m c t 7 ∗ Leave m c t 8)

theorem w_at (c : Dev nD) (t : Fin cfg0.N) : iblk m c 2 t = (ops m c).w t.val := by unfold ops; dsimp only; rw [pt_val]
theorem ws_at (c : Dev nD) (t : Fin cfg0.N) : iblk m c 3 t = (ops m c).ws t.val := by unfold ops; dsimp only; rw [pt_val]
theorem b_at (c : Dev nD) (t : Fin cfg0.N) : iblk m c 4 t = (ops m c).b t.val := by unfold ops; dsimp only; rw [pt_val]
theorem Phi_mid (c : Dev nD) (n : ℕ) (h1 : 1 ≤ n) (h2 : n ≤ 37) : PhiAt m c n = mid m c n := by
  unfold PhiAt; rw [if_neg (by omega), if_pos h2]

section
variable (c : Dev nD) (t : Fin cfg0.N)

/-- The first point. -/
theorem sound1 (ht : t.val = 0) : bodyPre m c t ⊢ wp frame (wpE (defs₀ (F := F)) Variants.none c none) Set.univ (bodyAt0 t) (fun _ => bodyPost m c t) := by
  unfold bodyPre bodyPost
  obtain rfl : t = pt 0 := Fin.ext ht
  rw [show PhiAt m c (pt 0).val = Pipeline.ΦDRG osem0 spec0 H0 R0 (V m) (V m) c from rfl, PhiDRG_eq, Phi_mid m c _ (by omega) (by omega), w_at, ws_at, b_at,
    leave_idle m c (pt 0) 5 ((idle5 (pt 0)).trans (decide_eq_true (by omega))) ((flush5 (pt 0)).trans (decide_eq_false (by omega))), leave_live m c (pt 0) 6 ((idle6 (pt 0)).trans (decide_eq_false (by omega))), after6, leave_idle m c (pt 0) 7 ((idle7 (pt 0)).trans (decide_eq_true (by omega))) ((flush7 (pt 0)).trans (decide_eq_false (by omega))), leave_idle m c (pt 0) 8 ((idle8 (pt 0)).trans (decide_eq_true (by omega))) ((flush8 (pt 0)).trans (decide_eq_false (by omega)))]
  unfold mid
  iintro ⟨⟨⟨HxV, a1, a2, a3, a4, a5, a6, a7, HhV, a9, a10, a11, a12, a13⟩, Hg, ⟨Hs, Hs'⟩, Hx, Hh⟩, ⟨%W, HW⟩, H0, H1, H2, H3, H4, H5, ⟨%d6, H6⟩, H7, H8⟩
  ihave HS := (held_of (F := F) c) $$ [a1 a2 a3 a4 a5 a6 a7 a9 a10 a11 a12 a13]
  · isplitl [a1]; · iexact a1
    isplitl [a2]; · iexact a2
    isplitl [a3]; · iexact a3
    isplitl [a4]; · iexact a4
    isplitl [a5]; · iexact a5
    isplitl [a6]; · iexact a6
    isplitl [a7]; · iexact a7
    isplitl [a9]; · iexact a9
    isplitl [a10]; · iexact a10
    isplitl [a11]; · iexact a11
    isplitl [a12]; · iexact a12
    iexact a13
  icases HS with ⟨%S, HS⟩
  iapply (run1 c (grid0.coords (pt 0)) (st0_0 (pt 0)) _ (st0_1 (pt 0)) _ (st0_2 (pt 0)) _ (st0_3 (pt 0)) _ (st0_4 (pt 0)) _ (st0_5 (pt 0)) _ (st0_6 (pt 0)) _ (st0_7 (pt 0)) _ (st0_8 (pt 0)) _
    ((cond1_iff (pt 0)).mpr (by omega)) (fun h => by have := (cond2_iff (pt 0)).mp h; omega) (fun h => by have := (cond3_iff (pt 0)).mp h; omega) (fun h => by have := (cond4_iff (pt 0)).mp h; omega) (fun h => by have := (cond5_iff (pt 0)).mp h; omega) (fun h => by have := (cond6_iff (pt 0)).mp h; omega)
    (ops m c).ms (ops m c).mh ((ops m c).w 0) ((ops m c).ws 0) ((ops m c).b 0) S (ops m c).X W _)
  isplitl [H0]; · iexact H0
  isplitl [H1]; · iexact H1
  isplitl [H2]; · iexact H2
  isplitl [H3]; · iexact H3
  isplitl [H4]; · iexact H4
  isplitl [H6]; · iexists _; iexact H6
  isplitl [Hx]; · iexact Hx
  isplitl [HxV]; · iexact HxV
  isplitl [HhV]; · iexact HhV
  isplitl [Hh]; · iexists _; iexact Hh
  isplitl [Hs]; · iexact Hs
  isplitl [Hs']; · iexact Hs'
  isplitl [HW]; · iexact HW
  isplitl [HS]; · iexact HS
  iintro ⟨H0, H1, H2, H3, H4, H6, Hx, HxV, Hs, HW, Hf, ⟨%a, %r, HS⟩⟩
  isplitl [Hx HxV Hs Hf HS Hg]
  · isplitl [HS]
    · iexists _; isplitr; swap; · iexact HS
      ipureintro; exact inv1 S a r
    isplitl [Hx]; · iexact Hx
    isplitl [HxV]; · iexact HxV
    isplitl [Hs]; · iexact Hs
    isplitl [Hf]; · iexact Hf
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The second point. -/
theorem sound2 (ht : t.val = 1) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_idle m c t 5 ((idle5 t).trans (decide_eq_true (by omega))) ((flush5 t).trans (decide_eq_false (by omega))), leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, H5, H6, ⟨%d7, H7⟩, ⟨%d8, H8⟩⟩
  have e2 : Inv (ops m c) (t.val + 1) (step2 S ((ops m c).w t.val) ((ops m c).ws t.val) ((ops m c).b t.val)) := by rw [ht] at hS ⊢; exact inv2 hS
  iapply (run2 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) ((cond2_iff t).mpr (by omega)) (fun h => by have := (cond3_iff t).mp h; omega) (fun h => by have := (cond4_iff t).mp h; omega) (fun h => by have := (cond5_iff t).mp h; omega) (fun h => by have := (cond6_iff t).mp h; omega)
    ((ops m c).w t.val) ((ops m c).ws t.val) ((ops m c).b t.val) S _)
  isplitl [H2]; · iexact H2
  isplitl [H3]; · iexact H3
  isplitl [H4]; · iexact H4
  isplitl [H7]; · iexists _; iexact H7
  isplitl [H8]; · iexists _; iexact H8
  isplitl [HS]; · iexact HS
  rw [(outQe hS (by omega) (by omega) (by omega)).1, (outQe hS (by omega) (by omega) (by omega)).2]
  iintro ⟨H2, H3, H4, H7, H8, HS⟩
  isplitl [Hx HxV Hs Hf Hk HS Hg]
  · isplitl [HS]
    · iexists _; isplitr; swap; · iexact HS
      ipureintro; exact e2
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- An even point in between. -/
theorem sound3 (h2 : 2 ≤ t.val) (h36 : t.val < 36) (he : t.val % 2 = 0) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_live m c t 5 ((idle5 t).trans (decide_eq_false (by omega))), after5, leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, ⟨%d5, H5⟩, H6, ⟨%d7, H7⟩, ⟨%d8, H8⟩⟩
  iapply (run3 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) ((cond3_iff t).mpr (by omega)) (fun h => by have := (cond4_iff t).mp h; omega) (fun h => by have := (cond5_iff t).mp h; omega) (fun h => by have := (cond6_iff t).mp h; omega)
    ((ops m c).w t.val) ((ops m c).ws t.val) ((ops m c).b t.val) S fk _)
  isplitl [H2]; · iexact H2
  isplitl [H3]; · iexact H3
  isplitl [H4]; · iexact H4
  isplitl [H5]; · iexists _; iexact H5
  isplitl [H7]; · iexists _; iexact H7
  isplitl [H8]; · iexists _; iexact H8
  isplitl [Hk]; · iexact Hk
  isplitl [HS]; · iexact HS
  rw [(outQo hS (by omega) (by omega) (by omega)).1, (outQo hS (by omega) (by omega) (by omega)).2, hk, off4_2 t h2, off5_2 t h2, off6_2 t h2, off7_2 t h2, outYe hS h2 (by omega) he]
  iintro ⟨H2, H3, H4, H5, H7, H8, Hk, HS⟩
  isplitl [Hx HxV Hs Hf Hk HS Hg]
  · isplitl [HS]
    · iexists _; isplitr; swap; · iexact HS
      ipureintro; exact inv3 _ h2 h36 he (off4_1 t h2) (off6_1 t h2) (off8_0 t h2) hS
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- An odd point in between. -/
theorem sound4 (h2 : 2 ≤ t.val) (h36 : t.val < 36) (he : t.val % 2 = 1) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_live m c t 5 ((idle5 t).trans (decide_eq_false (by omega))), after5, leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, ⟨%d5, H5⟩, H6, ⟨%d7, H7⟩, ⟨%d8, H8⟩⟩
  iapply (run4 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) (fun h => by have := (cond3_iff t).mp h; omega) ((cond4_iff t).mpr (by omega)) (fun h => by have := (cond5_iff t).mp h; omega) (fun h => by have := (cond6_iff t).mp h; omega)
    ((ops m c).w t.val) ((ops m c).ws t.val) ((ops m c).b t.val) S fk _)
  isplitl [H2]; · iexact H2
  isplitl [H3]; · iexact H3
  isplitl [H4]; · iexact H4
  isplitl [H5]; · iexists _; iexact H5
  isplitl [H7]; · iexists _; iexact H7
  isplitl [H8]; · iexists _; iexact H8
  isplitl [Hk]; · iexact Hk
  isplitl [HS]; · iexact HS
  rw [(outQe hS (by omega) (by omega) (by omega)).1, (outQe hS (by omega) (by omega) (by omega)).2, hk, off9_2 t h2, off10_2 t h2, off11_2 t h2, off12_2 t h2, outYo hS h2 (by omega) he]
  iintro ⟨H2, H3, H4, H5, H7, H8, Hk, HS⟩
  isplitl [Hx HxV Hs Hf Hk HS Hg]
  · isplitl [HS]
    · iexists _; isplitr; swap; · iexact HS
      ipureintro; exact inv4 _ h2 h36 he (off9_1 t h2) (off11_1 t h2) (off13_0 t h2) hS
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The point that quantises the last tile. -/
theorem sound5 (ht : t.val = 36) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_live m c t 5 ((idle5 t).trans (decide_eq_false (by omega))), after5, leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, ⟨%d5, H5⟩, H6, ⟨%d7, H7⟩, ⟨%d8, H8⟩⟩
  have h2 : 2 ≤ t.val := by omega
  have e5 : Inv (ops m c) (t.val + 1) (step5 (grid0.coords t) S ((ops m c).ws t.val)) := by
    have o1 := off14_1 t h2
    have o2 := off16_1 t h2
    rw [ht] at hS o1 o2 ⊢; exact inv5 _ o1 o2 hS
  iapply (run5 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) (fun h => by have := (cond3_iff t).mp h; omega) (fun h => by have := (cond4_iff t).mp h; omega) ((cond5_iff t).mpr (by omega)) (fun h => by have := (cond6_iff t).mp h; omega)
    ((ops m c).ws t.val) S fk _)
  isplitl [H3]; · iexact H3
  isplitl [H5]; · iexists _; iexact H5
  isplitl [H7]; · iexists _; iexact H7
  isplitl [H8]; · iexists _; iexact H8
  isplitl [Hk]; · iexact Hk
  isplitl [HS]; · iexact HS
  rw [(outQo hS (by omega) (by omega) (by omega)).1, (outQo hS (by omega) (by omega) (by omega)).2, hk, off14_2 t h2, off15_2 t h2, off16_2 t h2, off17_2 t h2, outYe hS h2 (by omega) (by omega)]
  iintro ⟨H3, H5, H7, H8, Hk, HS⟩
  isplitl [Hx HxV Hs Hf Hk HS Hg]
  · isplitl [HS]
    · iexists _; isplitr; swap; · iexact HS
      ipureintro; exact e5
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The last point. -/
theorem sound6 (ht : t.val = 37) : bodyPre m c t ⊢ wp frame (wpE (defs₀ (F := F)) Variants.none c none) Set.univ (bodyAt0 t) (fun _ => bodyPost m c t) := by
  unfold bodyPre bodyPost
  have h2 : 2 ≤ t.val := by omega
  simp only [before6_last m c t ht, before7_last m c t ht, before8_last m c t ht]
  rw [Phi_mid m c t.val (by omega) (by omega), ws_at,
    show PhiAt m c (t.val + 1) = Pipeline.ΦDRG osem0 spec0 H0 R0 (V m) (Gout m) c by unfold PhiAt; rw [if_neg (by omega), if_neg (by omega)], PhiDRG_eq, Gout_h,
    leave_live m c t 5 ((idle5 t).trans (decide_eq_false (by omega))), after5, leave_out m c t 6 ((flush6 t).trans (decide_eq_true (by omega))), leave_out m c t 7 ((flush7 t).trans (decide_eq_true (by omega))), leave_out m c t 8 ((flush8 t).trans (decide_eq_true (by omega)))]
  unfold mid
  iintro ⟨⟨⟨%S, %hS, HS⟩, Hx, HxV, Hs, ⟨%fy, %fk, %hy, %hk, Hf, Hk⟩, Hg⟩, ⟨%W, HW⟩, H0, H1, H2, H3, H4, ⟨%d5, H5⟩, ⟨%d6, H6⟩, ⟨%d7, H7⟩, ⟨%d8, H8⟩⟩
  iapply (run6 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) (fun h => by have := (cond3_iff t).mp h; omega) (fun h => by have := (cond4_iff t).mp h; omega) (fun h => by have := (cond5_iff t).mp h; omega) ((cond6_iff t).mpr (by omega))
    ((ops m c).ws t.val) S fk fy W _)
  isplitl [H3]; · iexact H3
  isplitl [H5]; · iexists _; iexact H5
  isplitl [Hf]; · iexact Hf
  isplitl [Hk]; · iexact Hk
  isplitl [HW]; · iexact HW
  isplitl [HS]; · iexact HS
  rw [hk, off18_2 t h2, off19_2 t h2, off20_2 t h2, off21_2 t h2, outYo hS h2 (by omega) (by omega)]
  unfold held
  iintro ⟨H3, H5, Hh, HhV, Hs', HW, ⟨a1, a2, a3, a4, a5, a6, a7, a9, a10, a11, a12, a13⟩⟩
  isplitl [Hx HxV Hs Hg Hh HhV Hs' a1 a2 a3 a4 a5 a6 a7 a9 a10 a11 a12 a13]
  · isplitl [HxV HhV a1 a2 a3 a4 a5 a6 a7 a9 a10 a11 a12 a13]
    · isplitl [HxV]; · iexact HxV
      isplitl [a1]; · iexists _; iexact a1
      isplitl [a2]; · iexists _; iexact a2
      isplitl [a3]; · iexists _; iexact a3
      isplitl [a4]; · iexists _; iexact a4
      isplitl [a5]; · iexists _; iexact a5
      isplitl [a6]; · iexists _; iexact a6
      isplitl [a7]; · iexists _; iexact a7
      isplitl [HhV]
      · unfold owns; iexists _, _; isplitr; swap; · iexact HhV
        ipureintro; rfl
      isplitl [a9]; · iexists _; iexact a9
      isplitl [a10]; · iexists _; iexact a10
      isplitl [a11]; · iexists _; iexact a11
      isplitl [a12]; · iexists _; iexact a12
      iexists _; iexact a13
    isplitl [Hg]; · iexact Hg
    isplitl [Hs Hs']
    · isplitl [Hs]; · iexact Hs
      iexact Hs'
    isplitl [Hx]; · iexact Hx
    unfold owns; iexists _; isplitr; swap; · iexact Hh
    ipureintro; exact hy
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Every point. -/
theorem sound_body : bodyPre m c t ⊢ wp frame (wpE (defs₀ (F := F)) Variants.none c none) Set.univ (bodyAt0 t) (fun _ => bodyPost m c t) := by
  have hN : t.val < 38 := N_0 ▸ t.isLt
  by_cases h0 : t.val = 0
  · exact sound1 m c t h0
  by_cases h1 : t.val = 1
  · exact sound2 m c t h1
  by_cases h36 : t.val < 36
  · by_cases he : t.val % 2 = 0
    · exact sound3 m c t (by omega) h36 he
    · exact sound4 m c t (by omega) h36 (by omega)
  by_cases h36' : t.val = 36
  · exact sound5 m c t h36'
  · exact sound6 m c t (by omega)
end

theorem defs₀_row (t : Fin cfg0.N) : defs₀ (F := F) .tc cfg0.body (cfg0.bodyArgs t (cfg0.slots t)) = bodyAt0 t := by
  unfold defs₀; rw [Defs.onTc_tc]

theorem pre_of (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d))
      ∗ (∃ d, owns (c : Thread nD τ) (st0_8 t) fullShare ((dats m 0 c).before 8 t d))) ⊢ bodyPre m c t := by
  unfold bodyPre Dat.owesAt Pipeline.owesWithin
  rw [show (dats m 0 c).owed t.castSucc = 0 from rfl, Phi_eq, show t.castSucc.val = t.val from rfl]
  simp only [before0, before1, before2, before3, before4]
  iintro ⟨HΦ, ⟨%W, -, HW⟩, ⟨%d0, H0⟩, ⟨%d1, H1⟩, ⟨%d2, H2⟩, ⟨%d3, H3⟩, ⟨%d4, H4⟩, H5, H6, H7, H8⟩
  isplitl [HΦ]; · iexact HΦ
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem post_of (c : Dev nD) (t : Fin cfg0.N) :
    bodyPost m c t ⊢ iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)
      ∗ owns (c : Thread nD τ) (st0_4 t) fullShare ((dats m 0 c).after 4 t) ∗ Leave m c t 5 ∗ Leave m c t 6 ∗ Leave m c t 7 ∗ Leave m c t 8) := by
  unfold bodyPost Dat.owesAt Pipeline.owesWithin
  rw [show (dats m 0 c).owed t.succ = 0 from rfl, Phi_eq, show t.succ.val = t.val + 1 from rfl, after0, after1, after2, after3, after4]
  iintro ⟨HΦ, ⟨%W, HW⟩, H0, H1, H2, H3, H4, H5, H6, H7, H8⟩
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, defs₀_row]
  exact triple_restated (sound_body m c t) rfl (pre_of m c t) fun _ => post_of m c t

end Cert.Kernel.Hand

end
-- ==== Proof.Kernel.Frame.lean ====
/-
  The run of the whole program: every window's array at what the grid left, the codes of the activations at what the copy
  delivered, the arguments as launched, every semaphore at zero.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
theorem run_main : θ_run defs (onTc (τ := τ) (main (F := F))) (s₀ m ρ)
    (fun r => Pipeline.FramePostRG cfgs (dats m) 0 R0 (V m) (Gout m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := Gout m)
    (hin := fun _ => .rfl) (hout := fun _ => .rfl)

theorem rest_arg {r : PUnit × MemSt nD τ sig (Elt F)} (h : Pipeline.FramePostRG cfgs (dats m) 0 R0 (V m) (Gout m) r) (c : Dev nD) (b : Ref sig .tc)
    (hb : b ∈ Pipeline.restRefs sig spec0 \ R0) : r.2.mem ((c.tc : Thread nD τ).loc b) = V m c b := (h.1 c).2 b hb

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(rest_arg m h.1 c main_arg0 (by decide)).trans (V_main_arg0 m c),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c))),
      (rest_arg m h.1 c main_arg4 (by decide)).trans (V_main_arg4 m c),
      (rest_arg m h.1 c main_arg5 (by decide)).trans (V_main_arg5 m c)⟩, h.2⟩) (run_main m ρ)

end Cert.Kernel.Hand

end
-- ==== Proof.KernelIdeal.Base.lean ====
/-
  The kernel's launch read at the algebra its copies need: the buffers when the region is entered, the scratch buffers
  and semaphores the body owns beside its windows, and the body as the pipeline calls it.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's beside the counters of the body's own copies. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The buffers and semaphores the body owns -/

abbrev xH : Memref sig .tc .hbm S1024x3072 .bf16 := Memref.whole main_v0
abbrev hH : Memref sig .tc .hbm S2x512x3072 .fp8e4m3 := Memref.whole main_v3_1
abbrev xV : Memref sig .tc .vmem S1024x3072 .bf16 := Memref.whole cc0_scratch0
abbrev p0 : Memref sig .tc .vmem S2x256x3072 .f32 := Memref.whole cc0_scratch1
abbrev p1 : Memref sig .tc .vmem S2x256x3072 .f32 := Memref.whole cc0_scratch2
abbrev wq0 : Memref sig .tc .vmem S2x256x3072 .fp8e4m3 := Memref.whole cc0_scratch3
abbrev wq1 : Memref sig .tc .vmem S2x256x3072 .fp8e4m3 := Memref.whole cc0_scratch4
abbrev m0 : Memref sig .tc .vmem S2x256x128 .f32 := Memref.whole cc0_scratch5
abbrev m1 : Memref sig .tc .vmem S2x256x128 .f32 := Memref.whole cc0_scratch6
abbrev rV : Memref sig .tc .vmem S2x256x128 .f32 := Memref.whole cc0_scratch7
abbrev hV : Memref sig .tc .vmem S2x512x3072 .fp8e4m3 := Memref.whole cc0_scratch8
abbrev hrep : Memref sig .tc .vmem S2x512x128 .f32 := Memref.whole cc0_scratch9
abbrev mrep : Memref sig .tc .vmem S2x8x3072 .f32 := Memref.whole cc0_scratch10
abbrev shV : Memref sig .tc .vmem S16x3072 .bf16 := Memref.whole cc0_scratch11
abbrev cV : Memref sig .tc .vmem S37x2x256 .f32 := Memref.whole cc0_scratch12
abbrev scV : Memref sig .tc .vmem S36x2x256 .f32 := Memref.whole cc0_scratch13

/-- The two cells of the body's copies. -/
abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl

/-- The array the body reads by a copy, and the one it writes by a copy. -/
def H0 : Finset (Ref sig .tc) := {main_v0}
def R0 : Finset (Ref sig .tc) := {main_v3_1}
theorem H0_sub : H0 ⊆ Pipeline.restRefs sig spec0 := by decide
theorem R0_sub : R0 ⊆ Pipeline.restRefs sig spec0 \ H0 := by decide

/-- The body at a grid position, on any staging buffers. -/
abbrev bodyW (i : grid0.Coords) (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole) : Prog (TpuEff nD τ sig (Elt F) Λ₀ .tc) PUnit :=
  cc0_adaln_fp8_linear i xH (Memref.isWhole_whole _) arg2 harg2 arg3 harg3 arg4 harg4 arg5 harg5 arg6 harg6 arg7 harg7 hH (Memref.isWhole_whole _)
    arg9 harg9 arg10 harg10 arg11 harg11 xV (Memref.isWhole_whole _) p0 (Memref.isWhole_whole _) p1 (Memref.isWhole_whole _)
    wq0 (Memref.isWhole_whole _) wq1 (Memref.isWhole_whole _) m0 (Memref.isWhole_whole _) m1 (Memref.isWhole_whole _)
    rV (Memref.isWhole_whole _) hV (Memref.isWhole_whole _) hrep (Memref.isWhole_whole _) mrep (Memref.isWhole_whole _)
    shV (Memref.isWhole_whole _) cV (Memref.isWhole_whole _) scV (Memref.isWhole_whole _) cc0_scratch14 cc0_scratch15

end Cert.KernelIdeal.Hand

end
-- ==== Proof.KernelIdeal.Stages.lean ====
/-
  What one grid step computes, as functions of the values it reads: the three stages of the software pipeline (multiply a weight
  tile and take its row maxima; turn the maxima into scales and codes; multiply the codes by the activations), and a block of
  256 rows of the layer norm. Each is the composition of the step's own payloads.
-/
module

public import proofs.«01_k».proof.Proof.KernelIdeal.Base
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.VecWindow

variable {F : FTy → Type} [FloatOps F]

/-! ## Two-plane buffers -/

/-- The buffer of planes `A` and `B`. -/
def planes {α : Type} {a b : ℕ} (A B : (⟨3, ![1, a, b]⟩ : Shape).Idx → α) : (⟨3, ![2, a, b]⟩ : Shape).Idx → α :=
  fun y => if (y 0).val = 0 then A (fun d => match d with | 0 => ⟨0, Nat.one_pos⟩ | 1 => y 1 | 2 => y 2)
    else B (fun d => match d with | 0 => ⟨0, Nat.one_pos⟩ | 1 => y 1 | 2 => y 2)

/-- Plane `p` of a two-plane buffer. -/
def plane {α : Type} {a b : ℕ} (p : Fin 2) (X : (⟨3, ![2, a, b]⟩ : Shape).Idx → α) : (⟨3, ![1, a, b]⟩ : Shape).Idx → α :=
  fun y => X (fun d => match d with | 0 => p | 1 => y 1 | 2 => y 2)

theorem plane_planes0 {α : Type} {a b : ℕ} (A B : (⟨3, ![1, a, b]⟩ : Shape).Idx → α) : plane 0 (planes A B) = A := by
  funext y
  unfold plane planes
  refine (if_pos rfl).trans ?_
  exact congrArg A (funext fun d => match d with
    | 0 => Fin.ext (by have := (y 0).isLt; show 0 = (y 0).val; have h : (y 0).val < 1 := this; omega)
    | 1 => rfl | 2 => rfl)
theorem plane_planes1 {α : Type} {a b : ℕ} (A B : (⟨3, ![1, a, b]⟩ : Shape).Idx → α) : plane 1 (planes A B) = B := by
  funext y
  unfold plane planes
  refine (if_neg (fun h : (1 : Fin 2).val = 0 => absurd h (by decide))).trans ?_
  exact congrArg B (funext fun d => match d with
    | 0 => Fin.ext (by have := (y 0).isLt; show 0 = (y 0).val; have h : (y 0).val < 1 := this; omega)
    | 1 => rfl | 2 => rfl)

section
variable {sig : RefSig} {κ : Kind} {sp : Space} {e : EltTy} {Val : EltTy → Type} {a b : ℕ}

/-- A load of plane 0, and of plane 1. -/
theorem ld_plane0 (v : View sig κ sp ⟨3, ![2, a, b]⟩ e) (f : v.ty.Contents Val) (inb : ∀ d, (![0, 0, 0] : Fin 3 → ℕ) d + (![1, a, b] : Fin 3 → ℕ) d ≤ (⟨3, ![2, a, b]⟩ : Shape).size d) :
    v.readAt Val (Rect.unit (s := ⟨3, ![2, a, b]⟩) ![0, 0, 0] ![1, a, b] inb).toLoadRect f = plane (α := Val e) 0 (v.read Val f) := by
  funext y
  exact congrArg (v.read Val f) (funext fun d => match d with
    | 0 => Fin.ext (by have : (y 0).val < 1 := (y 0).isLt; show 0 + 1 * (y 0).val = 0; omega)
    | 1 => Fin.ext (by show 0 + 1 * (y 1).val = (y 1).val; omega)
    | 2 => Fin.ext (by show 0 + 1 * (y 2).val = (y 2).val; omega))
theorem ld_plane1 (v : View sig κ sp ⟨3, ![2, a, b]⟩ e) (f : v.ty.Contents Val) (inb : ∀ d, (![1, 0, 0] : Fin 3 → ℕ) d + (![1, a, b] : Fin 3 → ℕ) d ≤ (⟨3, ![2, a, b]⟩ : Shape).size d) :
    v.readAt Val (Rect.unit (s := ⟨3, ![2, a, b]⟩) ![1, 0, 0] ![1, a, b] inb).toLoadRect f = plane (α := Val e) 1 (v.read Val f) := by
  funext y
  exact congrArg (v.read Val f) (funext fun d => match d with
    | 0 => Fin.ext (by have : (y 0).val < 1 := (y 0).isLt; show 1 + 1 * (y 0).val = 1; omega)
    | 1 => Fin.ext (by show 0 + 1 * (y 1).val = (y 1).val; omega)
    | 2 => Fin.ext (by show 0 + 1 * (y 2).val = (y 2).val; omega))

/-- Both planes stored: the buffer is the two planes. -/
theorem st_planes (v : View sig κ sp ⟨3, ![2, a, b]⟩ e) (f : v.ty.Contents Val)
    (inb0 : ∀ d, (![0, 0, 0] : Fin 3 → ℕ) d + (![1, a, b] : Fin 3 → ℕ) d ≤ (⟨3, ![2, a, b]⟩ : Shape).size d)
    (inb1 : ∀ d, (![1, 0, 0] : Fin 3 → ℕ) d + (![1, a, b] : Fin 3 → ℕ) d ≤ (⟨3, ![2, a, b]⟩ : Shape).size d)
    (A B : (⟨3, ![1, a, b]⟩ : Shape).Idx → Val e) :
    v.read Val (v.writes Val f [⟨Rect.unit (s := ⟨3, ![2, a, b]⟩) ![1, 0, 0] ![1, a, b] inb1, B⟩, ⟨Rect.unit (s := ⟨3, ![2, a, b]⟩) ![0, 0, 0] ![1, a, b] inb0, A⟩])
      = planes (α := Val e) A B := by
  funext y
  rw [View.read_writes_cons_unit v f inb1 B _ y rfl]
  have h0 : (y 0).val < 2 := (y 0).isLt
  have h1 : (y 1).val < a := (y 1).isLt
  have h2 : (y 2).val < b := (y 2).isLt
  unfold planes
  by_cases h : (y 0).val = 0
  · rw [dif_neg (fun hh => by have := (hh 0).1; have e1 : 1 ≤ (y 0).val := this; omega), if_pos h, View.read_writes_cons_unit v f inb0 A _ y rfl,
      dif_pos (fun d => match d with
        | 0 => ⟨Nat.zero_le _, by show (y 0).val < 0 + 1; omega⟩
        | 1 => ⟨Nat.zero_le _, by show (y 1).val < 0 + a; omega⟩
        | 2 => ⟨Nat.zero_le _, by show (y 2).val < 0 + b; omega⟩)]
    exact congrArg A (funext fun d => match d with
      | 0 => Fin.ext (by show (y 0).val - 0 = 0; omega)
      | 1 => Fin.ext (by show (y 1).val - 0 = (y 1).val; omega)
      | 2 => Fin.ext (by show (y 2).val - 0 = (y 2).val; omega))
  · rw [if_neg h, dif_pos (fun d => match d with
        | 0 => ⟨by show 1 ≤ (y 0).val; omega, by show (y 0).val < 1 + 1; omega⟩
        | 1 => ⟨Nat.zero_le _, by show (y 1).val < 0 + a; omega⟩
        | 2 => ⟨Nat.zero_le _, by show (y 2).val < 0 + b; omega⟩)]
    exact congrArg B (funext fun d => match d with
      | 0 => Fin.ext (by show (y 0).val - 1 = 0; omega)
      | 1 => Fin.ext (by show (y 1).val - 0 = (y 1).val; omega)
      | 2 => Fin.ext (by show (y 2).val - 0 = (y 2).val; omega))

/-- A covered load of one of two stored planes is that plane. -/
theorem cov_plane0 [∀ e, Nonempty (Val e)] (v : View sig κ sp ⟨3, ![2, a, b]⟩ e)
    (inb0 inb0' : ∀ d, (![0, 0, 0] : Fin 3 → ℕ) d + (![1, a, b] : Fin 3 → ℕ) d ≤ (⟨3, ![2, a, b]⟩ : Shape).size d)
    (inb1 : ∀ d, (![1, 0, 0] : Fin 3 → ℕ) d + (![1, a, b] : Fin 3 → ℕ) d ≤ (⟨3, ![2, a, b]⟩ : Shape).size d)
    (A B : (⟨3, ![1, a, b]⟩ : Shape).Idx → Val e) :
    v.readCov [⟨Rect.unit (s := ⟨3, ![2, a, b]⟩) ![1, 0, 0] ![1, a, b] inb1, B⟩, ⟨Rect.unit (s := ⟨3, ![2, a, b]⟩) ![0, 0, 0] ![1, a, b] inb0, A⟩]
      (Rect.unit (s := ⟨3, ![2, a, b]⟩) ![0, 0, 0] ![1, a, b] inb0').toLoadRect = A :=
  (ld_plane0 v _ inb0').trans ((congrArg (plane 0) (st_planes v _ inb0 inb1 A B)).trans (plane_planes0 A B))
theorem cov_plane1 [∀ e, Nonempty (Val e)] (v : View sig κ sp ⟨3, ![2, a, b]⟩ e)
    (inb0 : ∀ d, (![0, 0, 0] : Fin 3 → ℕ) d + (![1, a, b] : Fin 3 → ℕ) d ≤ (⟨3, ![2, a, b]⟩ : Shape).size d)
    (inb1 inb1' : ∀ d, (![1, 0, 0] : Fin 3 → ℕ) d + (![1, a, b] : Fin 3 → ℕ) d ≤ (⟨3, ![2, a, b]⟩ : Shape).size d)
    (A B : (⟨3, ![1, a, b]⟩ : Shape).Idx → Val e) :
    v.readCov [⟨Rect.unit (s := ⟨3, ![2, a, b]⟩) ![1, 0, 0] ![1, a, b] inb1, B⟩, ⟨Rect.unit (s := ⟨3, ![2, a, b]⟩) ![0, 0, 0] ![1, a, b] inb0, A⟩]
      (Rect.unit (s := ⟨3, ![2, a, b]⟩) ![1, 0, 0] ![1, a, b] inb1').toLoadRect = B :=
  (ld_plane1 v _ inb1').trans ((congrArg (plane 1) (st_planes v _ inb0 inb1 A B)).trans (plane_planes1 A B))

/-- Both rows of a two-row buffer stored. -/
def rows2 {α : Type} {b : ℕ} (A B : (⟨2, ![1, b]⟩ : Shape).Idx → α) : (⟨2, ![2, b]⟩ : Shape).Idx → α :=
  fun y => if (y 0).val = 0 then A (fun d => match d with | 0 => ⟨0, Nat.one_pos⟩ | 1 => y 1)
    else B (fun d => match d with | 0 => ⟨0, Nat.one_pos⟩ | 1 => y 1)
theorem st_rows (v : View sig κ sp ⟨2, ![2, b]⟩ e) (f : v.ty.Contents Val)
    (inb0 : ∀ d, (![0, 0] : Fin 2 → ℕ) d + (![1, b] : Fin 2 → ℕ) d ≤ (⟨2, ![2, b]⟩ : Shape).size d)
    (inb1 : ∀ d, (![1, 0] : Fin 2 → ℕ) d + (![1, b] : Fin 2 → ℕ) d ≤ (⟨2, ![2, b]⟩ : Shape).size d)
    (A B : (⟨2, ![1, b]⟩ : Shape).Idx → Val e) :
    v.read Val (v.writes Val f [⟨Rect.unit (s := ⟨2, ![2, b]⟩) ![1, 0] ![1, b] inb1, B⟩, ⟨Rect.unit (s := ⟨2, ![2, b]⟩) ![0, 0] ![1, b] inb0, A⟩])
      = rows2 (α := Val e) A B := by
  funext y
  rw [View.read_writes_cons_unit v f inb1 B _ y rfl]
  have h0 : (y 0).val < 2 := (y 0).isLt
  have h1 : (y 1).val < b := (y 1).isLt
  unfold rows2
  by_cases h : (y 0).val = 0
  · rw [dif_neg (fun hh => by have := (hh 0).1; have e1 : 1 ≤ (y 0).val := this; omega), if_pos h, View.read_writes_cons_unit v f inb0 A _ y rfl,
      dif_pos (fun d => match d with
        | 0 => ⟨Nat.zero_le _, by show (y 0).val < 0 + 1; omega⟩
        | 1 => ⟨Nat.zero_le _, by show (y 1).val < 0 + b; omega⟩)]
    exact congrArg A (funext fun d => match d with
      | 0 => Fin.ext (by show (y 0).val - 0 = 0; omega)
      | 1 => Fin.ext (by show (y 1).val - 0 = (y 1).val; omega))
  · rw [if_neg h, dif_pos (fun d => match d with
        | 0 => ⟨by show 1 ≤ (y 0).val; omega, by show (y 0).val < 1 + 1; omega⟩
        | 1 => ⟨Nat.zero_le _, by show (y 1).val < 0 + b; omega⟩)]
    exact congrArg B (funext fun d => match d with
      | 0 => Fin.ext (by show (y 0).val - 1 = 0; omega)
      | 1 => Fin.ext (by show (y 1).val - 0 = (y 1).val; omega))

/-- The `1 × 1 × 256` row of a `K × 2 × 256` buffer at offsets `off`. -/
def win {α : Type} {K : ℕ} (X : (⟨3, ![K + 1, 2, 256]⟩ : Shape).Idx → α) (off : Fin 3 → ℕ) : (⟨3, ![1, 1, 256]⟩ : Shape).Idx → α :=
  fun y => X (fun d => match d with
    | 0 => ⟨min (off 0) K, by show min (off 0) K < K + 1; omega⟩
    | 1 => ⟨min (off 1) 1, by show min (off 1) 1 < 2; omega⟩
    | 2 => y 2)
theorem ld_win {K : ℕ} (v : View sig κ sp ⟨3, ![K + 1, 2, 256]⟩ e) (f : v.ty.Contents Val) (off : Fin 3 → ℕ)
    (inb : ∀ d, off d + (![1, 1, 256] : Fin 3 → ℕ) d ≤ (⟨3, ![K + 1, 2, 256]⟩ : Shape).size d) :
    v.readAt Val (Rect.unit (s := ⟨3, ![K + 1, 2, 256]⟩) off ![1, 1, 256] inb).toLoadRect f = win (α := Val e) (v.read Val f) off := by
  have i0 : off 0 + 1 ≤ K + 1 := inb 0
  have i1 : off 1 + 1 ≤ 2 := inb 1
  have i2 : off 2 + 256 ≤ 256 := inb 2
  funext y
  exact congrArg (v.read Val f) (funext fun d => match d with
    | 0 => Fin.ext (by have : (y 0).val < 1 := (y 0).isLt; show off 0 + 1 * (y 0).val = min (off 0) K; omega)
    | 1 => Fin.ext (by have : (y 1).val < 1 := (y 1).isLt; show off 1 + 1 * (y 1).val = min (off 1) 1; omega)
    | 2 => Fin.ext (by show off 2 + 1 * (y 2).val = (y 2).val; omega))

/-- A load of a whole matrix. -/
theorem ld_all (v : View sig κ sp ⟨2, ![a, b]⟩ e) (f : v.ty.Contents Val) (inb : ∀ d, (![0, 0] : Fin 2 → ℕ) d + (![a, b] : Fin 2 → ℕ) d ≤ (⟨2, ![a, b]⟩ : Shape).size d) :
    v.readAt Val (Rect.unit (s := ⟨2, ![a, b]⟩) ![0, 0] ![a, b] inb).toLoadRect f = v.read Val f :=
  View.readAt_full v f inb

/-- Four blocks side by side: two planes of two halves. -/
def quads {α : Type} (A0 A1 B0 B1 : (⟨3, ![1, 512, 128]⟩ : Shape).Idx → α) : (⟨3, ![2, 512, 256]⟩ : Shape).Idx → α :=
  fun y =>
    let l : Fin 128 := ⟨(y 2).val % 128, Nat.mod_lt _ (by decide)⟩
    let z : (⟨3, ![1, 512, 128]⟩ : Shape).Idx := fun d => match d with | 0 => ⟨0, Nat.one_pos⟩ | 1 => y 1 | 2 => l
    if (y 0).val = 0 then (if (y 2).val < 128 then A0 z else A1 z) else (if (y 2).val < 128 then B0 z else B1 z)
theorem st_quads (v : View sig κ sp ⟨3, ![2, 512, 256]⟩ e) (f : v.ty.Contents Val)
    (i00 : ∀ d, (![0, 0, 0] : Fin 3 → ℕ) d + (![1, 512, 128] : Fin 3 → ℕ) d ≤ (⟨3, ![2, 512, 256]⟩ : Shape).size d)
    (i01 : ∀ d, (![0, 0, 128] : Fin 3 → ℕ) d + (![1, 512, 128] : Fin 3 → ℕ) d ≤ (⟨3, ![2, 512, 256]⟩ : Shape).size d)
    (i10 : ∀ d, (![1, 0, 0] : Fin 3 → ℕ) d + (![1, 512, 128] : Fin 3 → ℕ) d ≤ (⟨3, ![2, 512, 256]⟩ : Shape).size d)
    (i11 : ∀ d, (![1, 0, 128] : Fin 3 → ℕ) d + (![1, 512, 128] : Fin 3 → ℕ) d ≤ (⟨3, ![2, 512, 256]⟩ : Shape).size d)
    (A0 A1 B0 B1 : (⟨3, ![1, 512, 128]⟩ : Shape).Idx → Val e) :
    v.read Val (v.writes Val f [⟨Rect.unit (s := ⟨3, ![2, 512, 256]⟩) ![1, 0, 128] ![1, 512, 128] i11, B1⟩,
        ⟨Rect.unit (s := ⟨3, ![2, 512, 256]⟩) ![1, 0, 0] ![1, 512, 128] i10, B0⟩,
        ⟨Rect.unit (s := ⟨3, ![2, 512, 256]⟩) ![0, 0, 128] ![1, 512, 128] i01, A1⟩,
        ⟨Rect.unit (s := ⟨3, ![2, 512, 256]⟩) ![0, 0, 0] ![1, 512, 128] i00, A0⟩])
      = quads (α := Val e) A0 A1 B0 B1 := by
  funext y
  have h0 : (y 0).val < 2 := (y 0).isLt
  have h1 : (y 1).val < 512 := (y 1).isLt
  have h2 : (y 2).val < 256 := (y 2).isLt
  have key : ∀ (p q : ℕ) (hp : (y 0).val = p) (hq : q ≤ (y 2).val ∧ (y 2).val < q + 128) (d : Fin 3),
      (![p, 0, q] : Fin 3 → ℕ) d ≤ (y d).val ∧ (y d).val < (![p, 0, q] : Fin 3 → ℕ) d + (![1, 512, 128] : Fin 3 → ℕ) d := fun p q hp hq d => match d with
    | 0 => ⟨by show p ≤ (y 0).val; omega, by show (y 0).val < p + 1; omega⟩
    | 1 => ⟨Nat.zero_le _, by show (y 1).val < 0 + 512; omega⟩
    | 2 => hq
  have keyn : ∀ (p q : ℕ) (hn : ¬ ((y 0).val = p ∧ q ≤ (y 2).val ∧ (y 2).val < q + 128)),
      ¬ ∀ d : Fin 3, (![p, 0, q] : Fin 3 → ℕ) d ≤ (y d).val ∧ (y d).val < (![p, 0, q] : Fin 3 → ℕ) d + (![1, 512, 128] : Fin 3 → ℕ) d := fun p q hn hh => by
    have a1 : p ≤ (y 0).val := (hh 0).1
    have a2 : (y 0).val < p + 1 := (hh 0).2
    have a3 : q ≤ (y 2).val := (hh 2).1
    have a4 : (y 2).val < q + 128 := (hh 2).2
    exact hn ⟨by omega, a3, a4⟩
  unfold quads
  by_cases hA : (y 0).val = 0 <;> by_cases hB : (y 2).val < 128
  · rw [View.read_writes_cons_unit v f i11 B1 _ y rfl, dif_neg (keyn 1 128 (by omega)), View.read_writes_cons_unit v f i10 B0 _ y rfl, dif_neg (keyn 1 0 (by omega)),
      View.read_writes_cons_unit v f i01 A1 _ y rfl, dif_neg (keyn 0 128 (by omega)), View.read_writes_cons_unit v f i00 A0 _ y rfl, dif_pos (key 0 0 hA (by omega))]
    simp only [if_pos hA, if_pos hB]
    exact congrArg A0 (funext fun d => match d with
      | 0 => Fin.ext (by show (y 0).val - 0 = 0; omega)
      | 1 => Fin.ext (by show (y 1).val - 0 = (y 1).val; omega)
      | 2 => Fin.ext (by show (y 2).val - 0 = (y 2).val % 128; omega))
  · rw [View.read_writes_cons_unit v f i11 B1 _ y rfl, dif_neg (keyn 1 128 (by omega)), View.read_writes_cons_unit v f i10 B0 _ y rfl, dif_neg (keyn 1 0 (by omega)),
      View.read_writes_cons_unit v f i01 A1 _ y rfl, dif_pos (key 0 128 hA (by omega))]
    simp only [if_pos hA, if_neg hB]
    exact congrArg A1 (funext fun d => match d with
      | 0 => Fin.ext (by show (y 0).val - 0 = 0; omega)
      | 1 => Fin.ext (by show (y 1).val - 0 = (y 1).val; omega)
      | 2 => Fin.ext (by show (y 2).val - 128 = (y 2).val % 128; omega))
  · rw [View.read_writes_cons_unit v f i11 B1 _ y rfl, dif_neg (keyn 1 128 (by omega)), View.read_writes_cons_unit v f i10 B0 _ y rfl, dif_pos (key 1 0 (by omega) (by omega))]
    simp only [if_neg hA, if_pos hB]
    exact congrArg B0 (funext fun d => match d with
      | 0 => Fin.ext (by show (y 0).val - 1 = 0; omega)
      | 1 => Fin.ext (by show (y 1).val - 0 = (y 1).val; omega)
      | 2 => Fin.ext (by show (y 2).val - 0 = (y 2).val % 128; omega))
  · rw [View.read_writes_cons_unit v f i11 B1 _ y rfl, dif_pos (key 1 128 (by omega) (by omega))]
    simp only [if_neg hA, if_neg hB]
    exact congrArg B1 (funext fun d => match d with
      | 0 => Fin.ext (by show (y 0).val - 1 = 0; omega)
      | 1 => Fin.ext (by show (y 1).val - 0 = (y 1).val; omega)
      | 2 => Fin.ext (by show (y 2).val - 128 = (y 2).val % 128; omega))
end

/-! ## The three stages -/

/-- The products of a weight tile with one row of `1 + mod_scale`, and each row's maxima over its 24 groups of lanes. -/
def aP (w : Vec F S256x3072 .fp8e4m3) (mr : Vec F S1x8x3072 .f32) : Vec F S1x256x3072 .f32 := k0_pay70 w mr
def aM (w : Vec F S256x3072 .fp8e4m3) (mr : Vec F S1x8x3072 .f32) : Vec F S1x256x128 .f32 :=
  k0_pay78 (k0_pay73 (k0_pay71 w mr) (k0_pay72 w mr))
/-- The additive term of a tile: shift product times the weight scale, plus the bias. -/
def aC (sh : Vec F S16x3072 .bf16) (w : Vec F S256x3072 .fp8e4m3) (ws b : Vec F S1x256 .f32) : Vec F S1x2x256 .f32 := k0_pay1 sh w ws b

/-- The exponent field of the scale, the scale, and the factor of the codes, from the weight scales and the row maxima. -/
def bE (ws : Vec F S1x1x256 .f32) (mx : Vec F S1x256x128 .f32) : IVec S1x256 32 := Scf.fold (fun k x => k0_pay47 ws mx k x) k0_pay46
def bS (ws : Vec F S1x1x256 .f32) (mx : Vec F S1x256x128 .f32) : Vec F S1x256 .f32 := k0_pay49 ws mx (bE ws mx)
def bR (ws : Vec F S1x1x256 .f32) (mx : Vec F S1x256x128 .f32) : Vec F S1x256x128 .f32 :=
  k0_pay52 (k0_pay44 ws) (k0_pay50 ws mx (bE ws mx))
/-- The codes of a tile for one batch element. -/
def bQ (ws : Vec F S1x1x256 .f32) (mx : Vec F S1x256x128 .f32) (p : Vec F S1x256x3072 .f32) : Vec F S1x256x3072 .fp8e4m3 :=
  k0_pay62 (bR ws mx) p
/-- A row of scales as it lies in the buffer of scales. -/
def up (s : Vec F S1x256 .f32) : Vec F S1x1x256 .f32 := k0_pay59 s

/-- The two halves of an output tile for one batch element. -/
def cY0 (h : Vec F S1x512x3072 .fp8e4m3) (q : Vec F S1x256x3072 .fp8e4m3) (sc cc : Vec F S1x1x256 .f32) (hr : Vec F S1x512x128 .f32) :
    Vec F S1x512x128 .bf16 := k0_pay86 h q sc cc hr
def cY1 (h : Vec F S1x512x3072 .fp8e4m3) (q : Vec F S1x256x3072 .fp8e4m3) (sc cc : Vec F S1x1x256 .f32) (hr : Vec F S1x512x128 .f32) :
    Vec F S1x512x128 .bf16 := k0_pay88 (k0_pay87 h q sc cc hr)

/-! ## The buffers carried from step to step -/

/-- The contents of the scratch buffers every step may read or write. -/
structure Bufs (F : FTy → Type) where
  p0 : Vec F S2x256x3072 .f32
  p1 : Vec F S2x256x3072 .f32
  q0 : Vec F S2x256x3072 .fp8e4m3
  q1 : Vec F S2x256x3072 .fp8e4m3
  m0 : Vec F S2x256x128 .f32
  m1 : Vec F S2x256x128 .f32
  r : Vec F S2x256x128 .f32
  hr : Vec F S2x512x128 .f32
  mr : Vec F S2x8x3072 .f32
  sh : Vec F S16x3072 .bf16
  cv : Vec F S37x2x256 .f32
  sc : Vec F S36x2x256 .f32

/-- Both planes of the stage-A products, of the maxima, and of the stage-B results. -/
def aP2 (w : Vec F S256x3072 .fp8e4m3) (mr : Vec F S2x8x3072 .f32) : Vec F S2x256x3072 .f32 := planes (aP w (plane 0 mr)) (aP w (plane 1 mr))
def aM2 (w : Vec F S256x3072 .fp8e4m3) (mr : Vec F S2x8x3072 .f32) : Vec F S2x256x128 .f32 := planes (aM w (plane 0 mr)) (aM w (plane 1 mr))
def bQ2 (ws : Vec F S1x1x256 .f32) (mx : Vec F S2x256x128 .f32) (p : Vec F S2x256x3072 .f32) : Vec F S2x256x3072 .fp8e4m3 :=
  planes (bQ ws (plane 0 mx) (plane 0 p)) (bQ ws (plane 1 mx) (plane 1 p))
def bS2 (ws : Vec F S1x1x256 .f32) (mx : Vec F S2x256x128 .f32) : Vec F S2x256 .f32 := rows2 (bS ws (plane 0 mx)) (bS ws (plane 1 mx))
def bR2 (ws : Vec F S1x1x256 .f32) (mx : Vec F S2x256x128 .f32) : Vec F S2x256x128 .f32 := planes (bR ws (plane 0 mx)) (bR ws (plane 1 mx))
/-- The buffer of scales with a tile's two rows stored. -/
def scPut (Sc : Vec F S36x2x256 .f32) (o0 o1 : Fin 3 → ℕ) (ws : Vec F S1x1x256 .f32) (mx : Vec F S2x256x128 .f32) : Vec F S36x2x256 .f32 :=
  put (put Sc o0 S1x1x256.size (up (bS ws (plane 0 mx)))) o1 S1x1x256.size (up (bS ws (plane 1 mx)))
/-- The buffer of additive terms with a tile's rows stored, and with the weight scales kept in its last plane. -/
def cvPut (C : Vec F S37x2x256 .f32) (o : Fin 3 → ℕ) (a : Vec F S1x2x256 .f32) : Vec F S37x2x256 .f32 := put C o S1x2x256.size a
def cvKeep (C : Vec F S37x2x256 .f32) (ws : Vec F S1x256 .f32) : Vec F S37x2x256 .f32 := put C ![36, 0, 0] S1x1x256.size (k0_pay7 ws)
/-- An output tile. -/
def cY (h : Vec F S2x512x3072 .fp8e4m3) (q : Vec F S2x256x3072 .fp8e4m3) (hr : Vec F S2x512x128 .f32) (s0 c0 s1 c1 : Vec F S1x1x256 .f32) :
    Vec F S2x512x256 .bf16 :=
  quads (cY0 (plane 0 h) (plane 0 q) s0 c0 (plane 0 hr)) (cY1 (plane 0 h) (plane 0 q) s0 c0 (plane 0 hr))
    (cY0 (plane 1 h) (plane 1 q) s1 c1 (plane 1 hr)) (cY1 (plane 1 h) (plane 1 q) s1 c1 (plane 1 hr))

/-- The buffers after each kind of step: step 1, the even and odd steps in between, step 36 and step 37. -/
def step2 (S : Bufs F) (w : Vec F S256x3072 .fp8e4m3) (ws b : Vec F S1x256 .f32) : Bufs F :=
  { S with p1 := aP2 w S.mr, m1 := aM2 w S.mr, q0 := bQ2 (win S.cv ![36, 0, 0]) S.m0 S.p0, r := bR2 (win S.cv ![36, 0, 0]) S.m0,
           sc := scPut S.sc ![0, 0, 0] ![0, 1, 0] (win S.cv ![36, 0, 0]) S.m0, cv := cvKeep (cvPut S.cv ![1, 0, 0] (aC S.sh w ws b)) ws }
def step3 (i : grid0.Coords) (S : Bufs F) (w : Vec F S256x3072 .fp8e4m3) (ws b : Vec F S1x256 .f32) : Bufs F :=
  { S with p0 := aP2 w S.mr, m0 := aM2 w S.mr, q1 := bQ2 (win S.cv ![36, 0, 0]) S.m1 S.p1, r := bR2 (win S.cv ![36, 0, 0]) S.m1,
           sc := scPut S.sc (k0_off4 i 1#32) (k0_off6 i 1#32) (win S.cv ![36, 0, 0]) S.m1, cv := cvKeep (cvPut S.cv (k0_off8 i) (aC S.sh w ws b)) ws }
def step4 (i : grid0.Coords) (S : Bufs F) (w : Vec F S256x3072 .fp8e4m3) (ws b : Vec F S1x256 .f32) : Bufs F :=
  { S with p1 := aP2 w S.mr, m1 := aM2 w S.mr, q0 := bQ2 (win S.cv ![36, 0, 0]) S.m0 S.p0, r := bR2 (win S.cv ![36, 0, 0]) S.m0,
           sc := scPut S.sc (k0_off9 i 1#32) (k0_off11 i 1#32) (win S.cv ![36, 0, 0]) S.m0, cv := cvKeep (cvPut S.cv (k0_off13 i) (aC S.sh w ws b)) ws }
def step5 (i : grid0.Coords) (S : Bufs F) (ws : Vec F S1x256 .f32) : Bufs F :=
  { S with q1 := bQ2 (win S.cv ![36, 0, 0]) S.m1 S.p1, r := bR2 (win S.cv ![36, 0, 0]) S.m1,
           sc := scPut S.sc (k0_off14 i 1#32) (k0_off16 i 1#32) (win S.cv ![36, 0, 0]) S.m1, cv := cvKeep S.cv ws }
def step6 (S : Bufs F) (ws : Vec F S1x256 .f32) : Bufs F := { S with cv := cvKeep S.cv ws }

end Cert.KernelIdeal.Hand

end
-- ==== Proof.KernelIdeal.Held.lean ====
/-
  The scratch buffers and the copy of the activation codes, as the steps hold them.
-/
module

public import proofs.«01_k».proof.Proof.KernelIdeal.Stages

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

/-- The scratch buffers held whole at given contents. -/
def held (c : Dev nD) (S : Bufs F) : sProp 𝕄 :=
  iprop(owns (c : Thread nD τ) p0 fullShare S.p0 ∗ owns (c : Thread nD τ) p1 fullShare S.p1 ∗ owns (c : Thread nD τ) wq0 fullShare S.q0 ∗ owns (c : Thread nD τ) wq1 fullShare S.q1
    ∗ owns (c : Thread nD τ) m0 fullShare S.m0 ∗ owns (c : Thread nD τ) m1 fullShare S.m1 ∗ owns (c : Thread nD τ) rV fullShare S.r ∗ owns (c : Thread nD τ) hrep fullShare S.hr
    ∗ owns (c : Thread nD τ) mrep fullShare S.mr ∗ owns (c : Thread nD τ) shV fullShare S.sh ∗ owns (c : Thread nD τ) cV fullShare S.cv ∗ owns (c : Thread nD τ) scV fullShare S.sc)

/-- The activation codes on their way out: the copy delivers the array and gives back the half of the buffer it was lent. -/
abbrev hFlight (c : Dev nD) (fy : Buf (Elt F) (hH.view.loc (c : Thread nD τ))) (fk : Buf (Elt F) (hV.view.loc (c : Thread nD τ))) : sProp 𝕄 :=
  Transfers.Flight (countersEmb (U := Pipeline.UD sig nD τ)) (c : Thread nD τ) (.dma 16) () (hH.view.amount (SemLoc.dma (sig := sig) 16))
    iprop((hH.view.loc (c : Thread nD τ) ↦[hH.view.set]{fullShare} fy) ∗ (hV.view.loc (c : Thread nD τ) ↦[hV.view.set]{fullShare.right} fk))
/-- The half of the codes the steps go on reading. -/
abbrev hKept (c : Dev nD) (fk : Buf (Elt F) (hV.view.loc (c : Thread nD τ))) : sProp 𝕄 := (hV.view.loc (c : Thread nD τ) ↦[hV.view.set]{fullShare.left} fk)

end Cert.KernelIdeal.Hand
end
-- ==== Proof.KernelIdeal.Ln.lean ====
/-
  The normalisation of the activations: one block of 256 rows per trip of its loop.
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

set_option maxHeartbeats 400000

/-! ## One block of rows -/

def lnMu (xb : Vec F S256x3072 .bf16) : Vec F S1x256x128 .f32 := k0_pay11 (k0_pay8 xb) (k0_pay9 xb) (k0_pay10 xb)
def lnXc (xb : Vec F S256x3072 .bf16) : Vec F S1x256x3072 .f32 := k0_pay13 (lnMu xb) xb
def lnXX (xb : Vec F S256x3072 .bf16) : FVec F S256x3072 .f32 := k0_pay14 (lnMu xb) xb
def lnAX (xb : Vec F S256x3072 .bf16) : FVec F S256x3072 .f32 := k0_pay15 (lnMu xb) xb
def lnSq (xb : Vec F S256x3072 .bf16) : FVec F S256x128 .f32 := k0_pay18 (lnXX xb) (k0_pay16 (lnMu xb) xb)
def lnMx (xb : Vec F S256x3072 .bf16) : FVec F S256x128 .f32 := k0_pay19 (lnAX xb) (k0_pay17 (lnMu xb) xb)
def lnE (xb : Vec F S256x3072 .bf16) : IVec S256x1 32 :=
  Scf.fold (fun k x => k0_pay23 (lnXX xb) (lnAX xb) (lnSq xb) (lnMx xb) k x) k0_pay22
def lnScale (xb : Vec F S256x3072 .bf16) : Vec F S1x256x128 .f32 := k0_pay40 (k0_pay26 (lnXX xb) (lnAX xb) (lnSq xb) (lnMx xb) (lnE xb))
def lnRI (xb : Vec F S256x3072 .bf16) : Vec F S1x256x128 .f32 := k0_pay41 (k0_pay20 (lnXX xb) (lnSq xb)) (k0_pay25 (lnXX xb) (lnAX xb) (lnSq xb) (lnMx xb) (lnE xb))
def lnH (xb : Vec F S256x3072 .bf16) : Vec F S1x256x3072 .fp8e4m3 := k0_pay42 (lnRI xb) (lnXc xb)

theorem off1_eq : ∀ k : Fin k0_t1_loop.trips, k0_off1 k = ![256 * k.val, 0] := by decide
theorem off2_eq : ∀ k : Fin k0_t1_loop.trips, k0_off2 k = ![k.val / 2, 256 * (k.val % 2), 0] := by decide
theorem off3_eq : ∀ k : Fin k0_t1_loop.trips, k0_off3 k = ![k.val / 2, 256 * (k.val % 2), 0] := by decide
theorem trips1 : k0_t1_loop.trips = 4 := by decide

/-- The 256 rows from row `o` on. -/
def rowsAt (X : Vec F S1024x3072 .bf16) (o : ℕ) : Vec F S256x3072 .bf16 :=
  fun y => X (fun d => match d with
    | 0 => ⟨min (o + (y 0).val) 1023, by show min (o + (y 0).val) 1023 < 1024; omega⟩
    | 1 => y 1)

/-- The scales and the codes of all the rows. -/
def lnHR (X : Vec F S1024x3072 .bf16) : Vec F S2x512x128 .f32 :=
  fun y => lnScale (rowsAt X (256 * (2 * (y 0).val + (y 1).val / 256))) (fun d => match d with
    | 0 => ⟨0, Nat.one_pos⟩
    | 1 => ⟨(y 1).val % 256, Nat.mod_lt _ (by decide)⟩
    | 2 => y 2)
def lnHV (X : Vec F S1024x3072 .bf16) : Vec F S2x512x3072 .fp8e4m3 :=
  fun y => lnH (rowsAt X (256 * (2 * (y 0).val + (y 1).val / 256))) (fun d => match d with
    | 0 => ⟨0, Nat.one_pos⟩
    | 1 => ⟨(y 1).val % 256, Nat.mod_lt _ (by decide)⟩
    | 2 => y 2)

section
variable (c : Dev nD) (i : grid0.Coords) (arg1 : Memref sig .tc .hbm S1024x3072 .bf16) (harg1 : arg1.IsWhole) (arg2 : Memref sig .tc .vmem S2x3072 .f32) (harg2 : arg2.IsWhole) (arg3 : Memref sig .tc .vmem S2x3072 .f32) (harg3 : arg3.IsWhole) (arg4 : Memref sig .tc .vmem S256x3072 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x512x256 .bf16) (harg7 : arg7.IsWhole) (arg8 : Memref sig .tc .hbm S2x512x3072 .fp8e4m3) (harg8 : arg8.IsWhole) (arg9 : Memref sig .tc .vmem S2x512 .f32) (harg9 : arg9.IsWhole) (arg10 : Memref sig .tc .vmem S2x256x3072 .fp8e4m3) (harg10 : arg10.IsWhole) (arg11 : Memref sig .tc .vmem S2x256 .f32) (harg11 : arg11.IsWhole) (arg12 : Memref sig .tc .vmem S1024x3072 .bf16) (harg12 : arg12.IsWhole) (arg13 : Memref sig .tc .vmem S2x256x3072 .f32) (harg13 : arg13.IsWhole) (arg14 : Memref sig .tc .vmem S2x256x3072 .f32) (harg14 : arg14.IsWhole) (arg15 : Memref sig .tc .vmem S2x256x3072 .fp8e4m3) (harg15 : arg15.IsWhole) (arg16 : Memref sig .tc .vmem S2x256x3072 .fp8e4m3) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x128 .f32) (harg19 : arg19.IsWhole) (arg20 : Memref sig .tc .vmem S2x512x3072 .fp8e4m3) (harg20 : arg20.IsWhole) (arg21 : Memref sig .tc .vmem S2x512x128 .f32) (harg21 : arg21.IsWhole) (arg22 : Memref sig .tc .vmem S2x8x3072 .f32) (harg22 : arg22.IsWhole) (arg23 : Memref sig .tc .vmem S16x3072 .bf16) (harg23 : arg23.IsWhole) (arg24 : Memref sig .tc .vmem S37x2x256 .f32) (harg24 : arg24.IsWhole) (arg25 : Memref sig .tc .vmem S36x2x256 .f32) (harg25 : arg25.IsWhole) (arg26 : DmaSems sig S_) (arg27 : DmaSems sig S_) (k0_h1 : k0_cond1 i = 1#1) (v135 : FVec F S256x128 .f32) (v190 : FVec F S256x128 .f32)

/-- The rows a trip reads. -/
def xrows (X : arg12.view.ty.Contents (Elt F)) (k : Fin k0_t1_loop.trips) : Vec F S256x3072 .bf16 :=
  arg12.view.readAt (Elt F) (Rect.unit (s := S1024x3072) (k0_off1 k) S256x3072.size (k0_off1_inb i k k0_h1)).toLoadRect X

/-- What the trips before `k` stored into the scales and into the codes, newest first. -/
def hrP (X : arg12.view.ty.Contents (Elt F)) : ℕ → List (View.Piece (Elt F) S2x512x128 .f32)
  | 0 => []
  | k + 1 => if h : k < k0_t1_loop.trips then
      ⟨Rect.unit (s := S2x512x128) (k0_off2 ⟨k, h⟩) S1x256x128.size (k0_off2_inb i ⟨k, h⟩ k0_h1), lnScale (xrows i arg12 k0_h1 X ⟨k, h⟩)⟩
        :: ⟨Rect.unit (s := S2x512x128) (k0_off2 ⟨k, h⟩) S1x256x128.size (k0_off2_inb i ⟨k, h⟩ k0_h1), lnMu (xrows i arg12 k0_h1 X ⟨k, h⟩)⟩ :: hrP X k
    else hrP X k
def hvP (X : arg12.view.ty.Contents (Elt F)) : ℕ → List (View.Piece (Elt F) S2x512x3072 .fp8e4m3)
  | 0 => []
  | k + 1 => if h : k < k0_t1_loop.trips then
      ⟨Rect.unit (s := S2x512x3072) (k0_off3 ⟨k, h⟩) S1x256x3072.size (k0_off3_inb i ⟨k, h⟩ k0_h1), lnH (xrows i arg12 k0_h1 X ⟨k, h⟩)⟩ :: hvP X k
    else hvP X k

/-- Before trip `k`: the rows untouched, the scales and the codes of the blocks before `k` stored. -/
def lnInv (X : Buf (Elt F) (arg12.view.loc (c : Thread nD τ))) (R : Buf (Elt F) (arg21.view.loc (c : Thread nD τ))) (Hv : Buf (Elt F) (arg20.view.loc (c : Thread nD τ))) (k : ℕ) (acc : Unit) : sProp 𝕄 :=
  iprop((arg12.view.loc (c : Thread nD τ) ↦[arg12.view.set]{fullShare} X)
    ∗ (∃ fr, (arg21.view.loc (c : Thread nD τ) ↦[arg21.view.set]{fullShare} fr) ∗ ⌜fr = arg21.view.writes (Elt F) R (hrP i arg12 k0_h1 X k)⌝)
    ∗ (∃ fh, (arg20.view.loc (c : Thread nD τ) ↦[arg20.view.set]{fullShare} fh) ∗ ⌜fh = arg20.view.writes (Elt F) Hv (hvP i arg12 k0_h1 X k)⌝)
    ∗ (∃ f, arg14.view.loc (c : Thread nD τ) ↦[arg14.view.set]{fullShare} f)
    ∗ (∃ f, arg19.view.loc (c : Thread nD τ) ↦[arg19.view.set]{fullShare} f))

set_option warn.classDefReducibility false in
@[sl_loop] noncomputable def loopInv_k0_t1 (X : Buf (Elt F) (arg12.view.loc (c : Thread nD τ))) (R : Buf (Elt F) (arg21.view.loc (c : Thread nD τ))) (Hv : Buf (Elt F) (arg20.view.loc (c : Thread nD τ))) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 k0_h1 v135 v190 where
  inv := lnInv c i arg12 arg14 arg19 arg20 arg21 k0_h1 X R Hv
  step := fun k acc => by
    unfold lnInv k0_t1_body
    iintro ⟨H12, ⟨%fr, H21, %hr⟩, ⟨%fh, H20, %hh⟩, ⟨%f14, H14⟩, ⟨%f19, H19⟩⟩
    subst hr hh
    sl_exec
    sl_step
    isplitl [H12]; · iexact H12
    isplitl [H21]
    · iexists _; isplitl [H21]; · iexact H21
      ipureintro
      sl_unfold_run_names
      simp only [View.readCov_cons_toLoadRect]
      show _ = arg21.view.writes (Elt F) R (hrP i arg12 k0_h1 X (k.val + 1))
      rw [hrP, dif_pos k.isLt]; rfl
    isplitl [H20]
    · iexists _; isplitl [H20]; · iexact H20
      ipureintro
      sl_unfold_run_names
      simp only [View.readCov_cons_toLoadRect]
      show _ = arg20.view.writes (Elt F) Hv (hvP i arg12 k0_h1 X (k.val + 1))
      rw [hvP, dif_pos k.isLt]; rfl
    isplitl [H14]
    · iexists _; iexact H14
    iexists _; iexact H19

theorem xrows_eq (X : arg12.view.ty.Contents (Elt F)) (k : Fin k0_t1_loop.trips) :
    xrows i arg12 k0_h1 X k = rowsAt (arg12.view.read (Elt F) X) (256 * k.val) := by
  have e0 : k0_off1 k 0 = 256 * k.val := by rw [off1_eq]; rfl
  have e1 : k0_off1 k 1 = 0 := by rw [off1_eq]; rfl
  have hk : k.val < 4 := trips1 ▸ k.isLt
  funext y
  have h0 : (y 0).val < 256 := (y 0).isLt
  exact congrArg (arg12.view.read (Elt F) X) (funext fun d => match d with
    | 0 => Fin.ext (by show k0_off1 k 0 + 1 * (y 0).val = min (256 * k.val + (y 0).val) 1023; omega)
    | 1 => Fin.ext (by show k0_off1 k 1 + 1 * (y 1).val = (y 1).val; omega))

theorem hr_get (X : arg12.view.ty.Contents (Elt F)) (R : arg21.view.ty.Contents (Elt F)) : ∀ (k : ℕ) (_ : k ≤ k0_t1_loop.trips) (y : S2x512x128.Idx)
    (_ : 2 * (y 0).val + (y 1).val / 256 < k),
    arg21.view.read (Elt F) (arg21.view.writes (Elt F) R (hrP i arg12 k0_h1 X k)) y = lnHR (arg12.view.read (Elt F) X) y
  | 0, _, y, h => absurd h (Nat.not_lt_zero _)
  | k + 1, hk, y, h => by
    have h0 : (y 0).val < 2 := (y 0).isLt
    have h1 : (y 1).val < 512 := (y 1).isLt
    have hk4 : k < 4 := by have := trips1; omega
    rw [hrP, dif_pos (show k < k0_t1_loop.trips by omega)]
    by_cases e : 2 * (y 0).val + (y 1).val / 256 = k
    · have hit : ∀ (w : Vec F S1x256x128 .f32) (L : List (View.Piece (Elt F) S2x512x128 .f32)),
          arg21.view.read (Elt F) (arg21.view.writes (Elt F) R ((⟨Rect.unit (s := S2x512x128) (k0_off2 ⟨k, by omega⟩) S1x256x128.size (k0_off2_inb i ⟨k, by omega⟩ k0_h1), w⟩ : View.Piece (Elt F) S2x512x128 .f32) :: L)) y
            = w (fun d => match d with | 0 => ⟨0, Nat.one_pos⟩ | 1 => ⟨(y 1).val % 256, Nat.mod_lt _ (by decide)⟩ | 2 => y 2) := fun w L =>
        View.read_writes_cons_unit_of_mem arg21.view R _ w L y _ (off2_eq ⟨k, by omega⟩) (fun d => match d with
          | 0 => by show (y 0).val = k / 2 + 0; omega
          | 1 => by show (y 1).val = 256 * (k % 2) + (y 1).val % 256; omega
          | 2 => by show (y 2).val = 0 + (y 2).val; omega)
      refine (hit _ _).trans ?_
      rw [xrows_eq]; unfold lnHR; rw [e]
    · have hne : (k / 2 ≠ (y 0).val) ∨ k % 2 ≠ (y 1).val / 256 := by omega
      have step : ∀ (w : Vec F S1x256x128 .f32) (L : List (View.Piece (Elt F) S2x512x128 .f32)),
          arg21.view.read (Elt F) (arg21.view.writes (Elt F) R ((⟨Rect.unit (s := S2x512x128) (k0_off2 ⟨k, by omega⟩) S1x256x128.size (k0_off2_inb i ⟨k, by omega⟩ k0_h1), w⟩ : View.Piece (Elt F) S2x512x128 .f32) :: L)) y
            = arg21.view.read (Elt F) (arg21.view.writes (Elt F) R L) y := fun w L => by
        by_cases ha : k / 2 = (y 0).val
        · exact View.read_writes_cons_unit_of_not_mem arg21.view R _ w L y (off2_eq ⟨k, by omega⟩) 1
            (by show (y 1).val < 256 * (k % 2) ∨ 256 * (k % 2) + 256 ≤ (y 1).val; omega)
        · exact View.read_writes_cons_unit_of_not_mem arg21.view R _ w L y (off2_eq ⟨k, by omega⟩) 0
            (by show (y 0).val < k / 2 ∨ k / 2 + 1 ≤ (y 0).val; omega)
      exact (step _ _).trans ((step _ _).trans (hr_get X R k (by omega) y (by omega)))

theorem hv_get (X : arg12.view.ty.Contents (Elt F)) (R : arg20.view.ty.Contents (Elt F)) : ∀ (k : ℕ) (_ : k ≤ k0_t1_loop.trips) (y : S2x512x3072.Idx)
    (_ : 2 * (y 0).val + (y 1).val / 256 < k),
    arg20.view.read (Elt F) (arg20.view.writes (Elt F) R (hvP i arg12 k0_h1 X k)) y = lnHV (arg12.view.read (Elt F) X) y
  | 0, _, y, h => absurd h (Nat.not_lt_zero _)
  | k + 1, hk, y, h => by
    have h0 : (y 0).val < 2 := (y 0).isLt
    have h1 : (y 1).val < 512 := (y 1).isLt
    have hk4 : k < 4 := by have := trips1; omega
    rw [hvP, dif_pos (show k < k0_t1_loop.trips by omega)]
    by_cases e : 2 * (y 0).val + (y 1).val / 256 = k
    · have hit : ∀ (w : Vec F S1x256x3072 .fp8e4m3) (L : List (View.Piece (Elt F) S2x512x3072 .fp8e4m3)),
          arg20.view.read (Elt F) (arg20.view.writes (Elt F) R ((⟨Rect.unit (s := S2x512x3072) (k0_off3 ⟨k, by omega⟩) S1x256x3072.size (k0_off3_inb i ⟨k, by omega⟩ k0_h1), w⟩ : View.Piece (Elt F) S2x512x3072 .fp8e4m3) :: L)) y
            = w (fun d => match d with | 0 => ⟨0, Nat.one_pos⟩ | 1 => ⟨(y 1).val % 256, Nat.mod_lt _ (by decide)⟩ | 2 => y 2) := fun w L =>
        View.read_writes_cons_unit_of_mem arg20.view R _ w L y _ (off3_eq ⟨k, by omega⟩) (fun d => match d with
          | 0 => by show (y 0).val = k / 2 + 0; omega
          | 1 => by show (y 1).val = 256 * (k % 2) + (y 1).val % 256; omega
          | 2 => by show (y 2).val = 0 + (y 2).val; omega)
      refine (hit _ _).trans ?_
      rw [xrows_eq]; unfold lnHV; rw [e]
    · have hne : (k / 2 ≠ (y 0).val) ∨ k % 2 ≠ (y 1).val / 256 := by omega
      have step : ∀ (w : Vec F S1x256x3072 .fp8e4m3) (L : List (View.Piece (Elt F) S2x512x3072 .fp8e4m3)),
          arg20.view.read (Elt F) (arg20.view.writes (Elt F) R ((⟨Rect.unit (s := S2x512x3072) (k0_off3 ⟨k, by omega⟩) S1x256x3072.size (k0_off3_inb i ⟨k, by omega⟩ k0_h1), w⟩ : View.Piece (Elt F) S2x512x3072 .fp8e4m3) :: L)) y
            = arg20.view.read (Elt F) (arg20.view.writes (Elt F) R L) y := fun w L => by
        by_cases ha : k / 2 = (y 0).val
        · exact View.read_writes_cons_unit_of_not_mem arg20.view R _ w L y (off3_eq ⟨k, by omega⟩) 1
            (by show (y 1).val < 256 * (k % 2) ∨ 256 * (k % 2) + 256 ≤ (y 1).val; omega)
        · exact View.read_writes_cons_unit_of_not_mem arg20.view R _ w L y (off3_eq ⟨k, by omega⟩) 0
            (by show (y 0).val < k / 2 ∨ k / 2 + 1 ≤ (y 0).val; omega)
      exact (step _ _).trans (hv_get X R k (by omega) y (by omega))

theorem hr_all (X : arg12.view.ty.Contents (Elt F)) (R : arg21.view.ty.Contents (Elt F)) :
    arg21.view.read (Elt F) (arg21.view.writes (Elt F) R (hrP i arg12 k0_h1 X k0_t1_loop.trips)) = lnHR (arg12.view.read (Elt F) X) :=
  funext fun y => hr_get i arg12 arg21 k0_h1 X R _ le_rfl y (by
    have h0 : (y 0).val < 2 := (y 0).isLt
    have h1 : (y 1).val < 512 := (y 1).isLt
    have := trips1; omega)
theorem hv_all (X : arg12.view.ty.Contents (Elt F)) (R : arg20.view.ty.Contents (Elt F)) :
    arg20.view.read (Elt F) (arg20.view.writes (Elt F) R (hvP i arg12 k0_h1 X k0_t1_loop.trips)) = lnHV (arg12.view.read (Elt F) X) :=
  funext fun y => hv_get i arg12 arg20 k0_h1 X R _ le_rfl y (by
    have h0 : (y 0).val < 2 := (y 0).isLt
    have h1 : (y 1).val < 512 := (y 1).isLt
    have := trips1; omega)
end

end Cert.KernelIdeal.Hand
end
-- ==== Proof.KernelIdeal.Case1.lean ====
/-
  One grid step of each kind, run: what it leaves in the windows and in the scratch buffers, from what it found there.
-/
module

public import proofs.«01_k».proof.Proof.KernelIdeal.Ln

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- A row of a two-row operand. -/
def mrow {α : Type} {b : ℕ} (p : Fin 2) (X : (⟨2, ![2, b]⟩ : Shape).Idx → α) : (⟨2, ![1, b]⟩ : Shape).Idx → α :=
  fun y => X (fun d => match d with | 0 => p | 1 => y 1)
theorem ld_row0 {Val : EltTy → Type} {sig : RefSig} {κ : Kind} {sp : Space} {e : EltTy} {b : ℕ} (v : View sig κ sp ⟨2, ![2, b]⟩ e) (f : v.ty.Contents Val)
    (inb : ∀ d, (![0, 0] : Fin 2 → ℕ) d + (![1, b] : Fin 2 → ℕ) d ≤ (⟨2, ![2, b]⟩ : Shape).size d) :
    v.readAt Val (Rect.unit (s := ⟨2, ![2, b]⟩) ![0, 0] ![1, b] inb).toLoadRect f = mrow (α := Val e) 0 (v.read Val f) := by
  funext y
  exact congrArg (v.read Val f) (funext fun d => match d with
    | 0 => Fin.ext (by have : (y 0).val < 1 := (y 0).isLt; show 0 + 1 * (y 0).val = 0; omega)
    | 1 => Fin.ext (by show 0 + 1 * (y 1).val = (y 1).val; omega))
theorem ld_row1 {Val : EltTy → Type} {sig : RefSig} {κ : Kind} {sp : Space} {e : EltTy} {b : ℕ} (v : View sig κ sp ⟨2, ![2, b]⟩ e) (f : v.ty.Contents Val)
    (inb : ∀ d, (![1, 0] : Fin 2 → ℕ) d + (![1, b] : Fin 2 → ℕ) d ≤ (⟨2, ![2, b]⟩ : Shape).size d) :
    v.readAt Val (Rect.unit (s := ⟨2, ![2, b]⟩) ![1, 0] ![1, b] inb).toLoadRect f = mrow (α := Val e) 1 (v.read Val f) := by
  funext y
  exact congrArg (v.read Val f) (funext fun d => match d with
    | 0 => Fin.ext (by have : (y 0).val < 1 := (y 0).isLt; show 1 + 1 * (y 0).val = 1; omega)
    | 1 => Fin.ext (by show 0 + 1 * (y 1).val = (y 1).val; omega))

/-- The replicated rows of `1 + mod_scale`, the row scales of the activations. -/
def mrOf (x2 : Vec F S2x3072 .f32) : Vec F S2x8x3072 .f32 := planes (k0_pay27 (mrow 0 x2)) (k0_pay28 (mrow 1 x2))
def hsOf (X : Vec F S1024x3072 .bf16) : Vec F S2x512 .f32 :=
  rows2 (k0_pay229 (k0_pay43 (plane 0 (lnHR X)))) (k0_pay230 (plane 1 (lnHR X)))
/-- The buffers after step 0. -/
def step1 (S : Bufs F) (X : Vec F S1024x3072 .bf16) (x2 x3 : Vec F S2x3072 .f32) (w : Vec F S256x3072 .fp8e4m3) (ws b : Vec F S1x256 .f32)
    (a : Vec F S2x256x3072 .f32) (r : Vec F S2x256x128 .f32) : Bufs F :=
  { S with p0 := aP2 w (mrOf x2), m0 := aM2 w (mrOf x2), p1 := a, r := r, hr := lnHR X, mr := mrOf x2, sh := k0_pay29 x3,
           cv := cvKeep (cvPut S.cv ![0, 0, 0] (aC (k0_pay29 x3) w ws b)) ws }

/-- The first tile's product and row maxima are the ones of the steady steps. -/
theorem first_p (w : Vec F S256x3072 .fp8e4m3) (x2 : Vec F S2x3072 .f32) :
    planes (k0_pay32 (k0_pay30 w) (k0_pay27 (mrow 0 x2))) (k0_pay35 (k0_pay30 w) (k0_pay28 (mrow 1 x2))) = aP2 w (mrOf x2) := by
  unfold aP2 mrOf; rw [plane_planes0, plane_planes1]; unfold aP k0_pay32 k0_pay35 k0_pay70; rfl
theorem first_m0 (w : Vec F S256x3072 .fp8e4m3) (m : Vec F S1x8x3072 .f32) : k0_pay37 (k0_pay33 (k0_pay30 w) m) = aM w m := by
  have e : k0_pay71 w m = absf (k0_pay31 (k0_pay30 w) m) := rfl
  unfold aM k0_pay78 k0_pay73 k0_pay72 k0_pay37 k0_pay33; rw [e]
theorem first_m1 (w : Vec F S256x3072 .fp8e4m3) (m : Vec F S1x8x3072 .f32) : k0_pay38 (k0_pay36 (k0_pay30 w) m) = aM w m := by
  have e : k0_pay71 w m = absf (k0_pay34 (k0_pay30 w) m) := rfl
  unfold aM k0_pay78 k0_pay73 k0_pay72 k0_pay38 k0_pay36; rw [e]
theorem first_m (w : Vec F S256x3072 .fp8e4m3) (x2 : Vec F S2x3072 .f32) :
    planes (k0_pay37 (k0_pay33 (k0_pay30 w) (k0_pay27 (mrow 0 x2)))) (k0_pay38 (k0_pay36 (k0_pay30 w) (k0_pay28 (mrow 1 x2)))) = aM2 w (mrOf x2) := by
  unfold aM2 mrOf; rw [plane_planes0, plane_planes1, first_m0, first_m1]

/-- Step 0: the activations normalised and turned into codes, their copy out begun, the first tile multiplied. -/
theorem run1 (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1)
    (x2 x3 : Vec F S2x3072 .f32) (x4 : Vec F S256x3072 .fp8e4m3) (x5 : Vec F S1x256 .f32) (x6 : Vec F S1x256 .f32) (S : Bufs F)
    (x1 : Vec F S1024x3072 .bf16) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
      ∗ owns (c : Thread nD τ) arg6 fullShare x6 ∗ (∃ d, owns (c : Thread nD τ) arg9 fullShare d)
      ∗ owns (c : Thread nD τ) xH fullShare x1 ∗ (∃ d, owns (c : Thread nD τ) xV fullShare d) ∗ (∃ d, owns (c : Thread nD τ) hV fullShare d)
      ∗ (∃ d, owns (c : Thread nD τ) hH fullShare d)
      ∗ semVal ((c : Thread nD τ), SemLoc.dma 15) 0 ∗ semVal ((c : Thread nD τ), SemLoc.dma 16) 0 ∗ owes (c : Thread nD τ) 0 W ∗ held c S
      ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg9 fullShare (hsOf x1)
        ∗ owns (c : Thread nD τ) xH fullShare x1 ∗ (∃ d, owns (c : Thread nD τ) xV fullShare d)
        ∗ semVal ((c : Thread nD τ), SemLoc.dma 15) 0 ∗ (∃ W', owes (c : Thread nD τ) 0 W')
        ∗ (∃ fy fk, ⌜hH.view.read (Elt F) fy = lnHV x1⌝ ∗ ⌜hV.view.read (Elt F) fk = lnHV x1⌝ ∗ hFlight c fy fk ∗ hKept c fk)
        ∗ (∃ a r, held c (step1 S x1 x2 x3 x4 x5 x6 a r))) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns
  obtain ⟨Xp0, Xp1, Xq0, Xq1, Xm0, Xm1, Xr, Xhr, Xmr, Xsh, Xcv, Xsc⟩ := S
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%f1, %hf1, HX⟩, ⟨%d12, %f12, -, H12⟩, ⟨%d20, %f20, -, HK⟩, ⟨%d8, %f8, -, HY⟩, HS15, HS16, HO, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf1 hf2 hf3 hf4 hf5 hf6 hp0 hp1 hq0 hq1 hm0 hm1 hr hhr hmr hsh hcv hsc

  set_option sl_exec.lendShare "HK" in sl_exec
  sl_step
  iapply Hk

  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H9]
  · iexists _; isplitr; swap; · iexact H9
    ipureintro
    refine (st_rows _ _ _ _ _ _).trans ?_
    sl_unfold_run_names
    have e0 : ∀ (R : hrep.view.ty.Contents (Elt F)), View.readAt (Elt F) hrep.view (Rect.unit (s := S2x512x128) ![0, 0, 0] ![1, 512, 128] (by decide)).toLoadRect
        (hrep.view.writes (Elt F) R (hrP i xV h1 (xV.view.writes (Elt F) xV.view.junk [⟨Rect.whole S1024x3072, ReadAs.same.apply (View.read (Elt F) xH.view f1)⟩]) k0_t1_loop.trips))
          = plane 0 (lnHR (xH.view.read (Elt F) f1)) := fun R =>
      (ld_plane0 _ _ _).trans (congrArg (plane 0) ((hr_all i xV hrep h1 _ _).trans (congrArg lnHR (View.read_writes_whole _ _ _))))
    have e1 : ∀ (R : hrep.view.ty.Contents (Elt F)), View.readAt (Elt F) hrep.view (Rect.unit (s := S2x512x128) ![1, 0, 0] ![1, 512, 128] (by decide)).toLoadRect
        (hrep.view.writes (Elt F) R (hrP i xV h1 (xV.view.writes (Elt F) xV.view.junk [⟨Rect.whole S1024x3072, ReadAs.same.apply (View.read (Elt F) xH.view f1)⟩]) k0_t1_loop.trips))
          = plane 1 (lnHR (xH.view.read (Elt F) f1)) := fun R =>
      (ld_plane1 _ _ _).trans (congrArg (plane 1) ((hr_all i xV hrep h1 _ _).trans (congrArg lnHR (View.read_writes_whole _ _ _))))
    exact congrArg₂ (fun u v => rows2 (k0_pay229 (k0_pay43 u)) (k0_pay230 v)) (e0 _) (e1 _)
  isplitl [HX]
  · iexists _; isplitr; swap; · iexact HX
    ipureintro; rfl
  isplitl [H12]
  · iexists _, _; isplitr; swap; · iexact H12
    ipureintro; rfl
  isplitl [HS15]; · iexact HS15
  isplitl [HO]; · iexists _; iexact HO
  isplitl [HS16 HK]
  · iexists _, _
    isplitr; swap
    · isplitr; swap
      · isplitl [HS16]; · iexact HS16
        iexact HK
      ipureintro
      exact (hv_all i xV hV h1 _ _).trans (congrArg lnHV (View.read_writes_whole _ _ _))
    ipureintro
    refine (View.read_writes_whole _ _ _).trans ?_
    exact (hv_all i xV hV h1 _ _).trans (congrArg lnHV (View.read_writes_whole _ _ _))
  iexists (p1.view.read (Elt F) fL2), (rV.view.read (Elt F) fL3)
  unfold step1
  isplitl [Hp0]
  · iexists _; isplitr; swap; · iexact Hp0
    ipureintro
    refine (st_planes _ _ _ _ _ _).trans ?_
    sl_unfold_run_names
    simp only [ld_plane0, ld_plane1, cov_plane0, cov_plane1, ld_win, ld_all, ld_row0, ld_row1]
    exact first_p _ _
  isplitl [Hp1]
  · iexists _; isplitr; swap; · iexact Hp1
    ipureintro
    rfl
  isplitl [Hq0]
  · iexists _; isplitr; swap; · iexact Hq0
    ipureintro
    rfl
  isplitl [Hq1]
  · iexists _; isplitr; swap; · iexact Hq1
    ipureintro
    rfl
  isplitl [Hm0]
  · iexists _; isplitr; swap; · iexact Hm0
    ipureintro
    refine (st_planes _ _ _ _ _ _).trans ?_
    sl_unfold_run_names
    simp only [ld_plane0, ld_plane1, cov_plane0, cov_plane1, ld_win, ld_all, ld_row0, ld_row1]
    exact first_m _ _
  isplitl [Hm1]
  · iexists _; isplitr; swap; · iexact Hm1
    ipureintro
    rfl
  isplitl [Hr]
  · iexists _; isplitr; swap; · iexact Hr
    ipureintro
    rfl
  isplitl [Hhr]
  · iexists _; isplitr; swap; · iexact Hhr
    ipureintro
    exact (hr_all i xV hrep h1 _ _).trans (congrArg lnHR (View.read_writes_whole _ _ _))
  isplitl [Hmr]
  · iexists _; isplitr; swap; · iexact Hmr
    ipureintro
    refine (st_planes _ _ _ _ _ _).trans ?_
    sl_unfold_run_names
    simp only [ld_row0, ld_row1]
    rfl
  isplitl [Hsh]
  · iexists _; isplitr; swap; · iexact Hsh
    ipureintro
    refine (View.read_writes_full _ _ _ _ _).trans ?_
    exact congrArg k0_pay29 (ld_all _ _ _)
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    exact congrArg (fun z => cvKeep (cvPut _ ![0, 0, 0] (k0_pay39 z _ _ _)) _) (View.readCov_full _ _ _ _ _)
  · iexists _; isplitr; swap; · iexact Hsc
    ipureintro
    rfl

end
end Cert.KernelIdeal.Hand
end
-- ==== Proof.KernelIdeal.State.lean ====
/-
  What the scratch buffers hold before each grid point, as functions of the operands alone, and that every kind of step
  carries one such state into the next.
-/
module

public import proofs.«01_k».proof.Proof.KernelIdeal.Case1

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

/-! ## Rows of the carried buffers after a store -/

/-- A row of a `1 × 2 × 256` value. -/
def crow {α : Type} (b : Fin 2) (a : (⟨3, ![1, 2, 256]⟩ : Shape).Idx → α) : (⟨3, ![1, 1, 256]⟩ : Shape).Idx → α :=
  fun y => a (fun d => match d with | 0 => ⟨0, Nat.one_pos⟩ | 1 => b | 2 => y 2)

section
variable {α : Type} {K : ℕ} (X : (⟨3, ![K + 1, 2, 256]⟩ : Shape).Idx → α) (τ σ b b' : ℕ)
theorem win_put_same (v : (⟨3, ![1, 1, 256]⟩ : Shape).Idx → α) (hτ : τ ≤ K) (hb : b ≤ 1) :
    win (put X ![τ, b, 0] (⟨3, ![1, 1, 256]⟩ : Shape).size v) ![τ, b, 0] = v := by
  funext y
  have y0 : (y 0).val < 1 := (y 0).isLt
  have y1 : (y 1).val < 1 := (y 1).isLt
  have y2 : (y 2).val < 256 := (y 2).isLt
  unfold win put
  rw [dif_pos (fun d => match d with
    | 0 => ⟨by show τ ≤ min τ K; omega, by show min τ K < τ + 1; omega⟩
    | 1 => ⟨by show b ≤ min b 1; omega, by show min b 1 < b + 1; omega⟩
    | 2 => ⟨Nat.zero_le _, by show (y 2).val < 0 + 256; omega⟩)]
  exact congrArg v (funext fun d => match d with
    | 0 => Fin.ext (by show min τ K - τ = (y 0).val; omega)
    | 1 => Fin.ext (by show min b 1 - b = (y 1).val; omega)
    | 2 => Fin.ext (by show (y 2).val - 0 = (y 2).val; omega))
theorem win_put_ne (v : (⟨3, ![1, 1, 256]⟩ : Shape).Idx → α) (hτ : τ ≤ K) (hσ : σ ≤ K) (hb : b ≤ 1) (hb' : b' ≤ 1) (h : τ ≠ σ ∨ b ≠ b') :
    win (put X ![τ, b, 0] (⟨3, ![1, 1, 256]⟩ : Shape).size v) ![σ, b', 0] = win X ![σ, b', 0] := by
  funext y
  unfold win put
  rw [dif_neg]
  intro hh
  have h0 : τ ≤ min σ K ∧ min σ K < τ + 1 := hh 0
  have h1 : b ≤ min b' 1 ∧ min b' 1 < b + 1 := hh 1
  omega
theorem win_put2_same (v : (⟨3, ![1, 2, 256]⟩ : Shape).Idx → α) (β : Fin 2) (hτ : τ ≤ K) :
    win (put X ![τ, 0, 0] (⟨3, ![1, 2, 256]⟩ : Shape).size v) ![τ, β.val, 0] = crow β v := by
  funext y
  have y2 : (y 2).val < 256 := (y 2).isLt
  have hβ : β.val < 2 := β.isLt
  unfold win put crow
  rw [dif_pos (fun d => match d with
    | 0 => ⟨by show τ ≤ min τ K; omega, by show min τ K < τ + 1; omega⟩
    | 1 => ⟨Nat.zero_le _, by show min β.val 1 < 0 + 2; omega⟩
    | 2 => ⟨Nat.zero_le _, by show (y 2).val < 0 + 256; omega⟩)]
  exact congrArg v (funext fun d => match d with
    | 0 => Fin.ext (by show min τ K - τ = 0; omega)
    | 1 => Fin.ext (by show min β.val 1 - 0 = β.val; omega)
    | 2 => Fin.ext (by show (y 2).val - 0 = (y 2).val; omega))
theorem win_put2_ne (v : (⟨3, ![1, 2, 256]⟩ : Shape).Idx → α) (hτ : τ ≤ K) (hσ : σ ≤ K) (h : τ ≠ σ) :
    win (put X ![τ, 0, 0] (⟨3, ![1, 2, 256]⟩ : Shape).size v) ![σ, b, 0] = win X ![σ, b, 0] := by
  funext y
  unfold win put
  rw [dif_neg]
  intro hh
  have h0 : τ ≤ min σ K ∧ min σ K < τ + 1 := hh 0
  omega
end

/-! ## The state before a point -/

/-- The operands as the steps see them: the whole activations and modulation rows, and a weight tile with its scales and bias
    at each point. -/
structure Ops (F : FTy → Type) where
  X : Vec F S1024x3072 .bf16
  ms : Vec F S2x3072 .f32
  mh : Vec F S2x3072 .f32
  w : ℕ → Vec F S256x3072 .fp8e4m3
  ws : ℕ → Vec F S1x256 .f32
  b : ℕ → Vec F S1x256 .f32

variable (O : Ops F)
def tP (τ : ℕ) : Vec F S2x256x3072 .f32 := aP2 (O.w τ) (mrOf O.ms)
def tM (τ : ℕ) : Vec F S2x256x128 .f32 := aM2 (O.w τ) (mrOf O.ms)
def tK (τ : ℕ) : Vec F S1x1x256 .f32 := k0_pay7 (O.ws τ)
def tC (τ : ℕ) : Vec F S1x2x256 .f32 := aC (k0_pay29 O.mh) (O.w τ) (O.ws τ) (O.b τ)
def tQ (τ : ℕ) : Vec F S2x256x3072 .fp8e4m3 := bQ2 (tK O τ) (tM O τ) (tP O τ)
def tS (τ : ℕ) : Vec F S2x256 .f32 := bS2 (tK O τ) (tM O τ)
def tU (τ : ℕ) (p : Fin 2) : Vec F S1x1x256 .f32 := up (bS (tK O τ) (plane p (tM O τ)))
def tY (τ : ℕ) : Vec F S2x512x256 .bf16 :=
  cY (lnHV O.X) (tQ O τ) (lnHR O.X) (tU O τ 0) (crow 0 (tC O τ)) (tU O τ 1) (crow 1 (tC O τ))

/-- The state after `t` points, `1 ≤ t`. -/
structure Inv (t : ℕ) (S : Bufs F) : Prop where
  mr : S.mr = mrOf O.ms
  sh : S.sh = k0_pay29 O.mh
  hr : S.hr = lnHR O.X
  pe : ∀ τ, τ + 1 = t → τ < 36 → τ % 2 = 0 → S.p0 = tP O τ ∧ S.m0 = tM O τ
  po : ∀ τ, τ + 1 = t → τ < 36 → τ % 2 = 1 → S.p1 = tP O τ ∧ S.m1 = tM O τ
  qe : ∀ τ, τ + 2 = t → τ % 2 = 0 → S.q0 = tQ O τ
  qo : ∀ τ, τ + 2 = t → τ % 2 = 1 → S.q1 = tQ O τ
  k : ∀ τ, τ + 1 = t → win S.cv ![36, 0, 0] = tK O τ
  c : ∀ τ, τ < t → τ < 36 → win S.cv ![τ, 0, 0] = crow 0 (tC O τ) ∧ win S.cv ![τ, 1, 0] = crow 1 (tC O τ)
  s : ∀ τ, τ + 1 < t → win S.sc ![τ, 0, 0] = tU O τ 0 ∧ win S.sc ![τ, 1, 0] = tU O τ 1

section
variable {O}
variable {S : Bufs F} {t : ℕ}

theorem keep_k (C : Vec F S37x2x256 .f32) (ws : Vec F S1x256 .f32) : win (cvKeep C ws) ![36, 0, 0] = k0_pay7 ws :=
  win_put_same (K := 36) C 36 0 _ le_rfl (by omega)
theorem keep_ne (C : Vec F S37x2x256 .f32) (ws : Vec F S1x256 .f32) (τ b : ℕ) (h : τ < 36) (hb : b ≤ 1) :
    win (cvKeep C ws) ![τ, b, 0] = win C ![τ, b, 0] :=
  win_put_ne (K := 36) C 36 τ 0 b _ le_rfl (by omega) (by omega) hb (by omega)
/-- The rows of the additive terms after a tile's rows are stored and the weight scales kept. -/
theorem put_c (C : Vec F S37x2x256 .f32) (n : ℕ) (hn : n < 36)
    (h : ∀ τ, τ < n → win C ![τ, 0, 0] = crow 0 (tC O τ) ∧ win C ![τ, 1, 0] = crow 1 (tC O τ)) (ws : Vec F S1x256 .f32) (τ : ℕ) (hτ : τ < n + 1) :
    win (cvKeep (cvPut C ![n, 0, 0] (tC O n)) ws) ![τ, 0, 0] = crow 0 (tC O τ)
      ∧ win (cvKeep (cvPut C ![n, 0, 0] (tC O n)) ws) ![τ, 1, 0] = crow 1 (tC O τ) := by
  rw [keep_ne _ _ _ _ (by omega) (by omega), keep_ne _ _ _ _ (by omega) (by omega)]
  by_cases e : τ = n
  · subst e
    exact ⟨win_put2_same (K := 36) C τ _ 0 (by omega), win_put2_same (K := 36) C τ _ 1 (by omega)⟩
  · have h' := h τ (by omega)
    exact ⟨(win_put2_ne (K := 36) C n τ 0 _ (by omega) (by omega) (by omega)).trans h'.1, (win_put2_ne (K := 36) C n τ 1 _ (by omega) (by omega) (by omega)).trans h'.2⟩
/-- The rows of scales after a tile's two rows are stored. -/
theorem put_s (C : Vec F S36x2x256 .f32) (n : ℕ) (hn : n < 36)
    (h : ∀ τ, τ < n → win C ![τ, 0, 0] = tU O τ 0 ∧ win C ![τ, 1, 0] = tU O τ 1) (τ : ℕ) (hτ : τ < n + 1) :
    win (scPut C ![n, 0, 0] ![n, 1, 0] (tK O n) (tM O n)) ![τ, 0, 0] = tU O τ 0
      ∧ win (scPut C ![n, 0, 0] ![n, 1, 0] (tK O n) (tM O n)) ![τ, 1, 0] = tU O τ 1 := by
  unfold scPut
  by_cases e : τ = n
  · subst e
    exact ⟨(win_put_ne (K := 35) _ τ τ 1 0 _ (by omega) (by omega) (by omega) (by omega) (by omega)).trans (win_put_same (K := 35) C τ 0 _ (by omega) (by omega)),
      win_put_same (K := 35) _ τ 1 _ (by omega) (by omega)⟩
  · have h' := h τ (by omega)
    exact ⟨((win_put_ne (K := 35) _ n τ 1 0 _ (by omega) (by omega) (by omega) (by omega) (by omega)).trans
        (win_put_ne (K := 35) C n τ 0 0 _ (by omega) (by omega) (by omega) (by omega) (by omega))).trans h'.1,
      ((win_put_ne (K := 35) _ n τ 1 1 _ (by omega) (by omega) (by omega) (by omega) (by omega)).trans
        (win_put_ne (K := 35) C n τ 0 1 _ (by omega) (by omega) (by omega) (by omega) (by omega))).trans h'.2⟩

theorem inv1 (S : Bufs F) (a : Vec F S2x256x3072 .f32) (r : Vec F S2x256x128 .f32) : Inv O 1 (step1 S O.X O.ms O.mh (O.w 0) (O.ws 0) (O.b 0) a r) where
  mr := rfl
  sh := rfl
  hr := rfl
  pe τ h _ _ := by obtain rfl : τ = 0 := by omega
                   exact ⟨rfl, rfl⟩
  po τ h _ e := by omega
  qe τ h _ := by omega
  qo τ h _ := by omega
  k τ h := by obtain rfl : τ = 0 := by omega
              exact keep_k _ _
  c τ h _ := put_c S.cv 0 (by omega) (fun τ h => by omega) _ τ h
  s τ h := by omega

theorem inv2 (h : Inv O 1 S) : Inv O 2 (step2 S (O.w 1) (O.ws 1) (O.b 1)) where
  mr := h.mr
  sh := h.sh
  hr := h.hr
  pe τ e _ _ := by omega
  po τ e _ _ := by
    obtain rfl : τ = 1 := by omega
    exact ⟨by show aP2 _ S.mr = _; rw [h.mr]; rfl, by show aM2 _ S.mr = _; rw [h.mr]; rfl⟩
  qe τ e _ := by
    obtain rfl : τ = 0 := by omega
    show bQ2 (win S.cv ![36, 0, 0]) S.m0 S.p0 = _
    obtain ⟨e1, e2⟩ := h.pe 0 rfl (by omega) rfl
    rw [h.k 0 rfl, e1, e2]; rfl
  qo τ e _ := by omega
  k τ e := by obtain rfl : τ = 1 := by omega
              exact keep_k _ _
  c τ e e' := by
    show win (cvKeep (cvPut S.cv ![1, 0, 0] (aC S.sh (O.w 1) (O.ws 1) (O.b 1))) (O.ws 1)) _ = _ ∧ win (cvKeep (cvPut S.cv ![1, 0, 0] (aC S.sh (O.w 1) (O.ws 1) (O.b 1))) (O.ws 1)) _ = _
    rw [h.sh]
    exact put_c S.cv 1 (by omega) (fun τ hτ => h.c τ hτ (by omega)) _ τ e
  s τ e := by
    show win (scPut S.sc ![0, 0, 0] ![0, 1, 0] (win S.cv ![36, 0, 0]) S.m0) _ = _ ∧ win (scPut S.sc ![0, 0, 0] ![0, 1, 0] (win S.cv ![36, 0, 0]) S.m0) _ = _
    rw [h.k 0 rfl, (h.pe 0 rfl (by omega) rfl).2]
    exact put_s S.sc 0 (by omega) (fun τ hτ => h.s τ (by omega)) τ (by omega)

/-- An even step in between. -/
theorem inv3 (i : grid0.Coords) (ht : 2 ≤ t) (ht' : t < 36) (he : t % 2 = 0) (o4 : k0_off4 i 1#32 = ![t - 1, 0, 0]) (o6 : k0_off6 i 1#32 = ![t - 1, 1, 0])
    (o8 : k0_off8 i = ![t, 0, 0]) (h : Inv O t S) : Inv O (t + 1) (step3 i S (O.w t) (O.ws t) (O.b t)) where
  mr := h.mr
  sh := h.sh
  hr := h.hr
  pe τ e _ _ := by
    obtain rfl : τ = t := by omega
    exact ⟨by show aP2 _ S.mr = _; rw [h.mr]; rfl, by show aM2 _ S.mr = _; rw [h.mr]; rfl⟩
  po τ e _ _ := by omega
  qe τ e _ := by omega
  qo τ e _ := by
    show bQ2 (win S.cv ![36, 0, 0]) S.m1 S.p1 = _
    obtain ⟨e1, e2⟩ := h.po τ (by omega) (by omega) (by omega)
    rw [h.k τ (by omega), e1, e2]; rfl
  k τ e := by obtain rfl : τ = t := by omega
              exact keep_k _ _
  c τ e e' := by
    show win (cvKeep (cvPut S.cv (k0_off8 i) (aC S.sh (O.w t) (O.ws t) (O.b t))) (O.ws t)) _ = _ ∧ win (cvKeep (cvPut S.cv (k0_off8 i) (aC S.sh (O.w t) (O.ws t) (O.b t))) (O.ws t)) _ = _
    rw [h.sh, o8]
    exact put_c S.cv t (by omega) (fun τ hτ => h.c τ hτ (by omega)) _ τ e
  s τ e := by
    show win (scPut S.sc (k0_off4 i 1#32) (k0_off6 i 1#32) (win S.cv ![36, 0, 0]) S.m1) _ = _ ∧ win (scPut S.sc (k0_off4 i 1#32) (k0_off6 i 1#32) (win S.cv ![36, 0, 0]) S.m1) _ = _
    rw [h.k (t - 1) (by omega), (h.po (t - 1) (by omega) (by omega) (by omega)).2, o4, o6]
    exact put_s S.sc (t - 1) (by omega) (fun τ hτ => h.s τ (by omega)) τ (by omega)

/-- An odd step in between. -/
theorem inv4 (i : grid0.Coords) (ht : 2 ≤ t) (ht' : t < 36) (he : t % 2 = 1) (o4 : k0_off9 i 1#32 = ![t - 1, 0, 0]) (o6 : k0_off11 i 1#32 = ![t - 1, 1, 0])
    (o8 : k0_off13 i = ![t, 0, 0]) (h : Inv O t S) : Inv O (t + 1) (step4 i S (O.w t) (O.ws t) (O.b t)) where
  mr := h.mr
  sh := h.sh
  hr := h.hr
  pe τ e _ _ := by omega
  po τ e _ _ := by
    obtain rfl : τ = t := by omega
    exact ⟨by show aP2 _ S.mr = _; rw [h.mr]; rfl, by show aM2 _ S.mr = _; rw [h.mr]; rfl⟩
  qe τ e _ := by
    show bQ2 (win S.cv ![36, 0, 0]) S.m0 S.p0 = _
    obtain ⟨e1, e2⟩ := h.pe τ (by omega) (by omega) (by omega)
    rw [h.k τ (by omega), e1, e2]; rfl
  qo τ e _ := by omega
  k τ e := by obtain rfl : τ = t := by omega
              exact keep_k _ _
  c τ e e' := by
    show win (cvKeep (cvPut S.cv (k0_off13 i) (aC S.sh (O.w t) (O.ws t) (O.b t))) (O.ws t)) _ = _ ∧ win (cvKeep (cvPut S.cv (k0_off13 i) (aC S.sh (O.w t) (O.ws t) (O.b t))) (O.ws t)) _ = _
    rw [h.sh, o8]
    exact put_c S.cv t (by omega) (fun τ hτ => h.c τ hτ (by omega)) _ τ e
  s τ e := by
    show win (scPut S.sc (k0_off9 i 1#32) (k0_off11 i 1#32) (win S.cv ![36, 0, 0]) S.m0) _ = _ ∧ win (scPut S.sc (k0_off9 i 1#32) (k0_off11 i 1#32) (win S.cv ![36, 0, 0]) S.m0) _ = _
    rw [h.k (t - 1) (by omega), (h.pe (t - 1) (by omega) (by omega) (by omega)).2, o4, o6]
    exact put_s S.sc (t - 1) (by omega) (fun τ hτ => h.s τ (by omega)) τ (by omega)

/-- The step that quantises the last tile. -/
theorem inv5 (i : grid0.Coords) (o4 : k0_off14 i 1#32 = ![35, 0, 0]) (o6 : k0_off16 i 1#32 = ![35, 1, 0])
    (h : Inv O 36 S) : Inv O 37 (step5 i S (O.ws 36)) where
  mr := h.mr
  sh := h.sh
  hr := h.hr
  pe τ e _ _ := by omega
  po τ e _ _ := by omega
  qe τ e _ := by omega
  qo τ e _ := by
    show bQ2 (win S.cv ![36, 0, 0]) S.m1 S.p1 = _
    obtain ⟨e1, e2⟩ := h.po τ (by omega) (by omega) (by omega)
    rw [h.k τ (by omega), e1, e2]; rfl
  k τ e := by obtain rfl : τ = 36 := by omega
              exact keep_k _ _
  c τ e e' := by
    show win (cvKeep S.cv (O.ws 36)) _ = _ ∧ win (cvKeep S.cv (O.ws 36)) _ = _
    rw [keep_ne _ _ _ _ e' (by omega), keep_ne _ _ _ _ e' (by omega)]
    exact h.c τ (by omega) e'
  s τ e := by
    show win (scPut S.sc (k0_off14 i 1#32) (k0_off16 i 1#32) (win S.cv ![36, 0, 0]) S.m1) _ = _ ∧ win (scPut S.sc (k0_off14 i 1#32) (k0_off16 i 1#32) (win S.cv ![36, 0, 0]) S.m1) _ = _
    rw [h.k 35 (by omega), (h.po 35 (by omega) (by omega) (by omega)).2, o4, o6]
    exact put_s S.sc 35 (by omega) (fun τ hτ => h.s τ (by omega)) τ (by omega)

/-- What the quantising stage stores at point `t`: the codes and scales of tile `t - 1`. -/
theorem outQe (h : Inv O t S) (h1 : 1 ≤ t) (h2 : t ≤ 36) (he : (t - 1) % 2 = 0) : bQ2 (win S.cv ![36, 0, 0]) S.m0 S.p0 = tQ O (t - 1) ∧ bS2 (win S.cv ![36, 0, 0]) S.m0 = tS O (t - 1) := by
  obtain ⟨e1, e2⟩ := h.pe (t - 1) (by omega) (by omega) he
  rw [h.k (t - 1) (by omega), e1, e2]; exact ⟨rfl, rfl⟩
theorem outQo (h : Inv O t S) (h1 : 1 ≤ t) (h2 : t ≤ 36) (he : (t - 1) % 2 = 1) : bQ2 (win S.cv ![36, 0, 0]) S.m1 S.p1 = tQ O (t - 1) ∧ bS2 (win S.cv ![36, 0, 0]) S.m1 = tS O (t - 1) := by
  obtain ⟨e1, e2⟩ := h.po (t - 1) (by omega) (by omega) he
  rw [h.k (t - 1) (by omega), e1, e2]; exact ⟨rfl, rfl⟩
/-- What the multiplying stage stores at point `t`: output tile `t - 2`. -/
theorem outYe (h : Inv O t S) (h1 : 2 ≤ t) (h2 : t ≤ 37) (he : t % 2 = 0) :
    cY (lnHV O.X) S.q0 S.hr (win S.sc ![t - 2, 0, 0]) (win S.cv ![t - 2, 0, 0]) (win S.sc ![t - 2, 1, 0]) (win S.cv ![t - 2, 1, 0]) = tY O (t - 2) := by
  obtain ⟨s0, s1⟩ := h.s (t - 2) (by omega)
  obtain ⟨c0, c1⟩ := h.c (t - 2) (by omega) (by omega)
  rw [h.qe (t - 2) (by omega) (by omega), h.hr, s0, s1, c0, c1]; rfl
theorem outYo (h : Inv O t S) (h1 : 2 ≤ t) (h2 : t ≤ 37) (he : t % 2 = 1) :
    cY (lnHV O.X) S.q1 S.hr (win S.sc ![t - 2, 0, 0]) (win S.cv ![t - 2, 0, 0]) (win S.sc ![t - 2, 1, 0]) (win S.cv ![t - 2, 1, 0]) = tY O (t - 2) := by
  obtain ⟨s0, s1⟩ := h.s (t - 2) (by omega)
  obtain ⟨c0, c1⟩ := h.c (t - 2) (by omega) (by omega)
  rw [h.qo (t - 2) (by omega) (by omega), h.hr, s0, s1, c0, c1]; rfl
end

end Cert.KernelIdeal.Hand

end
-- ==== Proof.KernelIdeal.Sched.lean ====
/-
  The grid's schedule in closed form: which kind of step each grid point is, the rows of the carried buffers it reads and
  writes, and where each output window is stored and written back.
-/
module

public import proofs.«01_k».proof.Proof.KernelIdeal.Base

@[expose] public section

set_option maxRecDepth 16384

noncomputable section

namespace Cert.KernelIdeal.Hand

open Cert.KernelIdeal Cert.KernelIdeal.Gen
open Idealize.ShloMosaic Idealize.ShloMosaic.TcCoe

theorem cond1_iff : ∀ t : Fin grid0.N, k0_cond1 (grid0.coords t) = 1#1 ↔ t.val = 0 := by decide +kernel
theorem cond2_iff : ∀ t : Fin grid0.N, k0_cond2 (grid0.coords t) = 1#1 ↔ t.val = 1 := by decide +kernel
theorem cond3_iff : ∀ t : Fin grid0.N, k0_cond3 (grid0.coords t) = 1#1 ↔ (2 ≤ t.val ∧ t.val < 36 ∧ t.val % 2 = 0) := by decide +kernel
theorem cond4_iff : ∀ t : Fin grid0.N, k0_cond4 (grid0.coords t) = 1#1 ↔ (2 ≤ t.val ∧ t.val < 36 ∧ t.val % 2 = 1) := by decide +kernel
theorem cond5_iff : ∀ t : Fin grid0.N, k0_cond5 (grid0.coords t) = 1#1 ↔ t.val = 36 := by decide +kernel
theorem cond6_iff : ∀ t : Fin grid0.N, k0_cond6 (grid0.coords t) = 1#1 ↔ t.val = 37 := by decide +kernel

theorem off4_1 : ∀ t : Fin grid0.N, 2 ≤ t.val → k0_off4 (grid0.coords t) 1#32 = ![t.val - 1, 0, 0] := by decide +kernel
theorem off6_1 : ∀ t : Fin grid0.N, 2 ≤ t.val → k0_off6 (grid0.coords t) 1#32 = ![t.val - 1, 1, 0] := by decide +kernel
theorem off4_2 : ∀ t : Fin grid0.N, 2 ≤ t.val → k0_off4 (grid0.coords t) 2#32 = ![t.val - 2, 0, 0] := by decide +kernel
theorem off6_2 : ∀ t : Fin grid0.N, 2 ≤ t.val → k0_off6 (grid0.coords t) 2#32 = ![t.val - 2, 1, 0] := by decide +kernel
theorem off5_2 : ∀ t : Fin grid0.N, 2 ≤ t.val → k0_off5 (grid0.coords t) = ![t.val - 2, 0, 0] := by decide +kernel
theorem off7_2 : ∀ t : Fin grid0.N, 2 ≤ t.val → k0_off7 (grid0.coords t) = ![t.val - 2, 1, 0] := by decide +kernel
theorem off8_0 : ∀ t : Fin grid0.N, 2 ≤ t.val → k0_off8 (grid0.coords t) = ![t.val, 0, 0] := by decide +kernel
theorem off9_1 : ∀ t : Fin grid0.N, 2 ≤ t.val → k0_off9 (grid0.coords t) 1#32 = ![t.val - 1, 0, 0] := by decide +kernel
theorem off11_1 : ∀ t : Fin grid0.N, 2 ≤ t.val → k0_off11 (grid0.coords t) 1#32 = ![t.val - 1, 1, 0] := by decide +kernel
theorem off9_2 : ∀ t : Fin grid0.N, 2 ≤ t.val → k0_off9 (grid0.coords t) 2#32 = ![t.val - 2, 0, 0] := by decide +kernel
theorem off11_2 : ∀ t : Fin grid0.N, 2 ≤ t.val → k0_off11 (grid0.coords t) 2#32 = ![t.val - 2, 1, 0] := by decide +kernel
theorem off10_2 : ∀ t : Fin grid0.N, 2 ≤ t.val → k0_off10 (grid0.coords t) = ![t.val - 2, 0, 0] := by decide +kernel
theorem off12_2 : ∀ t : Fin grid0.N, 2 ≤ t.val → k0_off12 (grid0.coords t) = ![t.val - 2, 1, 0] := by decide +kernel
theorem off13_0 : ∀ t : Fin grid0.N, 2 ≤ t.val → k0_off13 (grid0.coords t) = ![t.val, 0, 0] := by decide +kernel
theorem off14_1 : ∀ t : Fin grid0.N, 2 ≤ t.val → k0_off14 (grid0.coords t) 1#32 = ![t.val - 1, 0, 0] := by decide +kernel
theorem off16_1 : ∀ t : Fin grid0.N, 2 ≤ t.val → k0_off16 (grid0.coords t) 1#32 = ![t.val - 1, 1, 0] := by decide +kernel
theorem off14_2 : ∀ t : Fin grid0.N, 2 ≤ t.val → k0_off14 (grid0.coords t) 2#32 = ![t.val - 2, 0, 0] := by decide +kernel
theorem off16_2 : ∀ t : Fin grid0.N, 2 ≤ t.val → k0_off16 (grid0.coords t) 2#32 = ![t.val - 2, 1, 0] := by decide +kernel
theorem off15_2 : ∀ t : Fin grid0.N, 2 ≤ t.val → k0_off15 (grid0.coords t) = ![t.val - 2, 0, 0] := by decide +kernel
theorem off17_2 : ∀ t : Fin grid0.N, 2 ≤ t.val → k0_off17 (grid0.coords t) = ![t.val - 2, 1, 0] := by decide +kernel
theorem off18_2 : ∀ t : Fin grid0.N, 2 ≤ t.val → k0_off18 (grid0.coords t) = ![t.val - 2, 0, 0] := by decide +kernel
theorem off19_2 : ∀ t : Fin grid0.N, 2 ≤ t.val → k0_off19 (grid0.coords t) = ![t.val - 2, 0, 0] := by decide +kernel
theorem off20_2 : ∀ t : Fin grid0.N, 2 ≤ t.val → k0_off20 (grid0.coords t) = ![t.val - 2, 1, 0] := by decide +kernel
theorem off21_2 : ∀ t : Fin grid0.N, 2 ≤ t.val → k0_off21 (grid0.coords t) = ![t.val - 2, 1, 0] := by decide +kernel

theorem idle5 : ∀ t : Fin grid0.N, idle0 5 (grid0.coords t) = decide (t.val < 2) := by decide +kernel
theorem idle6 : ∀ t : Fin grid0.N, idle0 6 (grid0.coords t) = decide (t.val ≠ 0) := by decide +kernel
theorem idle7 : ∀ t : Fin grid0.N, idle0 7 (grid0.coords t) = decide (t.val = 0 ∨ t.val = 37) := by decide +kernel
theorem idle8 : ∀ t : Fin grid0.N, idle0 8 (grid0.coords t) = decide (t.val = 0 ∨ t.val = 37) := by decide +kernel
theorem flush5 : ∀ t : Fin grid0.N, win0_5.flush t = decide (2 ≤ t.val) := by decide +kernel
theorem flush6 : ∀ t : Fin grid0.N, win0_6.flush t = decide (t.val = 37) := by decide +kernel
theorem flush7 : ∀ t : Fin grid0.N, win0_7.flush t = decide (1 ≤ t.val ∧ t.val ≠ 36) := by decide +kernel
theorem flush8 : ∀ t : Fin grid0.N, win0_8.flush t = decide (1 ≤ t.val ∧ t.val ≠ 36) := by decide +kernel

end Cert.KernelIdeal.Hand

end
-- ==== Proof.KernelIdeal.Dats.lean ====
/-
  The data of the launch: what the body holds before each grid point, what it leaves in each window, and how that is read
  off the arrays the launch finds.
-/
module

public import proofs.«01_k».proof.Proof.KernelIdeal.State
public import proofs.«01_k».proof.Proof.KernelIdeal.Sched
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ)

/-- A point of the grid by its number. -/
abbrev pt (n : ℕ) : Fin cfg0.N := ⟨min n 37, by show min n 37 < grid0.N; rw [N_0]; omega⟩
theorem pt_val (t : Fin cfg0.N) : pt t.val = t :=
  Fin.ext (by have h : t.val < 38 := N_0 ▸ t.isLt
              show min t.val 37 = t.val; omega)

/-- The operands on a core. -/
def ops (c : Dev nD) : Ops F where
  X := V m c main_v0
  ms := iblk m c 0 (pt 0)
  mh := iblk m c 1 (pt 0)
  w n := iblk m c 2 (pt n)
  ws n := iblk m c 3 (pt n)
  b n := iblk m c 4 (pt n)

/-- What the written arrays hold at the end. -/
def Gout (c : Dev nD) : (b : Ref sig .tc) → Buf (Elt F) ((c.tc : Thread nD τ).loc b) :=
  Function.update (β := fun b => Buf (Elt F) ((c.tc : Thread nD τ).loc b)) (V m c) main_v3_1 (lnHV (ops m c).X)
theorem Gout_h (c : Dev nD) : Gout m c main_v3_1 = lnHV (ops m c).X := Function.update_self ..

/-- What the body holds between two points. -/
def mid (c : Dev nD) (n : ℕ) : sProp 𝕄 :=
  iprop((∃ S, ⌜Inv (ops m c) n S⌝ ∗ held c S) ∗ owns (c : Thread nD τ) xH fullShare (ops m c).X ∗ (∃ d, owns (c : Thread nD τ) xV fullShare d)
    ∗ semVal ((c : Thread nD τ), SemLoc.dma 15) 0
    ∗ (∃ fy fk, ⌜hH.view.read (Elt F) fy = lnHV (ops m c).X⌝ ∗ ⌜hV.view.read (Elt F) fk = lnHV (ops m c).X⌝ ∗ hFlight c fy fk ∗ hKept c fk)
    ∗ (∃ r, prngReg c r))

def PhiAt (c : Dev nD) (n : ℕ) : sProp 𝕄 :=
  if n = 0 then Pipeline.ΦDRG osem0 spec0 H0 R0 (V m) (V m) c
  else if n ≤ 37 then mid m c n
  else Pipeline.ΦDRG osem0 spec0 H0 R0 (V m) (Gout m) c

theorem PhiDRG_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ d, owns (c : Thread nD τ) xV fullShare d) ∗ (∃ d, owns (c : Thread nD τ) p0 fullShare d) ∗ (∃ d, owns (c : Thread nD τ) p1 fullShare d)
          ∗ (∃ d, owns (c : Thread nD τ) wq0 fullShare d) ∗ (∃ d, owns (c : Thread nD τ) wq1 fullShare d) ∗ (∃ d, owns (c : Thread nD τ) m0 fullShare d)
          ∗ (∃ d, owns (c : Thread nD τ) m1 fullShare d) ∗ (∃ d, owns (c : Thread nD τ) rV fullShare d) ∗ (∃ d, owns (c : Thread nD τ) hV fullShare d)
          ∗ (∃ d, owns (c : Thread nD τ) hrep fullShare d) ∗ (∃ d, owns (c : Thread nD τ) mrep fullShare d) ∗ (∃ d, owns (c : Thread nD τ) shV fullShare d)
          ∗ (∃ d, owns (c : Thread nD τ) cV fullShare d) ∗ (∃ d, owns (c : Thread nD τ) scV fullShare d))
        ∗ (∃ r, prngReg c r)
        ∗ iprop(semVal ((c : Thread nD τ), SemLoc.dma 15) 0 ∗ semVal ((c : Thread nD τ), SemLoc.dma 16) 0)
        ∗ owns (c : Thread nD τ) xH fullShare (V m c main_v0) ∗ owns (c : Thread nD τ) hH fullShare (G c main_v3_1)) := by
  rw [Pipeline.ΦDRG_eq, scopedRest0_eq, ownSems00_eq]
  unfold Pipeline.routed
  rw [BI.bigSep_eq_bigSepL_of_eq (S := H0) [main_v0] (by decide) (by decide), BI.bigSep_eq_bigSepL_of_eq (S := R0) [main_v3_1] (by decide) (by decide)]
  simp only [xV, p0, p1, wq0, wq1, m0, m1, rV, hV, hrep, mrep, shV, cV, scV, xH, hH, owns_whole]; try rfl

theorem held_of (c : Dev nD) :
    iprop((∃ d, owns (c : Thread nD τ) p0 fullShare d) ∗ (∃ d, owns (c : Thread nD τ) p1 fullShare d)
      ∗ (∃ d, owns (c : Thread nD τ) wq0 fullShare d) ∗ (∃ d, owns (c : Thread nD τ) wq1 fullShare d) ∗ (∃ d, owns (c : Thread nD τ) m0 fullShare d)
      ∗ (∃ d, owns (c : Thread nD τ) m1 fullShare d) ∗ (∃ d, owns (c : Thread nD τ) rV fullShare d)
      ∗ (∃ d, owns (c : Thread nD τ) hrep fullShare d) ∗ (∃ d, owns (c : Thread nD τ) mrep fullShare d) ∗ (∃ d, owns (c : Thread nD τ) shV fullShare d)
      ∗ (∃ d, owns (c : Thread nD τ) cV fullShare d) ∗ (∃ d, owns (c : Thread nD τ) scV fullShare d)) ⊢ (iprop(∃ S, held c S) : sProp 𝕄) := by
  unfold held
  iintro ⟨⟨%a1, H1⟩, ⟨%a2, H2⟩, ⟨%a3, H3⟩, ⟨%a4, H4⟩, ⟨%a5, H5⟩, ⟨%a6, H6⟩, ⟨%a7, H7⟩, ⟨%a8, H8⟩, ⟨%a9, H9⟩, ⟨%a10, H10⟩, ⟨%a11, H11⟩, ⟨%a12, H12⟩⟩
  iexists (⟨a1, a2, a3, a4, a5, a6, a7, a8, a9, a10, a11, a12⟩ : Bufs F)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What the body leaves in each window. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tY (ops m c) (t.val - 2)
    | ⟨6, _⟩ => hsOf (ops m c).X
    | ⟨7, _⟩ => tQ (ops m c) (min (t.val - 1) 35)
    | ⟨8, _⟩ => tS (ops m c) (min (t.val - 1) 35)
  Φ t := PhiAt m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tY (ops m c) (t.val - 2) := by dsimp only [dats]
theorem after6 (c : Dev nD) (t : Fin cfg0.N) : (dats m 0 c).after 6 t = hsOf (ops m c).X := by dsimp only [dats]
theorem after7 (c : Dev nD) (t : Fin cfg0.N) : (dats m 0 c).after 7 t = tQ (ops m c) (min (t.val - 1) 35) := by dsimp only [dats]
theorem after8 (c : Dev nD) (t : Fin cfg0.N) : (dats m 0 c).after 8 t = tS (ops m c) (min (t.val - 1) 35) := by dsimp only [dats]
theorem Phi_eq (c : Dev nD) (t : Fin (cfg0.N + 1)) : (dats m 0 c).Φ t = PhiAt m c t.val := by dsimp only [dats]

/-! ## What the body finds in the input windows -/

section
variable (c : Dev nD) (t : Fin cfg0.N)
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
end

/-! ## What the body hands back of a window -/

/-- What the body leaves of window `w` at point `t`: the window as found where it stores nothing and nothing is written back,
    else the window at its new contents. -/
def Leave (c : Dev nD) (t : Fin cfg0.N) (w : Fin cfg0.W) : sProp 𝕄 :=
  match cfg0.idle w (cfg0.grid.coords t) with
  | true => match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

section
variable (c : Dev nD) (t : Fin cfg0.N) (w : Fin cfg0.W)
theorem leave_live (h : cfg0.idle w (cfg0.grid.coords t) = false) :
    Leave m c t w = owns (c : Thread nD τ) ((cfg0.win w).stage (cfg0.slots t w)) fullShare ((dats m 0 c).after w t) := by
  unfold Leave; rw [h]
theorem leave_idle (h : cfg0.idle w (cfg0.grid.coords t) = true) (hf : (cfg0.win w).flush t = false) :
    Leave m c t w = iprop(∃ d, owns (c : Thread nD τ) ((cfg0.win w).stage (cfg0.slots t w)) fullShare ((dats m 0 c).before w t d)) := by
  unfold Leave; rw [h, hf]
theorem leave_out (hf : (cfg0.win w).flush t = true) :
    Leave m c t w = owns (c : Thread nD τ) ((cfg0.win w).stage (cfg0.slots t w)) fullShare ((dats m 0 c).after w t) := by
  unfold Leave; rw [hf]; cases cfg0.idle w (cfg0.grid.coords t) <;> rfl
end

/-! ## The windows written back at the last point without being stored there -/

theorem kept_after (c : Dev nD) (w : Fin cfg0.W) (hclip : ∀ i a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

theorem left_live (c : Dev nD) (w : Fin cfg0.W) (hclip : ∀ i a, (cfg0.win w).clip i a = none) (t : Fin cfg0.N)
    (h : cfg0.idle w (cfg0.grid.coords t) = false) (d) : (dats m 0 c).left w t d = (dats m 0 c).after w t := by
  unfold Dat.left; rw [h]; exact kept_after m c w hclip t d

theorem before_last (c : Dev nD) (w : Fin cfg0.W) (hfetch : ∀ t, (cfg0.win w).fetch t = false) (hclip : ∀ i a, (cfg0.win w).clip i a = none)
    (t : Fin cfg0.N) (ht : t.val = 37) (hi : cfg0.idle w (cfg0.grid.coords (pt 36)) = false) (hf : (cfg0.win w).flush (pt 36) = false) (d) :
    (dats m 0 c).before w t d = (dats m 0 c).after w (pt 36) := by
  have e : (⟨t.val - 1, Nat.lt_of_le_of_lt (Nat.sub_le _ _) t.isLt⟩ : Fin cfg0.N) = pt 36 := Fin.ext (by show t.val - 1 = 36; omega)
  rw [(dats m 0 c).before_of_pos w t (by omega) (hfetch t) d, e, hf, if_neg Bool.false_ne_true]
  exact left_live m c w hclip _ hi d

theorem before7_last (c : Dev nD) (t : Fin cfg0.N) (ht : t.val = 37) (d) : (dats m 0 c).before 7 t d = (dats m 0 c).after 7 t := by
  refine (before_last m c 7 (fun _ => rfl) (fun _ _ => rfl) t ht ((idle7 (pt 36)).trans rfl) ((flush7 (pt 36)).trans rfl) d).trans ?_
  rw [after7, after7, ht]; rfl
theorem before8_last (c : Dev nD) (t : Fin cfg0.N) (ht : t.val = 37) (d) : (dats m 0 c).before 8 t d = (dats m 0 c).after 8 t := by
  refine (before_last m c 8 (fun _ => rfl) (fun _ _ => rfl) t ht ((idle8 (pt 36)).trans rfl) ((flush8 (pt 36)).trans rfl) d).trans ?_
  rw [after8, after8, ht]; rfl
theorem before6_last (c : Dev nD) (t : Fin cfg0.N) (ht : t.val = 37) (d) : (dats m 0 c).before 6 t d = (dats m 0 c).after 6 t := by
  rw [(dats m 0 c).before_idle_run 6 (fun _ => rfl) d 36 t (by omega) (fun j h1 h2 =>
    ⟨(idle6 j).trans (decide_eq_true (by omega)), (flush6 j).trans (decide_eq_false (by omega))⟩)]
  have e : (⟨t.val - 36, by omega⟩ : Fin cfg0.N) = pt 1 := Fin.ext (by show t.val - 36 = 1; omega)
  rw [e, (dats m 0 c).before_of_pos 6 (pt 1) (by decide) rfl d]
  have e0 : (⟨(pt 1).val - 1, Nat.lt_of_le_of_lt (Nat.sub_le _ _) (pt 1).isLt⟩ : Fin cfg0.N) = pt 0 := Fin.ext (by decide)
  rw [e0, show (cfg0.win 6).flush (pt 0) = false from (flush6 (pt 0)).trans rfl, if_neg Bool.false_ne_true,
    left_live m c 6 (fun _ _ => rfl) _ ((idle6 (pt 0)).trans rfl), after6, after6]

end Cert.KernelIdeal.Hand

end
-- ==== Proof.KernelIdeal.Case2.lean ====
/-
  One grid step of each kind, run: what it leaves in the windows and in the scratch buffers, from what it found there.
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- Step 1: the first tile turned into codes, the second multiplied. -/
theorem run2 (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x4 : Vec F S256x3072 .fp8e4m3) (x5 : Vec F S1x256 .f32) (x6 : Vec F S1x256 .f32) (S : Bufs F) (K : PUnit → sProp 𝕄) :
    iprop(owns (c : Thread nD τ) arg4 fullShare x4 ∗ owns (c : Thread nD τ) arg5 fullShare x5 ∗ owns (c : Thread nD τ) arg6 fullShare x6 ∗ (∃ d, owns (c : Thread nD τ) arg10 fullShare d) ∗ (∃ d, owns (c : Thread nD τ) arg11 fullShare d) ∗ held c S
      ∗ (iprop(owns (c : Thread nD τ) arg4 fullShare x4 ∗ owns (c : Thread nD τ) arg5 fullShare x5 ∗ owns (c : Thread nD τ) arg6 fullShare x6 ∗ owns (c : Thread nD τ) arg10 fullShare (bQ2 (win S.cv ![36, 0, 0]) S.m0 S.p0) ∗ owns (c : Thread nD τ) arg11 fullShare (bS2 (win S.cv ![36, 0, 0]) S.m0) ∗ held c (step2 S x4 x5 x6)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns
  obtain ⟨Xp0, Xp1, Xq0, Xq1, Xm0, Xm1, Xr, Xhr, Xmr, Xsh, Xcv, Xsc⟩ := S
  iintro ⟨⟨%f4, %hf4, H4⟩, ⟨%f5, %hf5, H5⟩, ⟨%f6, %hf6, H6⟩, ⟨%d10, %f10, -, H10⟩, ⟨%d11, %f11, -, H11⟩, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf4 hf5 hf6 hp0 hp1 hq0 hq1 hm0 hm1 hr hhr hmr hsh hcv hsc
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  unfold step2
  isplitl [Hp0]
  · iexists _; isplitr; swap; · iexact Hp0
    ipureintro; rfl
  isplitl [Hp1]
  · iexists _; isplitr; swap; · iexact Hp1
    ipureintro
    refine (st_planes _ _ _ _ _ _).trans ?_
    sl_unfold_run_names
    simp only [ld_plane0, ld_plane1, cov_plane0, cov_plane1, ld_win, ld_all]
    rfl
  isplitl [Hq0]
  · iexists _; isplitr; swap; · iexact Hq0
    ipureintro
    refine (st_planes _ _ _ _ _ _).trans ?_
    sl_unfold_run_names
    simp only [ld_plane0, ld_plane1, cov_plane0, cov_plane1, ld_win, ld_all]
    rfl
  isplitl [Hq1]
  · iexists _; isplitr; swap; · iexact Hq1
    ipureintro; rfl
  isplitl [Hm0]
  · iexists _; isplitr; swap; · iexact Hm0
    ipureintro; rfl
  isplitl [Hm1]
  · iexists _; isplitr; swap; · iexact Hm1
    ipureintro
    refine (st_planes _ _ _ _ _ _).trans ?_
    sl_unfold_run_names
    simp only [ld_plane0, ld_plane1, cov_plane0, cov_plane1, ld_win, ld_all]
    rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.KernelIdeal.Hand
end
-- ==== Proof.KernelIdeal.Case3.lean ====
/-
  One grid step of each kind, run: what it leaves in the windows and in the scratch buffers, from what it found there.
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- An even step in between. -/
theorem run3 (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1)
    (x4 : Vec F S256x3072 .fp8e4m3) (x5 : Vec F S1x256 .f32) (x6 : Vec F S1x256 .f32) (S : Bufs F) (fk : Buf (Elt F) (hV.view.loc (c : Thread nD τ))) (K : PUnit → sProp 𝕄) :
    iprop(owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg10 fullShare d) ∗ (∃ d, owns (c : Thread nD τ) arg11 fullShare d) ∗ hKept c fk ∗ held c S
      ∗ (iprop(owns (c : Thread nD τ) arg4 fullShare x4 ∗ owns (c : Thread nD τ) arg5 fullShare x5 ∗ owns (c : Thread nD τ) arg6 fullShare x6 ∗ owns (c : Thread nD τ) arg7 fullShare (cY (hV.view.read (Elt F) fk) S.q0 S.hr (win S.sc (k0_off4 i 2#32)) (win S.cv (k0_off5 i)) (win S.sc (k0_off6 i 2#32)) (win S.cv (k0_off7 i))) ∗ owns (c : Thread nD τ) arg10 fullShare (bQ2 (win S.cv ![36, 0, 0]) S.m1 S.p1) ∗ owns (c : Thread nD τ) arg11 fullShare (bS2 (win S.cv ![36, 0, 0]) S.m1) ∗ hKept c fk ∗ held c (step3 i S x4 x5 x6)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f4, %hf4, H4⟩, ⟨%f5, %hf5, H5⟩, ⟨%f6, %hf6, H6⟩, ⟨%d7, %f7, -, H7⟩, ⟨%d10, %f10, -, H10⟩, ⟨%d11, %f11, -, H11⟩, HK, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf4 hf5 hf6 hp0 hp1 hq0 hq1 hm0 hm1 hr hhr hmr hsh hcv hsc
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  isplitl [HK]; · iexact HK
  unfold step3
  isplitl [Hp0]
  · iexists _; isplitr; swap; · iexact Hp0
    ipureintro
    refine (st_planes _ _ _ _ _ _).trans ?_
    sl_unfold_run_names
    simp only [ld_plane0, ld_plane1, cov_plane0, cov_plane1, ld_win, ld_all]
    rfl
  isplitl [Hp1]
  · iexists _; isplitr; swap; · iexact Hp1
    ipureintro; rfl
  isplitl [Hq0]
  · iexists _; isplitr; swap; · iexact Hq0
    ipureintro; rfl
  isplitl [Hq1]
  · iexists _; isplitr; swap; · iexact Hq1
    ipureintro
    refine (st_planes _ _ _ _ _ _).trans ?_
    sl_unfold_run_names
    simp only [ld_plane0, ld_plane1, cov_plane0, cov_plane1, ld_win, ld_all]
    rfl
  isplitl [Hm0]
  · iexists _; isplitr; swap; · iexact Hm0
    ipureintro
    refine (st_planes _ _ _ _ _ _).trans ?_
    sl_unfold_run_names
    simp only [ld_plane0, ld_plane1, cov_plane0, cov_plane1, ld_win, ld_all]
    rfl
  isplitl [Hm1]
  · iexists _; isplitr; swap; · iexact Hm1
    ipureintro; rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.KernelIdeal.Hand
end
-- ==== Proof.KernelIdeal.Case4.lean ====
/-
  One grid step of each kind, run: what it leaves in the windows and in the scratch buffers, from what it found there.
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- An odd step in between. -/
theorem run4 (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (x4 : Vec F S256x3072 .fp8e4m3) (x5 : Vec F S1x256 .f32) (x6 : Vec F S1x256 .f32) (S : Bufs F) (fk : Buf (Elt F) (hV.view.loc (c : Thread nD τ))) (K : PUnit → sProp 𝕄) :
    iprop(owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg10 fullShare d) ∗ (∃ d, owns (c : Thread nD τ) arg11 fullShare d) ∗ hKept c fk ∗ held c S
      ∗ (iprop(owns (c : Thread nD τ) arg4 fullShare x4 ∗ owns (c : Thread nD τ) arg5 fullShare x5 ∗ owns (c : Thread nD τ) arg6 fullShare x6 ∗ owns (c : Thread nD τ) arg7 fullShare (cY (hV.view.read (Elt F) fk) S.q1 S.hr (win S.sc (k0_off9 i 2#32)) (win S.cv (k0_off10 i)) (win S.sc (k0_off11 i 2#32)) (win S.cv (k0_off12 i))) ∗ owns (c : Thread nD τ) arg10 fullShare (bQ2 (win S.cv ![36, 0, 0]) S.m0 S.p0) ∗ owns (c : Thread nD τ) arg11 fullShare (bS2 (win S.cv ![36, 0, 0]) S.m0) ∗ hKept c fk ∗ held c (step4 i S x4 x5 x6)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f4, %hf4, H4⟩, ⟨%f5, %hf5, H5⟩, ⟨%f6, %hf6, H6⟩, ⟨%d7, %f7, -, H7⟩, ⟨%d10, %f10, -, H10⟩, ⟨%d11, %f11, -, H11⟩, HK, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf4 hf5 hf6 hp0 hp1 hq0 hq1 hm0 hm1 hr hhr hmr hsh hcv hsc
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  isplitl [HK]; · iexact HK
  unfold step4
  isplitl [Hp0]
  · iexists _; isplitr; swap; · iexact Hp0
    ipureintro; rfl
  isplitl [Hp1]
  · iexists _; isplitr; swap; · iexact Hp1
    ipureintro
    refine (st_planes _ _ _ _ _ _).trans ?_
    sl_unfold_run_names
    simp only [ld_plane0, ld_plane1, cov_plane0, cov_plane1, ld_win, ld_all]
    rfl
  isplitl [Hq0]
  · iexists _; isplitr; swap; · iexact Hq0
    ipureintro
    refine (st_planes _ _ _ _ _ _).trans ?_
    sl_unfold_run_names
    simp only [ld_plane0, ld_plane1, cov_plane0, cov_plane1, ld_win, ld_all]
    rfl
  isplitl [Hq1]
  · iexists _; isplitr; swap; · iexact Hq1
    ipureintro; rfl
  isplitl [Hm0]
  · iexists _; isplitr; swap; · iexact Hm0
    ipureintro; rfl
  isplitl [Hm1]
  · iexists _; isplitr; swap; · iexact Hm1
    ipureintro
    refine (st_planes _ _ _ _ _ _).trans ?_
    sl_unfold_run_names
    simp only [ld_plane0, ld_plane1, cov_plane0, cov_plane1, ld_win, ld_all]
    rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl, View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.KernelIdeal.Hand
end
-- ==== Proof.KernelIdeal.Case5.lean ====
/-
  One grid step of each kind, run: what it leaves in the windows and in the scratch buffers, from what it found there.
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- Step 36: the last tile turned into codes. -/
theorem run5 (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1)
    (x5 : Vec F S1x256 .f32) (S : Bufs F) (fk : Buf (Elt F) (hV.view.loc (c : Thread nD τ))) (K : PUnit → sProp 𝕄) :
    iprop(owns (c : Thread nD τ) arg5 fullShare x5 ∗ (∃ d, owns (c : Thread nD τ) arg7 fullShare d) ∗ (∃ d, owns (c : Thread nD τ) arg10 fullShare d) ∗ (∃ d, owns (c : Thread nD τ) arg11 fullShare d) ∗ hKept c fk ∗ held c S
      ∗ (iprop(owns (c : Thread nD τ) arg5 fullShare x5 ∗ owns (c : Thread nD τ) arg7 fullShare (cY (hV.view.read (Elt F) fk) S.q0 S.hr (win S.sc (k0_off14 i 2#32)) (win S.cv (k0_off15 i)) (win S.sc (k0_off16 i 2#32)) (win S.cv (k0_off17 i))) ∗ owns (c : Thread nD τ) arg10 fullShare (bQ2 (win S.cv ![36, 0, 0]) S.m1 S.p1) ∗ owns (c : Thread nD τ) arg11 fullShare (bS2 (win S.cv ![36, 0, 0]) S.m1) ∗ hKept c fk ∗ held c (step5 i S x5)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f5, %hf5, H5⟩, ⟨%d7, %f7, -, H7⟩, ⟨%d10, %f10, -, H10⟩, ⟨%d11, %f11, -, H11⟩, HK, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf5 hp0 hp1 hq0 hq1 hm0 hm1 hr hhr hmr hsh hcv hsc
  sl_exec
  sl_step
  iapply Hk
  isplitl [H5]
  · iexists _; isplitr; swap; · iexact H5
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [H10]
  · iexists _; isplitr; swap; · iexact H10
    ipureintro
    refine (st_planes _ _ _ _ _ _).trans ?_
    sl_unfold_run_names
    simp only [ld_plane0, ld_plane1, cov_plane0, cov_plane1, ld_win, ld_all]
    rfl
  isplitl [H11]
  · iexists _; isplitr; swap; · iexact H11
    ipureintro
    refine (st_rows _ _ _ _ _ _).trans ?_
    sl_unfold_run_names
    simp only [ld_plane0, ld_plane1, cov_plane0, cov_plane1, ld_win, ld_all]
    rfl
  isplitl [HK]; · iexact HK
  unfold step5
  isplitl [Hp0]
  · iexists _; isplitr; swap; · iexact Hp0
    ipureintro; rfl
  isplitl [Hp1]
  · iexists _; isplitr; swap; · iexact Hp1
    ipureintro; rfl
  isplitl [Hq0]
  · iexists _; isplitr; swap; · iexact Hq0
    ipureintro; rfl
  isplitl [Hq1]
  · iexists _; isplitr; swap; · iexact Hq1
    ipureintro
    refine (st_planes _ _ _ _ _ _).trans ?_
    sl_unfold_run_names
    simp only [ld_plane0, ld_plane1, cov_plane0, cov_plane1, ld_win, ld_all]
    rfl
  isplitl [Hm0]
  · iexists _; isplitr; swap; · iexact Hm0
    ipureintro; rfl
  isplitl [Hm1]
  · iexists _; isplitr; swap; · iexact Hm1
    ipureintro; rfl
  isplitl [Hr]
  · iexists _; isplitr; swap; · iexact Hr
    ipureintro
    refine (st_planes _ _ _ _ _ _).trans ?_
    sl_unfold_run_names
    simp only [ld_plane0, ld_plane1, cov_plane0, cov_plane1, ld_win, ld_all]
    rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl]
    sl_unfold_run_names
    simp only [ld_plane0, ld_plane1, cov_plane0, cov_plane1, ld_win, ld_all]
    rfl
  · iexists _; isplitr; swap; · iexact Hsc
    ipureintro
    rw [View.read_writes_cons_put _ _ _ _ _ rfl, View.read_writes_cons_put _ _ _ _ _ rfl]
    sl_unfold_run_names
    simp only [ld_plane0, ld_plane1, cov_plane0, cov_plane1, ld_win, ld_all]
    rfl

end
end Cert.KernelIdeal.Hand
end
-- ==== Proof.KernelIdeal.Case6.lean ====
/-
  One grid step of each kind, run: what it leaves in the windows and in the scratch buffers, from what it found there.
-/
module

public import proofs.«01_k».proof.Proof.KernelIdeal.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]
local notation "𝕄" => MT nD τ sig Unit (Elt F) ℕ (Pipeline.UD sig nD τ) ℕ

section
variable (c : Dev nD) (i : grid0.Coords)
    (arg2 : Memref sig .tc .vmem S2x3072 .f32) (harg2 : arg2.IsWhole) (arg3 : Memref sig .tc .vmem S2x3072 .f32) (harg3 : arg3.IsWhole)
    (arg4 : Memref sig .tc .vmem S256x3072 .fp8e4m3) (harg4 : arg4.IsWhole) (arg5 : Memref sig .tc .vmem S1x256 .f32) (harg5 : arg5.IsWhole)
    (arg6 : Memref sig .tc .vmem S1x256 .f32) (harg6 : arg6.IsWhole) (arg7 : Memref sig .tc .vmem S2x512x256 .bf16) (harg7 : arg7.IsWhole)
    (arg9 : Memref sig .tc .vmem S2x512 .f32) (harg9 : arg9.IsWhole) (arg10 : Memref sig .tc .vmem S2x256x3072 .fp8e4m3) (harg10 : arg10.IsWhole)
    (arg11 : Memref sig .tc .vmem S2x256 .f32) (harg11 : arg11.IsWhole)
set_option maxHeartbeats 4000000

/-- Step 37: the last output tile, and the end of the copy of the activation codes. -/
theorem run6 (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (x5 : Vec F S1x256 .f32) (S : Bufs F) (fk : Buf (Elt F) (hV.view.loc (c : Thread nD τ))) (fy : Buf (Elt F) (hH.view.loc (c : Thread nD τ))) (W : Waits sig Unit) (K : PUnit → sProp 𝕄) :
    iprop(owns (c : Thread nD τ) arg5 fullShare x5 ∗ (∃ d, owns (c : Thread nD τ) arg7 fullShare d) ∗ hFlight c fy fk ∗ hKept c fk ∗ owes (c : Thread nD τ) 0 W ∗ held c S
      ∗ (iprop(owns (c : Thread nD τ) arg5 fullShare x5 ∗ owns (c : Thread nD τ) arg7 fullShare (cY (hV.view.read (Elt F) fk) S.q1 S.hr (win S.sc (k0_off18 i)) (win S.cv (k0_off19 i)) (win S.sc (k0_off20 i)) (win S.cv (k0_off21 i))) ∗ (hH.view.loc (c : Thread nD τ) ↦[hH.view.set]{fullShare} fy) ∗ (hV.view.loc (c : Thread nD τ) ↦[hV.view.set]{fullShare} fk) ∗ semVal ((c : Thread nD τ), SemLoc.dma 16) 0 ∗ (∃ W', owes (c : Thread nD τ) 0 W') ∗ held c (step6 S x5)) -∗ K ⟨⟩))
      ⊢ wp frame (wpE (defs₀ (F := F)) Variants.none c none) Set.univ (bodyW i arg2 harg2 arg3 harg3 arg4 harg4 arg5 harg5 arg6 harg6 arg7 harg7 arg9 harg9 arg10 harg10 arg11 harg11) K := by
  unfold bodyW
  simp only [cc0_adaln_fp8_linear_eq_skeleton]; unfold cc0_adaln_fp8_linear_skel
  unfold held owns hKept
  obtain ⟨Xp0, Xp1, Xq0, Xq1, Xm0, Xm1, Xr, Xhr, Xmr, Xsh, Xcv, Xsc⟩ := S
  iintro ⟨⟨%f5, %hf5, H5⟩, ⟨%d7, %f7, -, H7⟩, HF, HK, HO, ⟨⟨%fp0, %hp0, Hp0⟩, ⟨%fp1, %hp1, Hp1⟩, ⟨%fq0, %hq0, Hq0⟩, ⟨%fq1, %hq1, Hq1⟩, ⟨%fm0, %hm0, Hm0⟩, ⟨%fm1, %hm1, Hm1⟩, ⟨%fr, %hr, Hr⟩, ⟨%fhr, %hhr, Hhr⟩, ⟨%fmr, %hmr, Hmr⟩, ⟨%fsh, %hsh, Hsh⟩, ⟨%fcv, %hcv, Hcv⟩, ⟨%fsc, %hsc, Hsc⟩⟩, Hk⟩
  dsimp only at hp0 hp1 hq0 hq1 hm0 hm1 hr hhr hmr hsh hcv hsc
  subst hf5 hp0 hp1 hq0 hq1 hm0 hm1 hr hhr hmr hsh hcv hsc
  set_option sl_exec.lendShare "HK" in sl_exec
  sl_step
  iapply Hk
  isplitl [H5]
  · iexists _; isplitr; swap; · iexact H5
    ipureintro; rfl
  isplitl [H7]
  · iexists _; isplitr; swap; · iexact H7
    ipureintro
    refine (st_quads _ _ _ _ _ _ _ _ _ _).trans ?_
    sl_unfold_run_names
    simp only [ld_plane0, ld_plane1, cov_plane0, cov_plane1, ld_win, ld_all]
    rfl
  isplitl [HF_dst]; · iexact HF_dst
  isplitl [HK]; · iexact HK
  isplitl [HF]; · iexact HF
  isplitl [HO]; · iexists _; iexact HO
  unfold step6
  isplitl [Hp0]
  · iexists _; isplitr; swap; · iexact Hp0
    ipureintro; rfl
  isplitl [Hp1]
  · iexists _; isplitr; swap; · iexact Hp1
    ipureintro; rfl
  isplitl [Hq0]
  · iexists _; isplitr; swap; · iexact Hq0
    ipureintro; rfl
  isplitl [Hq1]
  · iexists _; isplitr; swap; · iexact Hq1
    ipureintro; rfl
  isplitl [Hm0]
  · iexists _; isplitr; swap; · iexact Hm0
    ipureintro; rfl
  isplitl [Hm1]
  · iexists _; isplitr; swap; · iexact Hm1
    ipureintro; rfl
  isplitl [Hr]
  · iexists _; isplitr; swap; · iexact Hr
    ipureintro; rfl
  isplitl [Hhr]
  · iexists _; isplitr; swap; · iexact Hhr
    ipureintro; rfl
  isplitl [Hmr]
  · iexists _; isplitr; swap; · iexact Hmr
    ipureintro; rfl
  isplitl [Hsh]
  · iexists _; isplitr; swap; · iexact Hsh
    ipureintro; rfl
  isplitl [Hcv]
  · iexists _; isplitr; swap; · iexact Hcv
    ipureintro
    rw [View.read_writes_cons_put _ _ _ _ _ rfl]
    sl_unfold_run_names
    simp only [ld_plane0, ld_plane1, cov_plane0, cov_plane1, ld_win, ld_all]
    rfl
  · iexists _; isplitr; swap; · iexact Hsc
    ipureintro; rfl

end
end Cert.KernelIdeal.Hand
end
-- ==== Proof.KernelIdeal.Body.lean ====
/-
  The body's obligation at every grid point: each kind of step, run from what the point before left.
-/
module

public import proofs.«01_k».proof.Proof.KernelIdeal.Dats
public import proofs.«01_k».proof.Proof.KernelIdeal.Case2
public import proofs.«01_k».proof.Proof.KernelIdeal.Case3
public import proofs.«01_k».proof.Proof.KernelIdeal.Case4
public import proofs.«01_k».proof.Proof.KernelIdeal.Case5
public import proofs.«01_k».proof.Proof.KernelIdeal.Case6

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ)

/-- What the body is handed at a point, the input windows' contents named. -/
def bodyPre (c : Dev nD) (t : Fin cfg0.N) : sProp 𝕄 :=
  iprop(PhiAt m c t.val ∗ (∃ W, owes (c : Thread nD τ) 0 W)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t)
    ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare ((dats m 0 c).before 7 t d)) ∗ (∃ d, owns (c : Thread nD τ) (st0_8 t) fullShare ((dats m 0 c).before 8 t d)))
/-- What it hands back. -/
def bodyPost (c : Dev nD) (t : Fin cfg0.N) : sProp 𝕄 :=
  iprop(PhiAt m c (t.val + 1) ∗ (∃ W, owes (c : Thread nD τ) 0 W)
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t)
    ∗ Leave m c t 5 ∗ Leave m c t 6 ∗ Leave m c t 7 ∗ Leave m c t 8)

theorem w_at (c : Dev nD) (t : Fin cfg0.N) : iblk m c 2 t = (ops m c).w t.val := by unfold ops; dsimp only; rw [pt_val]
theorem ws_at (c : Dev nD) (t : Fin cfg0.N) : iblk m c 3 t = (ops m c).ws t.val := by unfold ops; dsimp only; rw [pt_val]
theorem b_at (c : Dev nD) (t : Fin cfg0.N) : iblk m c 4 t = (ops m c).b t.val := by unfold ops; dsimp only; rw [pt_val]
theorem Phi_mid (c : Dev nD) (n : ℕ) (h1 : 1 ≤ n) (h2 : n ≤ 37) : PhiAt m c n = mid m c n := by
  unfold PhiAt; rw [if_neg (by omega), if_pos h2]

section
variable (c : Dev nD) (t : Fin cfg0.N)

/-- The first point. -/
theorem sound1 (ht : t.val = 0) : bodyPre m c t ⊢ wp frame (wpE (defs₀ (F := F)) Variants.none c none) Set.univ (bodyAt0 t) (fun _ => bodyPost m c t) := by
  unfold bodyPre bodyPost
  obtain rfl : t = pt 0 := Fin.ext ht
  rw [show PhiAt m c (pt 0).val = Pipeline.ΦDRG osem0 spec0 H0 R0 (V m) (V m) c from rfl, PhiDRG_eq, Phi_mid m c _ (by omega) (by omega), w_at, ws_at, b_at,
    leave_idle m c (pt 0) 5 ((idle5 (pt 0)).trans (decide_eq_true (by omega))) ((flush5 (pt 0)).trans (decide_eq_false (by omega))), leave_live m c (pt 0) 6 ((idle6 (pt 0)).trans (decide_eq_false (by omega))), after6, leave_idle m c (pt 0) 7 ((idle7 (pt 0)).trans (decide_eq_true (by omega))) ((flush7 (pt 0)).trans (decide_eq_false (by omega))), leave_idle m c (pt 0) 8 ((idle8 (pt 0)).trans (decide_eq_true (by omega))) ((flush8 (pt 0)).trans (decide_eq_false (by omega)))]
  unfold mid
  iintro ⟨⟨⟨HxV, a1, a2, a3, a4, a5, a6, a7, HhV, a9, a10, a11, a12, a13⟩, Hg, ⟨Hs, Hs'⟩, Hx, Hh⟩, ⟨%W, HW⟩, H0, H1, H2, H3, H4, H5, ⟨%d6, H6⟩, H7, H8⟩
  ihave HS := (held_of (F := F) c) $$ [a1 a2 a3 a4 a5 a6 a7 a9 a10 a11 a12 a13]
  · isplitl [a1]; · iexact a1
    isplitl [a2]; · iexact a2
    isplitl [a3]; · iexact a3
    isplitl [a4]; · iexact a4
    isplitl [a5]; · iexact a5
    isplitl [a6]; · iexact a6
    isplitl [a7]; · iexact a7
    isplitl [a9]; · iexact a9
    isplitl [a10]; · iexact a10
    isplitl [a11]; · iexact a11
    isplitl [a12]; · iexact a12
    iexact a13
  icases HS with ⟨%S, HS⟩
  iapply (run1 c (grid0.coords (pt 0)) (st0_0 (pt 0)) _ (st0_1 (pt 0)) _ (st0_2 (pt 0)) _ (st0_3 (pt 0)) _ (st0_4 (pt 0)) _ (st0_5 (pt 0)) _ (st0_6 (pt 0)) _ (st0_7 (pt 0)) _ (st0_8 (pt 0)) _
    ((cond1_iff (pt 0)).mpr (by omega)) (fun h => by have := (cond2_iff (pt 0)).mp h; omega) (fun h => by have := (cond3_iff (pt 0)).mp h; omega) (fun h => by have := (cond4_iff (pt 0)).mp h; omega) (fun h => by have := (cond5_iff (pt 0)).mp h; omega) (fun h => by have := (cond6_iff (pt 0)).mp h; omega)
    (ops m c).ms (ops m c).mh ((ops m c).w 0) ((ops m c).ws 0) ((ops m c).b 0) S (ops m c).X W _)
  isplitl [H0]; · iexact H0
  isplitl [H1]; · iexact H1
  isplitl [H2]; · iexact H2
  isplitl [H3]; · iexact H3
  isplitl [H4]; · iexact H4
  isplitl [H6]; · iexists _; iexact H6
  isplitl [Hx]; · iexact Hx
  isplitl [HxV]; · iexact HxV
  isplitl [HhV]; · iexact HhV
  isplitl [Hh]; · iexists _; iexact Hh
  isplitl [Hs]; · iexact Hs
  isplitl [Hs']; · iexact Hs'
  isplitl [HW]; · iexact HW
  isplitl [HS]; · iexact HS
  iintro ⟨H0, H1, H2, H3, H4, H6, Hx, HxV, Hs, HW, Hf, ⟨%a, %r, HS⟩⟩
  isplitl [Hx HxV Hs Hf HS Hg]
  · isplitl [HS]
    · iexists _; isplitr; swap; · iexact HS
      ipureintro; exact inv1 S a r
    isplitl [Hx]; · iexact Hx
    isplitl [HxV]; · iexact HxV
    isplitl [Hs]; · iexact Hs
    isplitl [Hf]; · iexact Hf
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The second point. -/
theorem sound2 (ht : t.val = 1) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_idle m c t 5 ((idle5 t).trans (decide_eq_true (by omega))) ((flush5 t).trans (decide_eq_false (by omega))), leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, H5, H6, ⟨%d7, H7⟩, ⟨%d8, H8⟩⟩
  have e2 : Inv (ops m c) (t.val + 1) (step2 S ((ops m c).w t.val) ((ops m c).ws t.val) ((ops m c).b t.val)) := by rw [ht] at hS ⊢; exact inv2 hS
  iapply (run2 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) ((cond2_iff t).mpr (by omega)) (fun h => by have := (cond3_iff t).mp h; omega) (fun h => by have := (cond4_iff t).mp h; omega) (fun h => by have := (cond5_iff t).mp h; omega) (fun h => by have := (cond6_iff t).mp h; omega)
    ((ops m c).w t.val) ((ops m c).ws t.val) ((ops m c).b t.val) S _)
  isplitl [H2]; · iexact H2
  isplitl [H3]; · iexact H3
  isplitl [H4]; · iexact H4
  isplitl [H7]; · iexists _; iexact H7
  isplitl [H8]; · iexists _; iexact H8
  isplitl [HS]; · iexact HS
  rw [(outQe hS (by omega) (by omega) (by omega)).1, (outQe hS (by omega) (by omega) (by omega)).2]
  iintro ⟨H2, H3, H4, H7, H8, HS⟩
  isplitl [Hx HxV Hs Hf Hk HS Hg]
  · isplitl [HS]
    · iexists _; isplitr; swap; · iexact HS
      ipureintro; exact e2
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- An even point in between. -/
theorem sound3 (h2 : 2 ≤ t.val) (h36 : t.val < 36) (he : t.val % 2 = 0) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_live m c t 5 ((idle5 t).trans (decide_eq_false (by omega))), after5, leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, ⟨%d5, H5⟩, H6, ⟨%d7, H7⟩, ⟨%d8, H8⟩⟩
  iapply (run3 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) ((cond3_iff t).mpr (by omega)) (fun h => by have := (cond4_iff t).mp h; omega) (fun h => by have := (cond5_iff t).mp h; omega) (fun h => by have := (cond6_iff t).mp h; omega)
    ((ops m c).w t.val) ((ops m c).ws t.val) ((ops m c).b t.val) S fk _)
  isplitl [H2]; · iexact H2
  isplitl [H3]; · iexact H3
  isplitl [H4]; · iexact H4
  isplitl [H5]; · iexists _; iexact H5
  isplitl [H7]; · iexists _; iexact H7
  isplitl [H8]; · iexists _; iexact H8
  isplitl [Hk]; · iexact Hk
  isplitl [HS]; · iexact HS
  rw [(outQo hS (by omega) (by omega) (by omega)).1, (outQo hS (by omega) (by omega) (by omega)).2, hk, off4_2 t h2, off5_2 t h2, off6_2 t h2, off7_2 t h2, outYe hS h2 (by omega) he]
  iintro ⟨H2, H3, H4, H5, H7, H8, Hk, HS⟩
  isplitl [Hx HxV Hs Hf Hk HS Hg]
  · isplitl [HS]
    · iexists _; isplitr; swap; · iexact HS
      ipureintro; exact inv3 _ h2 h36 he (off4_1 t h2) (off6_1 t h2) (off8_0 t h2) hS
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- An odd point in between. -/
theorem sound4 (h2 : 2 ≤ t.val) (h36 : t.val < 36) (he : t.val % 2 = 1) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_live m c t 5 ((idle5 t).trans (decide_eq_false (by omega))), after5, leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, ⟨%d5, H5⟩, H6, ⟨%d7, H7⟩, ⟨%d8, H8⟩⟩
  iapply (run4 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) (fun h => by have := (cond3_iff t).mp h; omega) ((cond4_iff t).mpr (by omega)) (fun h => by have := (cond5_iff t).mp h; omega) (fun h => by have := (cond6_iff t).mp h; omega)
    ((ops m c).w t.val) ((ops m c).ws t.val) ((ops m c).b t.val) S fk _)
  isplitl [H2]; · iexact H2
  isplitl [H3]; · iexact H3
  isplitl [H4]; · iexact H4
  isplitl [H5]; · iexists _; iexact H5
  isplitl [H7]; · iexists _; iexact H7
  isplitl [H8]; · iexists _; iexact H8
  isplitl [Hk]; · iexact Hk
  isplitl [HS]; · iexact HS
  rw [(outQe hS (by omega) (by omega) (by omega)).1, (outQe hS (by omega) (by omega) (by omega)).2, hk, off9_2 t h2, off10_2 t h2, off11_2 t h2, off12_2 t h2, outYo hS h2 (by omega) he]
  iintro ⟨H2, H3, H4, H5, H7, H8, Hk, HS⟩
  isplitl [Hx HxV Hs Hf Hk HS Hg]
  · isplitl [HS]
    · iexists _; isplitr; swap; · iexact HS
      ipureintro; exact inv4 _ h2 h36 he (off9_1 t h2) (off11_1 t h2) (off13_0 t h2) hS
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The point that quantises the last tile. -/
theorem sound5 (ht : t.val = 36) : bodyPre m c t ⊢ wp frame (wpE (defs₀ (F := F)) Variants.none c none) Set.univ (bodyAt0 t) (fun _ => bodyPost m c t) := by
  unfold bodyPre bodyPost
  rw [Phi_mid m c t.val (by omega) (by omega), Phi_mid m c (t.val + 1) (by omega) (by omega), w_at, ws_at, b_at,
    leave_live m c t 5 ((idle5 t).trans (decide_eq_false (by omega))), after5, leave_idle m c t 6 ((idle6 t).trans (decide_eq_true (by omega))) ((flush6 t).trans (decide_eq_false (by omega))), leave_live m c t 7 ((idle7 t).trans (decide_eq_false (by omega))), after7, leave_live m c t 8 ((idle8 t).trans (decide_eq_false (by omega))), after8, show min (t.val - 1) 35 = t.val - 1 by omega]
  unfold mid
  iintro ⟨⟨⟨%S, %hS, HS⟩, Hx, HxV, Hs, ⟨%fy, %fk, %hy, %hk, Hf, Hk⟩, Hg⟩, HW, H0, H1, H2, H3, H4, ⟨%d5, H5⟩, H6, ⟨%d7, H7⟩, ⟨%d8, H8⟩⟩
  have h2 : 2 ≤ t.val := by omega
  have e5 : Inv (ops m c) (t.val + 1) (step5 (grid0.coords t) S ((ops m c).ws t.val)) := by
    have o1 := off14_1 t h2
    have o2 := off16_1 t h2
    rw [ht] at hS o1 o2 ⊢; exact inv5 _ o1 o2 hS
  iapply (run5 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) (fun h => by have := (cond3_iff t).mp h; omega) (fun h => by have := (cond4_iff t).mp h; omega) ((cond5_iff t).mpr (by omega)) (fun h => by have := (cond6_iff t).mp h; omega)
    ((ops m c).ws t.val) S fk _)
  isplitl [H3]; · iexact H3
  isplitl [H5]; · iexists _; iexact H5
  isplitl [H7]; · iexists _; iexact H7
  isplitl [H8]; · iexists _; iexact H8
  isplitl [Hk]; · iexact Hk
  isplitl [HS]; · iexact HS
  rw [(outQo hS (by omega) (by omega) (by omega)).1, (outQo hS (by omega) (by omega) (by omega)).2, hk, off14_2 t h2, off15_2 t h2, off16_2 t h2, off17_2 t h2, outYe hS h2 (by omega) (by omega)]
  iintro ⟨H3, H5, H7, H8, Hk, HS⟩
  isplitl [Hx HxV Hs Hf Hk HS Hg]
  · isplitl [HS]
    · iexists _; isplitr; swap; · iexact HS
      ipureintro; exact e5
    isplitl [Hx]; · iexact Hx
    isplitl [HxV]; · iexact HxV
    isplitl [Hs]; · iexact Hs
    isplitl [Hf Hk]
    · iexists fy, fk
      isplitr; · ipureintro; exact hy
      isplitr; · ipureintro; exact hk
      isplitl [Hf]; · iexact Hf
      iexact Hk
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The last point. -/
theorem sound6 (ht : t.val = 37) : bodyPre m c t ⊢ wp frame (wpE (defs₀ (F := F)) Variants.none c none) Set.univ (bodyAt0 t) (fun _ => bodyPost m c t) := by
  unfold bodyPre bodyPost
  have h2 : 2 ≤ t.val := by omega
  simp only [before6_last m c t ht, before7_last m c t ht, before8_last m c t ht]
  rw [Phi_mid m c t.val (by omega) (by omega), ws_at,
    show PhiAt m c (t.val + 1) = Pipeline.ΦDRG osem0 spec0 H0 R0 (V m) (Gout m) c by unfold PhiAt; rw [if_neg (by omega), if_neg (by omega)], PhiDRG_eq, Gout_h,
    leave_live m c t 5 ((idle5 t).trans (decide_eq_false (by omega))), after5, leave_out m c t 6 ((flush6 t).trans (decide_eq_true (by omega))), leave_out m c t 7 ((flush7 t).trans (decide_eq_true (by omega))), leave_out m c t 8 ((flush8 t).trans (decide_eq_true (by omega)))]
  unfold mid
  iintro ⟨⟨⟨%S, %hS, HS⟩, Hx, HxV, Hs, ⟨%fy, %fk, %hy, %hk, Hf, Hk⟩, Hg⟩, ⟨%W, HW⟩, H0, H1, H2, H3, H4, ⟨%d5, H5⟩, ⟨%d6, H6⟩, ⟨%d7, H7⟩, ⟨%d8, H8⟩⟩
  iapply (run6 c (grid0.coords t) (st0_0 t) _ (st0_1 t) _ (st0_2 t) _ (st0_3 t) _ (st0_4 t) _ (st0_5 t) _ (st0_6 t) _ (st0_7 t) _ (st0_8 t) _
    (fun h => by have := (cond1_iff t).mp h; omega) (fun h => by have := (cond2_iff t).mp h; omega) (fun h => by have := (cond3_iff t).mp h; omega) (fun h => by have := (cond4_iff t).mp h; omega) (fun h => by have := (cond5_iff t).mp h; omega) ((cond6_iff t).mpr (by omega))
    ((ops m c).ws t.val) S fk fy W _)
  isplitl [H3]; · iexact H3
  isplitl [H5]; · iexists _; iexact H5
  isplitl [Hf]; · iexact Hf
  isplitl [Hk]; · iexact Hk
  isplitl [HW]; · iexact HW
  isplitl [HS]; · iexact HS
  rw [hk, off18_2 t h2, off19_2 t h2, off20_2 t h2, off21_2 t h2, outYo hS h2 (by omega) (by omega)]
  unfold held
  iintro ⟨H3, H5, Hh, HhV, Hs', HW, ⟨a1, a2, a3, a4, a5, a6, a7, a9, a10, a11, a12, a13⟩⟩
  isplitl [Hx HxV Hs Hg Hh HhV Hs' a1 a2 a3 a4 a5 a6 a7 a9 a10 a11 a12 a13]
  · isplitl [HxV HhV a1 a2 a3 a4 a5 a6 a7 a9 a10 a11 a12 a13]
    · isplitl [HxV]; · iexact HxV
      isplitl [a1]; · iexists _; iexact a1
      isplitl [a2]; · iexists _; iexact a2
      isplitl [a3]; · iexists _; iexact a3
      isplitl [a4]; · iexists _; iexact a4
      isplitl [a5]; · iexists _; iexact a5
      isplitl [a6]; · iexists _; iexact a6
      isplitl [a7]; · iexists _; iexact a7
      isplitl [HhV]
      · unfold owns; iexists _, _; isplitr; swap; · iexact HhV
        ipureintro; rfl
      isplitl [a9]; · iexists _; iexact a9
      isplitl [a10]; · iexists _; iexact a10
      isplitl [a11]; · iexists _; iexact a11
      isplitl [a12]; · iexists _; iexact a12
      iexists _; iexact a13
    isplitl [Hg]; · iexact Hg
    isplitl [Hs Hs']
    · isplitl [Hs]; · iexact Hs
      iexact Hs'
    isplitl [Hx]; · iexact Hx
    unfold owns; iexists _; isplitr; swap; · iexact Hh
    ipureintro; exact hy
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Every point. -/
theorem sound_body : bodyPre m c t ⊢ wp frame (wpE (defs₀ (F := F)) Variants.none c none) Set.univ (bodyAt0 t) (fun _ => bodyPost m c t) := by
  have hN : t.val < 38 := N_0 ▸ t.isLt
  by_cases h0 : t.val = 0
  · exact sound1 m c t h0
  by_cases h1 : t.val = 1
  · exact sound2 m c t h1
  by_cases h36 : t.val < 36
  · by_cases he : t.val % 2 = 0
    · exact sound3 m c t (by omega) h36 he
    · exact sound4 m c t (by omega) h36 (by omega)
  by_cases h36' : t.val = 36
  · exact sound5 m c t h36'
  · exact sound6 m c t (by omega)
end

theorem defs₀_row (t : Fin cfg0.N) : defs₀ (F := F) .tc cfg0.body (cfg0.bodyArgs t (cfg0.slots t)) = bodyAt0 t := by
  unfold defs₀; rw [Defs.onTc_tc]

theorem pre_of (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d))
      ∗ (∃ d, owns (c : Thread nD τ) (st0_8 t) fullShare ((dats m 0 c).before 8 t d))) ⊢ bodyPre m c t := by
  unfold bodyPre Dat.owesAt Pipeline.owesWithin
  rw [show (dats m 0 c).owed t.castSucc = 0 from rfl, Phi_eq, show t.castSucc.val = t.val from rfl]
  simp only [before0, before1, before2, before3, before4]
  iintro ⟨HΦ, ⟨%W, -, HW⟩, ⟨%d0, H0⟩, ⟨%d1, H1⟩, ⟨%d2, H2⟩, ⟨%d3, H3⟩, ⟨%d4, H4⟩, H5, H6, H7, H8⟩
  isplitl [HΦ]; · iexact HΦ
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem post_of (c : Dev nD) (t : Fin cfg0.N) :
    bodyPost m c t ⊢ iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t)
      ∗ owns (c : Thread nD τ) (st0_4 t) fullShare ((dats m 0 c).after 4 t) ∗ Leave m c t 5 ∗ Leave m c t 6 ∗ Leave m c t 7 ∗ Leave m c t 8) := by
  unfold bodyPost Dat.owesAt Pipeline.owesWithin
  rw [show (dats m 0 c).owed t.succ = 0 from rfl, Phi_eq, show t.succ.val = t.val + 1 from rfl, after0, after1, after2, after3, after4]
  iintro ⟨HΦ, ⟨%W, HW⟩, H0, H1, H2, H3, H4, H5, H6, H7, H8⟩
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0, defs₀_row]
  exact triple_restated (sound_body m c t) rfl (pre_of m c t) fun _ => post_of m c t

end Cert.KernelIdeal.Hand

end
-- ==== Proof.KernelIdeal.Frame.lean ====
/-
  The run of the whole program: every window's array at what the grid left, the codes of the activations at what the copy
  delivered, the arguments as launched, every semaphore at zero.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
theorem run_main : θ_run defs (onTc (τ := τ) (main (F := F))) (s₀ m ρ)
    (fun r => Pipeline.FramePostRG cfgs (dats m) 0 R0 (V m) (Gout m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := Gout m)
    (hin := fun _ => .rfl) (hout := fun _ => .rfl)

theorem rest_arg {r : PUnit × MemSt nD τ sig (Elt F)} (h : Pipeline.FramePostRG cfgs (dats m) 0 R0 (V m) (Gout m) r) (c : Dev nD) (b : Ref sig .tc)
    (hb : b ∈ Pipeline.restRefs sig spec0 \ R0) : r.2.mem ((c.tc : Thread nD τ).loc b) = V m c b := (h.1 c).2 b hb

/-- The program leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(rest_arg m h.1 c main_arg0 (by decide)).trans (V_main_arg0 m c),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c))),
      (rest_arg m h.1 c main_arg4 (by decide)).trans (V_main_arg4 m c),
      (rest_arg m h.1 c main_arg5 (by decide)).trans (V_main_arg5 m c)⟩, h.2⟩) (run_main m ρ)

end Cert.KernelIdeal.Hand

end
-- ==== Proof.Value.Scale.lean ====
/-
  The power-of-two scale of a row. The kernel finds the exponent field of the scale by halving; the reference counts it up one
  by one. Both stop at the last field whose power of two is not above the value, so they agree.
-/
module

public import Idealize.ShloMosaic.PureOps.Ideal
public import Idealize.ShloMosaic.Lib.Exec.Context

@[expose] public section

noncomputable section

namespace Cert.Value

open Idealize.ShloMosaic

/-- The float whose exponent field is `f`. -/
def fv (f : BitVec 32) : EReal := Ideal.ofBits .f32 (IntOp.shli .vector f 23#32)
/-- The same, the field a natural number. -/
def gv (n : ℕ) : EReal := fv (BitVec.ofNat 32 n)

theorem bits_sign : ∀ n : Fin 256, ((BitVec.ofNat 32 n.val <<< (23#32).toNat).extractLsb' 31 1 == 1#1) = false := by decide
theorem bits_exp : ∀ n : Fin 256, ((BitVec.ofNat 32 n.val <<< (23#32).toNat).extractLsb' 23 8).toNat = n.val := by decide
theorem bits_frac : ∀ n : Fin 256, ((BitVec.ofNat 32 n.val <<< (23#32).toNat).extractLsb' 0 23).toNat = 0 := by decide

theorem pow_arith (n : ℕ) : (1 * ((2 ^ 23 + 0 : ℕ) : ℝ)) * (2 : ℝ) ^ ((n : Int) - (2 ^ (8 - 1) - 1) - ((23 : ℕ) : Int)) = (2 : ℝ) ^ ((n : Int) - 127) := by
  have e1 : ((2 ^ 23 + 0 : ℕ) : ℝ) = (2 : ℝ) ^ (23 : Int) := by norm_num
  have e2 : (23 : Int) + ((n : Int) - (2 ^ (8 - 1) - 1) - ((23 : ℕ) : Int)) = (n : Int) - 127 := by norm_num
  rw [e1, one_mul, ← zpow_add₀ (by norm_num), e2]
theorem gv_val (n : ℕ) (h : n < 256) :
    gv n = if n = 255 then (⊤ : EReal) else if n = 0 then 0 else (((2 : ℝ) ^ ((n : Int) - 127) : ℝ) : EReal) := by
  have h1 := bits_sign ⟨n, h⟩
  have h2 := bits_exp ⟨n, h⟩
  have h3 := bits_frac ⟨n, h⟩
  have hs : IntOp.shli .vector (BitVec.ofNat 32 n) 23#32 = BitVec.ofNat 32 n <<< (23#32).toNat := by
    unfold IntOp.shli; rw [if_pos (by decide)]; rfl
  unfold gv fv
  rw [hs]
  show Ideal.ieee 8 23 _ = _
  unfold Ideal.ieee
  simp only [] at h1 h2 h3 ⊢
  rw [show 8 + 23 = 31 from rfl, h1, h2, h3]
  simp only [Bool.false_eq_true, if_false, if_true]
  by_cases e1 : n = 255
  · simp [e1]
  · by_cases e0 : n = 0
    · simp [e0]
    · have e1' : ¬ n = 2 ^ 8 - 1 := by norm_num; exact e1
      rw [if_neg e1, if_neg e1', if_neg e0, if_neg e0]
      exact congrArg Real.toEReal (pow_arith n)

theorem gv_step (n : ℕ) (h : n < 255) : gv n ≤ gv (n + 1) := by
  rw [gv_val n (by omega), gv_val (n + 1) (by omega), if_neg (by omega : n ≠ 255), if_neg (by omega : n + 1 ≠ 0)]
  by_cases e1 : n + 1 = 255
  · rw [if_pos e1]; exact le_top
  · rw [if_neg e1]
    by_cases e0 : n = 0
    · rw [if_pos e0]; exact_mod_cast (zpow_pos (by norm_num : (0 : ℝ) < 2) _).le
    · rw [if_neg e0]
      refine EReal.coe_le_coe_iff.mpr (zpow_le_zpow_right₀ (by norm_num) ?_)
      push_cast; omega

theorem gv_mono {a b : ℕ} (hab : a ≤ b) : b < 256 → gv a ≤ gv b := by
  induction b, hab using Nat.le_induction with
  | base => exact fun _ => le_rfl
  | succ b _ ih => exact fun h => (ih (by omega)).trans (gv_step b (by omega))

theorem gv_zero : gv 0 = 0 := by rw [gv_val 0 (by decide)]; simp

/-- The last field not above `q` lies in `a … a + s - 1`. -/
def Within (q : EReal) (a s : ℕ) : Prop := a + s ≤ 256 ∧ gv a ≤ q ∧ (a + s = 256 ∨ ¬ gv (a + s) ≤ q)

theorem within_unique {q : EReal} {a b : ℕ} (ha : Within q a 1) (hb : Within q b 1) : a = b := by
  obtain ⟨a1, a2, a3⟩ := ha
  obtain ⟨b1, b2, b3⟩ := hb
  rcases Nat.lt_trichotomy a b with h | h | h
  · rcases a3 with e | e
    · omega
    · exact absurd ((gv_mono (by omega : a + 1 ≤ b) (by omega)).trans b2) e
  · exact h
  · rcases b3 with e | e
    · omega
    · exact absurd ((gv_mono (by omega : b + 1 ≤ a) (by omega)).trans a2) e

/-- One step of the kernel's search. -/
def kStep (q : EReal) (m f : BitVec 32) : BitVec 32 :=
  if fv (IntOp.addi f m) ≤ q then IntOp.addi f m else f

theorem kStep_within {q : EReal} {a s : ℕ} (h : Within q a (2 * s)) :
    ∃ b, kStep q (BitVec.ofNat 32 s) (BitVec.ofNat 32 a) = BitVec.ofNat 32 b ∧ Within q b s := by
  obtain ⟨h1, h2, h3⟩ := h
  have e : IntOp.addi (BitVec.ofNat 32 a) (BitVec.ofNat 32 s) = BitVec.ofNat 32 (a + s) := (BitVec.ofNat_add a s).symm
  unfold kStep
  rw [e]
  by_cases hq : fv (BitVec.ofNat 32 (a + s)) ≤ q
  · rw [if_pos hq]
    exact ⟨a + s, rfl, by omega, hq, by rw [show a + s + s = a + 2 * s by omega]; exact h3⟩
  · rw [if_neg hq]
    exact ⟨a, rfl, by omega, h2, .inr hq⟩

/-- The kernel's search: eight steps. -/
def kField (q : EReal) (n : ℕ) : BitVec 32 :=
  (List.finRange n).foldl (fun f (k : Fin n) => kStep q (Scalar.shrsi 128#32 (Scf.iv 0#32 1#32 k.val)) f) 0#32

theorem kField_within (q : EReal) (hq : 0 ≤ q) : ∃ a, kField q 8 = BitVec.ofNat 32 a ∧ Within q a 1 := by
  have h0 : Within q 0 (2 * 128) := ⟨by decide, by rw [gv_zero]; exact hq, .inl rfl⟩
  obtain ⟨a1, e1, w1⟩ := kStep_within h0
  obtain ⟨a2, e2, w2⟩ := kStep_within (s := 64) w1
  obtain ⟨a3, e3, w3⟩ := kStep_within (s := 32) w2
  obtain ⟨a4, e4, w4⟩ := kStep_within (s := 16) w3
  obtain ⟨a5, e5, w5⟩ := kStep_within (s := 8) w4
  obtain ⟨a6, e6, w6⟩ := kStep_within (s := 4) w5
  obtain ⟨a7, e7, w7⟩ := kStep_within (s := 2) w6
  obtain ⟨a8, e8, w8⟩ := kStep_within (s := 1) w7
  refine ⟨a8, ?_, w8⟩
  unfold kField
  show kStep q (Scalar.shrsi 128#32 (Scf.iv 0#32 1#32 7)) (kStep q (Scalar.shrsi 128#32 (Scf.iv 0#32 1#32 6)) (kStep q (Scalar.shrsi 128#32 (Scf.iv 0#32 1#32 5))
    (kStep q (Scalar.shrsi 128#32 (Scf.iv 0#32 1#32 4)) (kStep q (Scalar.shrsi 128#32 (Scf.iv 0#32 1#32 3)) (kStep q (Scalar.shrsi 128#32 (Scf.iv 0#32 1#32 2))
    (kStep q (Scalar.shrsi 128#32 (Scf.iv 0#32 1#32 1)) (kStep q (Scalar.shrsi 128#32 (Scf.iv 0#32 1#32 0)) 0#32))))))) = _
  rw [show Scalar.shrsi 128#32 (Scf.iv 0#32 1#32 0) = BitVec.ofNat 32 128 by decide, show Scalar.shrsi 128#32 (Scf.iv 0#32 1#32 1) = BitVec.ofNat 32 64 by decide,
    show Scalar.shrsi 128#32 (Scf.iv 0#32 1#32 2) = BitVec.ofNat 32 32 by decide, show Scalar.shrsi 128#32 (Scf.iv 0#32 1#32 3) = BitVec.ofNat 32 16 by decide,
    show Scalar.shrsi 128#32 (Scf.iv 0#32 1#32 4) = BitVec.ofNat 32 8 by decide, show Scalar.shrsi 128#32 (Scf.iv 0#32 1#32 5) = BitVec.ofNat 32 4 by decide,
    show Scalar.shrsi 128#32 (Scf.iv 0#32 1#32 6) = BitVec.ofNat 32 2 by decide, show Scalar.shrsi 128#32 (Scf.iv 0#32 1#32 7) = BitVec.ofNat 32 1 by decide,
    show (0#32) = BitVec.ofNat 32 0 by rfl, e1, e2, e3, e4, e5, e6, e7, e8]

/-- One step of the reference's count. -/
def rStep (q : EReal) (e : BitVec 32) : BitVec 32 :=
  if fv (IntOp.addi 127#32 e) ≤ q then IntOp.addi e 1#32 else e
/-- The reference's count over a list of trips. -/
def rExp (q : EReal) (n : ℕ) : BitVec 32 := (List.finRange n).foldl (fun e _ => rStep q e) 4294967170#32

theorem rStep_at (q : EReal) (a : ℕ) : rStep q (BitVec.ofNat 32 a - 126#32) = BitVec.ofNat 32 (if gv (a + 1) ≤ q then a + 1 else a) - 126#32 := by
  have e1 : IntOp.addi 127#32 (BitVec.ofNat 32 a - 126#32) = BitVec.ofNat 32 (a + 1) := by
    unfold IntOp.addi
    rw [BitVec.ofNat_add]
    generalize BitVec.ofNat 32 a = x
    rw [show (127#32) = 126#32 + 1#32 by decide, BitVec.add_comm, ← BitVec.add_assoc, BitVec.sub_add_cancel]
  have e2 : IntOp.addi (BitVec.ofNat 32 a - 126#32) 1#32 = BitVec.ofNat 32 (a + 1) - 126#32 := by
    unfold IntOp.addi
    rw [BitVec.ofNat_add]
    generalize BitVec.ofNat 32 a = x
    rw [BitVec.sub_eq_add_neg, BitVec.sub_eq_add_neg, BitVec.add_assoc, BitVec.add_comm (-126#32), ← BitVec.add_assoc]
  unfold rStep
  rw [e1, e2]
  unfold gv
  by_cases h : fv (BitVec.ofNat 32 (a + 1)) ≤ q
  · rw [if_pos h, if_pos h]
  · rw [if_neg h, if_neg h]

theorem rFold (q : EReal) {n : ℕ} (l : List (Fin n)) : ∀ (a m : ℕ), m + l.length = 255 → a ≤ m → gv a ≤ q → (a = m ∨ ¬ gv (a + 1) ≤ q) →
    ∃ b, l.foldl (fun e _ => rStep q e) (BitVec.ofNat 32 a - 126#32) = BitVec.ofNat 32 b - 126#32 ∧ Within q b 1 := by
  induction l with
  | nil =>
    intro a m hm ham ha h
    rw [List.length_nil] at hm
    exact ⟨a, List.foldl_nil, by omega, ha, h.imp (fun e => by omega) id⟩
  | cons k l ih =>
    intro a m hm ham ha h
    rw [List.foldl_cons, rStep_at]
    have hm' : m + 1 + l.length = 255 := by rw [List.length_cons] at hm; omega
    by_cases hq : gv (a + 1) ≤ q
    · rw [if_pos hq]
      exact ih (a + 1) (m + 1) hm' (by have := h.resolve_right (not_not_intro hq); omega) hq (.inl (by have := h.resolve_right (not_not_intro hq); omega))
    · rw [if_neg hq]
      exact ih a (m + 1) hm' (by omega) ha (.inr hq)

theorem rExp_within (q : EReal) (hq : 0 ≤ q) : ∃ b, rExp q 255 = BitVec.ofNat 32 b - 126#32 ∧ Within q b 1 :=
  rFold q (List.finRange 255) 0 0 (by rw [List.length_finRange]) le_rfl (by rw [gv_zero]; exact hq) (.inl rfl)

/-- The two searches find the same exponent. -/
theorem search_eq (q : EReal) (hq : 0 ≤ q) : IntOp.subi (kField q 8) 126#32 = rExp q 255 := by
  obtain ⟨a, ea, wa⟩ := kField_within q hq
  obtain ⟨b, eb, wb⟩ := rExp_within q hq
  rw [ea, eb, within_unique wa wb]; rfl

/-- A loop over vectors whose step acts element by element, read at an index. -/
theorem fold_at {ι : Type} {n : ℕ} (g : Fin n → (ι → BitVec 32) → ι → BitVec 32) (init : ι → BitVec 32) (i : ι) (st : Fin n → BitVec 32 → BitVec 32)
    (h : ∀ k x, g k x i = st k (x i)) : Scf.fold g init i = (List.finRange n).foldl (fun a k => st k a) (init i) := by
  rw [Scf.fold_eq]
  generalize List.finRange n = l
  induction l generalizing init with
  | nil => rfl
  | cons k l ih => rw [List.foldl_cons, List.foldl_cons, ih, h]

/-! ## A row's scale, its inverse and its codes -/

/-- The constants: 1/448, and the largest code and its negative. -/
def κ2 : EReal := Ideal.ofBits .f32 0x3B124925#32
def cHi : EReal := Ideal.ofBits .f32 0x43E00000#32
def cLo : EReal := Ideal.ofBits .f32 0xC3E00000#32

/-- The exponent of the scale of a row with largest magnitude `a`, the scale, and its inverse. -/
def ex (a : EReal) : BitVec 32 := if a = 0 then 0#32 else rExp (a * κ2) 255
def scl (a : EReal) : EReal := fv (IntOp.addi 127#32 (ex a))
def ivl (a : EReal) : EReal := fv (IntOp.addi 127#32 (IntOp.subi 0#32 (ex a)))
/-- A value brought within the codes' range. -/
def clip (v : EReal) : EReal := min cHi (max cLo v)

theorem κ2_pos : 0 < κ2 := by
  unfold κ2
  show (0 : EReal) < Ideal.ieee 8 23 (0x3B124925#32)
  unfold Ideal.ieee
  simp
  exact EReal.mul_pos (EReal.coe_pos.mpr (by norm_num)) (EReal.coe_pos.mpr (by norm_num))

/-- What the kernel computes as the exponent, from `q = a / 448`. -/
def kEx (q : EReal) : BitVec 32 := if q = 0 then 0#32 else IntOp.subi (kField q 8) 126#32

theorem kEx_eq (a : EReal) (ha : 0 ≤ a) : kEx (a * κ2) = ex a := by
  unfold kEx ex
  by_cases h : a = 0
  · rw [if_pos h, if_pos (by rw [h, zero_mul])]
  · rw [if_neg h, if_neg (fun e => (mul_eq_zero.mp e).elim h κ2_pos.ne'), search_eq _ (mul_nonneg ha κ2_pos.le)]

theorem kInv_eq (e : BitVec 32) : IntOp.subi 127#32 e = IntOp.addi 127#32 (IntOp.subi 0#32 e) := by
  unfold IntOp.subi IntOp.addi
  rw [BitVec.zero_sub, BitVec.sub_eq_add_neg]

end Cert.Value

end
-- ==== Proof.Value.Spec.lean ====
module

public import proofs.«01_k».proof.Proof.Value.Scale

/-!
# The results, entry by entry

What both programs leave in each entry of each result, stated for one row at a time: the layer norm of
a row, the modulated row of the weight, a row's quantised codes and scale, and one entry of the output.
-/

@[expose] public section
set_option maxRecDepth 16384
noncomputable section
namespace Cert.Value
open Idealize.ShloMosaic

/-- `1/3072` as it is written, and the layer norm's `ε`. -/
def κ : EReal := Ideal.ofBits .f32 0x39AAAAAB#32
def ε : EReal := Ideal.ofBits .f32 0x358637BD#32

/-- The largest magnitude in a row. -/
def amax (v : Fin 3072 → EReal) : EReal :=
  Finset.fold max (Ideal.ofBits .f32 0xFF800000#32) (fun k => max (v k) (-(v k))) Finset.univ

def mean (x : Fin 3072 → EReal) : EReal := (∑ k, x k) * κ
/-- A row less its mean. -/
def cent (x : Fin 3072 → EReal) (k : Fin 3072) : EReal := x k - mean x
def rstd (x : Fin 3072 → EReal) : EReal := Ideal.rsqrt ((∑ k, cent x k * cent x k) * κ + ε)
/-- The layer norm of a row. -/
def norm (x : Fin 3072 → EReal) (k : Fin 3072) : EReal := cent x k * rstd x
/-- A row's codes. -/
def codes (v : Fin 3072 → EReal) (k : Fin 3072) : EReal := clip (v k * ivl (amax v))
/-- A modulated row of the weight. -/
def wrow (s w : Fin 3072 → EReal) (c : EReal) (k : Fin 3072) : EReal := (1 + s k) * (w k * c)
/-- One entry of the output. -/
def yval (x s h w : Fin 3072 → EReal) (c b : EReal) : EReal :=
  (∑ k, codes (norm x) k * codes (wrow s w c) k) * scl (amax (norm x)) * scl (amax (wrow s w c))
    + ((∑ k, h k * w k) * c + b)

end Cert.Value
-- ==== Proof.Value.Lanes.lean ====
module

public import proofs.«01_k».proof.Proof.Value.Spec
public import Idealize.ShloMosaic.Lib.Pointwise

/-!
# Rows as 24 groups of 128 lanes

A row's sum and its largest entry, taken first over the groups lane by lane and then over the lanes;
and the facts about magnitudes that the kernel's order of operations rests on.
-/

@[expose] public section
set_option maxRecDepth 16384
noncomputable section
namespace Cert.Value
open Idealize.ShloMosaic

/-- Lane `x` of group `g`. -/
def lane (g : Fin 24) (x : Fin 128) : Fin 3072 := ⟨128 * g.val + x.val, by omega⟩

theorem lane_zero (x : Fin 128) : lane 0 x = ⟨x.val, by omega⟩ := Fin.ext (by simp [lane])

theorem all24 (P : Fin 24 → Prop) : ((((((((((((((((((((((((P 0) ∧ P 1) ∧ P 2) ∧ P 3) ∧ P 4) ∧ P 5) ∧ P 6) ∧ P 7) ∧ P 8) ∧ P 9) ∧ P 10) ∧ P 11) ∧ P 12) ∧ P 13) ∧ P 14) ∧ P 15) ∧ P 16) ∧ P 17) ∧ P 18) ∧ P 19) ∧ P 20) ∧ P 21) ∧ P 22) ∧ P 23) ↔ ∀ g, P g :=
  ⟨fun ⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ g => match g with
    | ⟨0, _⟩ => h0
    | ⟨1, _⟩ => h1
    | ⟨2, _⟩ => h2
    | ⟨3, _⟩ => h3
    | ⟨4, _⟩ => h4
    | ⟨5, _⟩ => h5
    | ⟨6, _⟩ => h6
    | ⟨7, _⟩ => h7
    | ⟨8, _⟩ => h8
    | ⟨9, _⟩ => h9
    | ⟨10, _⟩ => h10
    | ⟨11, _⟩ => h11
    | ⟨12, _⟩ => h12
    | ⟨13, _⟩ => h13
    | ⟨14, _⟩ => h14
    | ⟨15, _⟩ => h15
    | ⟨16, _⟩ => h16
    | ⟨17, _⟩ => h17
    | ⟨18, _⟩ => h18
    | ⟨19, _⟩ => h19
    | ⟨20, _⟩ => h20
    | ⟨21, _⟩ => h21
    | ⟨22, _⟩ => h22
    | ⟨23, _⟩ => h23
    | ⟨_ + 24, h⟩ => absurd h (by omega), fun h => by simp only [h, and_self]⟩

theorem sum_lanes (f : Fin 3072 → EReal) : ∑ k, f k = ∑ x : Fin 128, ∑ g : Fin 24, f (lane g x) := by
  rw [Finset.sum_comm, ← Fintype.sum_prod_type' (fun (g : Fin 24) (x : Fin 128) => f (lane g x))]
  refine (Fintype.sum_equiv (finProdFinEquiv (m := 24) (n := 128)) _ _ fun p => ?_).symm
  exact congrArg f (Fin.ext (by simp [lane, finProdFinEquiv, Nat.add_comm]))

theorem sum24 (h : Fin 24 → EReal) : ∑ g, h g = h 0 + h 1 + h 2 + h 3 + h 4 + h 5 + h 6 + h 7 + h 8 + h 9 + h 10 + h 11 + h 12 + h 13 + h 14 + h 15 + h 16 + h 17 + h 18 + h 19 + h 20 + h 21 + h 22 + h 23 := by
  simp only [Fin.sum_univ_castSucc, Fin.sum_univ_zero, zero_add]
  rfl

theorem sum_groups (f : Fin 3072 → EReal) : ∑ x : Fin 128, (f ⟨x.val, by omega⟩ + f ⟨128 + x.val, by omega⟩ + f ⟨256 + x.val, by omega⟩ + f ⟨384 + x.val, by omega⟩ + f ⟨512 + x.val, by omega⟩ + f ⟨640 + x.val, by omega⟩ + f ⟨768 + x.val, by omega⟩ + f ⟨896 + x.val, by omega⟩ + f ⟨1024 + x.val, by omega⟩ + f ⟨1152 + x.val, by omega⟩ + f ⟨1280 + x.val, by omega⟩ + f ⟨1408 + x.val, by omega⟩ + f ⟨1536 + x.val, by omega⟩ + f ⟨1664 + x.val, by omega⟩ + f ⟨1792 + x.val, by omega⟩ + f ⟨1920 + x.val, by omega⟩ + f ⟨2048 + x.val, by omega⟩ + f ⟨2176 + x.val, by omega⟩ + f ⟨2304 + x.val, by omega⟩ + f ⟨2432 + x.val, by omega⟩ + f ⟨2560 + x.val, by omega⟩ + f ⟨2688 + x.val, by omega⟩ + f ⟨2816 + x.val, by omega⟩ + f ⟨2944 + x.val, by omega⟩) = ∑ k, f k := by
  rw [sum_lanes]
  refine Finset.sum_congr rfl fun x _ => ?_
  rw [sum24, lane_zero]
  rfl

theorem le_lanes (f : Fin 3072 → EReal) (c : EReal) : (∀ (x : Fin 128) (g : Fin 24), f (lane g x) ≤ c) ↔ ∀ k, f k ≤ c :=
  ⟨fun h k => by
    have e : k = lane ⟨k.val / 128, by omega⟩ ⟨k.val % 128, by omega⟩ := Fin.ext (by simp only [lane]; omega)
    rw [e]; exact h _ _, fun h x g => h _⟩

theorem le24 (f : Fin 3072 → EReal) (c : EReal) (x : Fin 128) : max (max (max (max (max (max (max (max (max (max (max (max (max (max (max (max (max (max (max (max (max (max (max (f ⟨x.val, by omega⟩) (f ⟨128 + x.val, by omega⟩)) (f ⟨256 + x.val, by omega⟩)) (f ⟨384 + x.val, by omega⟩)) (f ⟨512 + x.val, by omega⟩)) (f ⟨640 + x.val, by omega⟩)) (f ⟨768 + x.val, by omega⟩)) (f ⟨896 + x.val, by omega⟩)) (f ⟨1024 + x.val, by omega⟩)) (f ⟨1152 + x.val, by omega⟩)) (f ⟨1280 + x.val, by omega⟩)) (f ⟨1408 + x.val, by omega⟩)) (f ⟨1536 + x.val, by omega⟩)) (f ⟨1664 + x.val, by omega⟩)) (f ⟨1792 + x.val, by omega⟩)) (f ⟨1920 + x.val, by omega⟩)) (f ⟨2048 + x.val, by omega⟩)) (f ⟨2176 + x.val, by omega⟩)) (f ⟨2304 + x.val, by omega⟩)) (f ⟨2432 + x.val, by omega⟩)) (f ⟨2560 + x.val, by omega⟩)) (f ⟨2688 + x.val, by omega⟩)) (f ⟨2816 + x.val, by omega⟩)) (f ⟨2944 + x.val, by omega⟩) ≤ c ↔ ∀ g : Fin 24, f (lane g x) ≤ c := by
  rw [← all24 fun g => f (lane g x) ≤ c]
  simp only [max_le_iff, lane_zero]
  rfl

theorem max_groups (b : EReal) (f : Fin 3072 → EReal) :
    Finset.fold max b (fun x : Fin 128 => max (max (max (max (max (max (max (max (max (max (max (max (max (max (max (max (max (max (max (max (max (max (max (f ⟨x.val, by omega⟩) (f ⟨128 + x.val, by omega⟩)) (f ⟨256 + x.val, by omega⟩)) (f ⟨384 + x.val, by omega⟩)) (f ⟨512 + x.val, by omega⟩)) (f ⟨640 + x.val, by omega⟩)) (f ⟨768 + x.val, by omega⟩)) (f ⟨896 + x.val, by omega⟩)) (f ⟨1024 + x.val, by omega⟩)) (f ⟨1152 + x.val, by omega⟩)) (f ⟨1280 + x.val, by omega⟩)) (f ⟨1408 + x.val, by omega⟩)) (f ⟨1536 + x.val, by omega⟩)) (f ⟨1664 + x.val, by omega⟩)) (f ⟨1792 + x.val, by omega⟩)) (f ⟨1920 + x.val, by omega⟩)) (f ⟨2048 + x.val, by omega⟩)) (f ⟨2176 + x.val, by omega⟩)) (f ⟨2304 + x.val, by omega⟩)) (f ⟨2432 + x.val, by omega⟩)) (f ⟨2560 + x.val, by omega⟩)) (f ⟨2688 + x.val, by omega⟩)) (f ⟨2816 + x.val, by omega⟩)) (f ⟨2944 + x.val, by omega⟩)) Finset.univ = Finset.fold max b f Finset.univ := by
  refine eq_of_forall_ge_iff fun c => ?_
  rw [Finset.fold_max_le, Finset.fold_max_le]
  refine and_congr_right fun _ => ?_
  simp only [le24, Finset.mem_univ, forall_true_left]
  exact le_lanes f c

theorem max_groups0 (b : EReal) (f : Fin 3072 → EReal) (hf : ∀ k, 0 ≤ f k) :
    Finset.fold max b (fun x : Fin 128 => max (max (max (max (max (max (max (max (max (max (max (max (max (max (max (max (max (max (max (max (max (max (max (max 0 (f ⟨x.val, by omega⟩)) (f ⟨128 + x.val, by omega⟩)) (f ⟨256 + x.val, by omega⟩)) (f ⟨384 + x.val, by omega⟩)) (f ⟨512 + x.val, by omega⟩)) (f ⟨640 + x.val, by omega⟩)) (f ⟨768 + x.val, by omega⟩)) (f ⟨896 + x.val, by omega⟩)) (f ⟨1024 + x.val, by omega⟩)) (f ⟨1152 + x.val, by omega⟩)) (f ⟨1280 + x.val, by omega⟩)) (f ⟨1408 + x.val, by omega⟩)) (f ⟨1536 + x.val, by omega⟩)) (f ⟨1664 + x.val, by omega⟩)) (f ⟨1792 + x.val, by omega⟩)) (f ⟨1920 + x.val, by omega⟩)) (f ⟨2048 + x.val, by omega⟩)) (f ⟨2176 + x.val, by omega⟩)) (f ⟨2304 + x.val, by omega⟩)) (f ⟨2432 + x.val, by omega⟩)) (f ⟨2560 + x.val, by omega⟩)) (f ⟨2688 + x.val, by omega⟩)) (f ⟨2816 + x.val, by omega⟩)) (f ⟨2944 + x.val, by omega⟩)) Finset.univ = Finset.fold max b f Finset.univ := by
  rw [← max_groups b f]
  refine congrArg (fun h => Finset.fold max b h Finset.univ) (funext fun x => ?_)
  rw [max_eq_right (hf ⟨x.val, by omega⟩)]

/-! ## Magnitudes -/

theorem abs_nonneg' (x : EReal) : 0 ≤ max x (-x) := by
  rcases le_total 0 x with h | h
  · exact le_max_of_le_left h
  · exact le_max_of_le_right (EReal.neg_nonneg.mpr h)

theorem abs_mul' (x c : EReal) (hc : 0 ≤ c) : max x (-x) * c = max (x * c) (-(x * c)) := by
  rw [← EReal.neg_mul]
  exact (monotone_mul_right_of_nonneg hc).map_max

theorem abs_mul_abs (x c : EReal) : max x (-x) * max c (-c) = max (x * c) (-(x * c)) := by
  rcases le_total 0 c with h | h
  · rw [max_eq_left ((EReal.neg_le_zero.mpr h).trans h), abs_mul' x c h]
  · rw [max_eq_right (h.trans (EReal.neg_nonneg.mpr h)), abs_mul' x (-c) (EReal.neg_nonneg.mpr h), mul_comm x, EReal.neg_mul, mul_comm c, neg_neg, max_comm]

theorem fold_base {b b' : EReal} (hb : b ≤ 0) (hb' : b' ≤ 0) (f : Fin 3072 → EReal) (hf : ∀ k, 0 ≤ f k) :
    Finset.fold max b f Finset.univ = Finset.fold max b' f Finset.univ := by
  refine eq_of_forall_ge_iff fun c => ?_
  rw [Finset.fold_max_le, Finset.fold_max_le]
  have key : (∀ k ∈ Finset.univ, f k ≤ c) → 0 ≤ c := fun h => (hf 0).trans (h 0 (Finset.mem_univ _))
  exact ⟨fun h => ⟨hb'.trans (key h.2), h.2⟩, fun h => ⟨hb.trans (key h.2), h.2⟩⟩

theorem low_le : Ideal.ofBits .f32 0xFF800000#32 ≤ (0 : EReal) := by
  have : Ideal.ofBits .f32 0xFF800000#32 = (⊥ : EReal) := by simp [Ideal.ofBits, Ideal.ieee]
  rw [this]; exact bot_le

theorem amax_nonneg (v : Fin 3072 → EReal) : 0 ≤ amax v := by
  unfold amax
  rw [Finset.le_fold_max]
  exact Or.inr ⟨0, Finset.mem_univ _, abs_nonneg' _⟩

/-- A largest magnitude times a factor that is not negative. -/
theorem amax_mul (v : Fin 3072 → EReal) (c : EReal) (hc : 0 ≤ c) :
    amax v * c = Finset.fold max (Ideal.ofBits .f32 0xFF800000#32) (fun k => max (v k) (-(v k)) * c) Finset.univ := by
  unfold amax
  rw [← Finset.fold_hom (op := max) (op' := max) (m := fun x : EReal => x * c) (fun x y => (monotone_mul_right_of_nonneg hc).map_max)]
  exact fold_base ((mul_le_mul_of_nonneg_right low_le hc).trans (zero_mul c).le) low_le _ fun k => mul_nonneg (abs_nonneg' _) hc

theorem amax_scale (v : Fin 3072 → EReal) (c : EReal) (hc : 0 ≤ c) : amax v * c = amax fun k => v k * c := by
  rw [amax_mul v c hc]
  exact congrArg (fun h => Finset.fold max _ h Finset.univ) (funext fun k => abs_mul' _ _ hc)

theorem amax_scale_abs (v : Fin 3072 → EReal) (c : EReal) : amax v * max c (-c) = amax fun k => v k * c := by
  rw [amax_mul v _ (abs_nonneg' c)]
  exact congrArg (fun h => Finset.fold max _ h Finset.univ) (funext fun k => abs_mul_abs _ _)

theorem sq_nonneg' (x : EReal) : 0 ≤ x * x := by
  rcases le_total 0 x with h | h
  · exact mul_nonneg h h
  · rw [← neg_neg (x * x), ← EReal.neg_mul, mul_comm, ← EReal.neg_mul]
    exact mul_nonneg (EReal.neg_nonneg.mpr h) (EReal.neg_nonneg.mpr h)

theorem κ_nonneg : 0 ≤ κ := by
  unfold κ
  show (0 : EReal) ≤ Ideal.ieee 8 23 (0x39AAAAAB#32)
  unfold Ideal.ieee
  simp
  try positivity
theorem ε_nonneg : 0 ≤ ε := by
  unfold ε
  show (0 : EReal) ≤ Ideal.ieee 8 23 (0x358637BD#32)
  unfold Ideal.ieee
  simp
  try positivity

theorem rsqrt_nonneg (x : EReal) (hx : 0 ≤ x) : 0 ≤ Ideal.rsqrt x := by
  induction x with
  | bot => exact absurd hx (by simp)
  | top => exact le_refl (0 : EReal)
  | coe r =>
    have hr : 0 ≤ r := EReal.coe_nonneg.mp hx
    show (0 : EReal) ≤ if r < 0 then ⊥ else if r = 0 then ⊤ else (((Real.sqrt r)⁻¹ : ℝ) : EReal)
    rw [if_neg (not_lt.mpr hr)]
    split
    · exact le_top
    · exact EReal.coe_nonneg.mpr (by positivity)

theorem rstd_nonneg (x : Fin 3072 → EReal) : 0 ≤ rstd x :=
  rsqrt_nonneg _ (add_nonneg (mul_nonneg (Finset.sum_nonneg fun k _ => sq_nonneg' _) κ_nonneg) ε_nonneg)

/-! ## Copies side by side -/

/-- Pieces joined along `a`, each of which reads `c` wherever its other coordinates are those of `j`. -/
theorem concat_const {F : Type} (t : Shape) (a : Fin t.rank) (xs : List (Sigma fun s : Shape => s.Idx → F)) (h) (j : t.Idx) (c : F)
    (hP : ∀ p ∈ xs, ∀ (hr : p.1.rank = t.rank) (i : p.1.Idx), (∀ b, b.cast hr ≠ a → (i b).val = (j (b.cast hr)).val) → p.2 i = c) :
    concatenate t a xs h j = c := by
  unfold concatenate
  refine hP _ (List.getElem_mem _) (h.2.1 _ (List.mem_map.2 ⟨_, List.getElem_mem _, rfl⟩)).1 _ ?_
  intro b hb
  rw [dif_neg hb]; rfl

/-- Copies of one matrix side by side, at a row where the matrix is constant. -/
theorem copies_at {F : Type} {a b n : ℕ} (v : (⟨2, ![a, b]⟩ : Shape).Idx → F) (r : Fin a) (k : Fin n) (c : F) (hv : ∀ l, v (ix2 r l) = c)
    (xs : List (Sigma fun s : Shape => s.Idx → F)) (h) (hx : ∀ p ∈ xs, p = ⟨⟨2, ![a, b]⟩, v⟩) :
    concatenate (⟨2, ![a, n]⟩ : Shape) 1 xs h (ix2 r k) = c := by
  refine concat_const _ _ _ _ _ _ fun p hp hr i hi => ?_
  obtain rfl := hx p hp
  have e : i = ix2 r (i 1) := funext fun d => match d with
    | 0 => Fin.ext (hi 0 fun h => absurd (congrArg Fin.val h) Nat.zero_ne_one)
    | 1 => rfl
  rw [e]; exact hv _

end Cert.Value
-- ==== Proof.Value.KLn.lean ====
module

public import proofs.«01_k».proof.Proof.Value.Lanes
public import proofs.«01_k».proof.Proof.KernelIdeal.Ln
public import Idealize.ShloMosaic.Lib.Pointwise

/-!
# The kernel's layer norm, entry by entry
-/

@[expose] public section
set_option maxRecDepth 16384
noncomputable section
namespace Cert.Value.Kern
open Cert.KernelIdeal Cert.KernelIdeal.Gen Cert.KernelIdeal.Hand
open Idealize.ShloMosaic Cert.Value

theorem lnMu_at (xb : Vec Ideal S256x3072 .bf16) (r : Fin 256) (l : Fin 128) :
    lnMu (F := Ideal) xb (ix3 0 r l) = mean fun k => xb (ix2 r k) := by
  pointwise [lnMu, k0_pay11, k0_pay10, k0_pay9, k0_pay8]
  try simp only [zero_add]
  exact congrArg (fun z : EReal => z * κ) (sum_groups fun k => xb (ix2 r k))

theorem pay12_at (M : Vec Ideal S1x256x128 .f32) (xb : Vec Ideal S256x3072 .bf16) (r : Fin 256) (k : Fin 3072) (c : EReal)
    (hM : ∀ l, M (ix3 0 r l) = c) : k0_pay12 (F := Ideal) M xb (ix2 r k) = xb (ix2 r k) - c := by
  unfold k0_pay12
  refine congrArg (fun z : EReal => xb (ix2 r k) - z) (copies_at (shapeCast S256x128 M shapeCasts_S1x256x128_S256x128) r k c ?_ _ _ ?_)
  · intro l
    rw [← hM l]
    pointwise []
  · intro p hp
    simpa only [List.mem_cons, or_self, List.not_mem_nil, or_false] using hp

theorem pay14_at (M : Vec Ideal S1x256x128 .f32) (xb : Vec Ideal S256x3072 .bf16) (j : S256x3072.Idx) :
    k0_pay14 (F := Ideal) M xb j = k0_pay12 M xb j * k0_pay12 M xb j := rfl
theorem pay15_at (M : Vec Ideal S1x256x128 .f32) (xb : Vec Ideal S256x3072 .bf16) (j : S256x3072.Idx) :
    k0_pay15 (F := Ideal) M xb j = max (k0_pay12 M xb j) (-(k0_pay12 M xb j)) := rfl

theorem pay20_at (M : Vec Ideal S1x256x128 .f32) (xb : Vec Ideal S256x3072 .bf16) (r : Fin 256) :
    k0_pay20 (F := Ideal) (k0_pay14 M xb) (k0_pay18 (k0_pay14 M xb) (k0_pay16 M xb)) (ix2 r 0)
      = Ideal.rsqrt ((∑ k, k0_pay14 (F := Ideal) M xb (ix2 r k)) * κ + ε) := by
  pointwise [k0_pay20, k0_pay18, k0_pay16]
  try simp only [zero_add]
  exact congrArg (fun z : EReal => Ideal.rsqrt (z * κ + ε)) (sum_groups fun k => k0_pay14 (F := Ideal) M xb (ix2 r k))

theorem pay21_at (M : Vec Ideal S1x256x128 .f32) (xb : Vec Ideal S256x3072 .bf16) (a : FVec Ideal S256x3072 .f32) (b : FVec Ideal S256x128 .f32) (r : Fin 256) :
    k0_pay21 (F := Ideal) a (k0_pay15 M xb) b (k0_pay19 (k0_pay15 M xb) (k0_pay17 M xb)) (ix2 r 0)
      = Finset.fold max (Ideal.ofBits .f32 0xFF800000#32) (fun k => k0_pay15 (F := Ideal) M xb (ix2 r k)) Finset.univ * k0_pay20 (F := Ideal) a b (ix2 r 0) * κ2 := by
  pointwise [k0_pay21, k0_pay19, k0_pay17]
  exact congrArg (fun z : EReal => z * k0_pay20 (F := Ideal) a b (ix2 r 0) * κ2)
    (max_groups0 _ (fun k => k0_pay15 (F := Ideal) M xb (ix2 r k)) fun k => abs_nonneg' _)

/-! ## The exponent of a row's scale -/

def stepK (a : FVec Ideal S256x1 .f32) (k : Fin k0_t2_loop.trips) (x : IVec S256x1 32) : IVec S256x1 32 :=
  select (cmpf .oge a (bitcastToFloat .f32 (shli (addi x (broadcast S256x1 (Scalar.shrsi 128#32 (Scf.iv 0#32 1#32 k)))) (broadcast S256x1 23#32))))
    (addi x (broadcast S256x1 (Scalar.shrsi 128#32 (Scf.iv 0#32 1#32 k)))) x
theorem pay23_eq (a b : FVec Ideal S256x3072 .f32) (c d : FVec Ideal S256x128 .f32) (k : Fin k0_t2_loop.trips) (x : IVec S256x1 32) :
    k0_pay23 (F := Ideal) a b c d k x = stepK (k0_pay21 a b c d) k x := rfl
theorem stepK_at (a : FVec Ideal S256x1 .f32) (k : Fin k0_t2_loop.trips) (x : IVec S256x1 32) (r : Fin 256) :
    stepK a k x (ix2 r 0) = kStep (a (ix2 r 0)) (Scalar.shrsi 128#32 (Scf.iv 0#32 1#32 k.val)) (x (ix2 r 0)) := by
  pointwise [stepK]
  rfl

def zeroK (a : FVec Ideal S256x1 .f32) (e : IVec S256x1 32) : IVec S256x1 32 :=
  select (cmpf .oeq a (broadcast S256x1 (Scalar.ofBits .f32 0x00000000#32))) (broadcast S256x1 0#32) (subi e (broadcast S256x1 126#32))
theorem pay24_eq (a b : FVec Ideal S256x3072 .f32) (c d : FVec Ideal S256x128 .f32) (e : IVec S256x1 32) :
    k0_pay24 (F := Ideal) a b c d e = zeroK (k0_pay21 a b c d) e := rfl
theorem zeroK_at (a : FVec Ideal S256x1 .f32) (e : IVec S256x1 32) (r : Fin 256) :
    zeroK a e (ix2 r 0) = if a (ix2 r 0) = 0 then 0#32 else IntOp.subi (e (ix2 r 0)) 126#32 := by
  pointwise [zeroK]
  try rfl

def sclK (e : IVec S256x1 32) : FVec Ideal S256x128 .f32 :=
  broadcastTo S256x128 (shapeCast S256x1 (bitcastToFloat (F := Ideal) .f32 (shli (addi (broadcast S256x1 127#32) e) (broadcast S256x1 23#32))) shapeCasts_S256x1_S256x1) broadcasts_S256x1_S256x128
theorem pay26_eq (a b : FVec Ideal S256x3072 .f32) (c d : FVec Ideal S256x128 .f32) (e : IVec S256x1 32) :
    k0_pay26 (F := Ideal) a b c d e = sclK (k0_pay24 a b c d e) := rfl
theorem sclK_at (e : IVec S256x1 32) (r : Fin 256) (l : Fin 128) : sclK e (ix2 r l) = fv (IntOp.addi 127#32 (e (ix2 r 0))) := by
  pointwise [sclK]
  rfl

def invK (e : IVec S256x1 32) : FVec Ideal S256x1 .f32 :=
  bitcastToFloat (F := Ideal) .f32 (shli (subi (broadcast S256x1 127#32) e) (broadcast S256x1 23#32))
theorem pay25_eq (a b : FVec Ideal S256x3072 .f32) (c d : FVec Ideal S256x128 .f32) (e : IVec S256x1 32) :
    k0_pay25 (F := Ideal) a b c d e = invK (k0_pay24 a b c d e) := rfl
theorem invK_at (e : IVec S256x1 32) (r : Fin 256) : invK e (ix2 r 0) = fv (IntOp.subi 127#32 (e (ix2 r 0))) := by
  pointwise [invK]
  rfl

theorem trips2 : k0_t2_loop.trips = 8 := by decide
theorem kField_trips (q : EReal) {n : ℕ} (h : n = 8) :
    (List.finRange n).foldl (fun f (k : Fin n) => kStep q (Scalar.shrsi 128#32 (Scf.iv 0#32 1#32 k.val)) f) 0#32 = kField q 8 := by subst h; rfl

section
variable (xb : Vec Ideal S256x3072 .bf16) (r : Fin 256)

theorem cent_at (k : Fin 3072) : k0_pay12 (F := Ideal) (lnMu xb) xb (ix2 r k) = cent (fun j => xb (ix2 r j)) k :=
  pay12_at _ _ _ _ _ fun l => lnMu_at xb r l

theorem lnRs_at : k0_pay20 (F := Ideal) (lnXX xb) (lnSq xb) (ix2 r 0) = rstd fun k => xb (ix2 r k) := by
  refine (pay20_at (lnMu xb) xb r).trans ?_
  simp only [pay14_at, cent_at]
  rfl

theorem lnA_at : k0_pay21 (F := Ideal) (lnXX xb) (lnAX xb) (lnSq xb) (lnMx xb) (ix2 r 0) = amax (norm fun k => xb (ix2 r k)) * κ2 := by
  refine (pay21_at (lnMu xb) xb (lnXX xb) (lnSq xb) r).trans ?_
  rw [lnRs_at]
  simp only [pay15_at, cent_at]
  exact congrArg (fun z : EReal => z * κ2) (amax_scale _ _ (rstd_nonneg _))

theorem lnE_at : lnE (F := Ideal) xb (ix2 r 0) = kField (amax (norm fun k => xb (ix2 r k)) * κ2) 8 := by
  rw [← lnA_at, ← kField_trips _ trips2]
  exact fold_at _ _ _ (fun k f => kStep (k0_pay21 (F := Ideal) (lnXX xb) (lnAX xb) (lnSq xb) (lnMx xb) (ix2 r 0)) (Scalar.shrsi 128#32 (Scf.iv 0#32 1#32 k.val)) f)
    (fun k e => (congrFun (pay23_eq _ _ _ _ k e) _).trans (stepK_at _ k e r))

theorem lnEx_at : k0_pay24 (F := Ideal) (lnXX xb) (lnAX xb) (lnSq xb) (lnMx xb) (lnE xb) (ix2 r 0) = ex (amax (norm fun k => xb (ix2 r k))) := by
  rw [pay24_eq, zeroK_at, lnE_at, lnA_at]
  exact kEx_eq _ (amax_nonneg _)

theorem lnScale_at (l : Fin 128) : lnScale (F := Ideal) xb (ix3 0 r l) = scl (amax (norm fun k => xb (ix2 r k))) := by
  have e : lnScale (F := Ideal) xb (ix3 0 r l) = k0_pay26 (F := Ideal) (lnXX xb) (lnAX xb) (lnSq xb) (lnMx xb) (lnE xb) (ix2 r l) := by
    unfold lnScale
    generalize k0_pay26 (F := Ideal) (lnXX xb) (lnAX xb) (lnSq xb) (lnMx xb) (lnE xb) = v
    pointwise [k0_pay40]
  rw [e, pay26_eq, sclK_at, lnEx_at]; rfl

theorem pay41_at (a b : FVec Ideal S256x1 .f32) (l : Fin 128) : k0_pay41 (F := Ideal) a b (ix3 0 r l) = a (ix2 r 0) * b (ix2 r 0) := by
  pointwise [k0_pay41]

theorem lnRI_at (l : Fin 128) : lnRI (F := Ideal) xb (ix3 0 r l) = rstd (fun k => xb (ix2 r k)) * ivl (amax (norm fun k => xb (ix2 r k))) := by
  unfold lnRI
  rw [pay41_at, lnRs_at, pay25_eq, invK_at, lnEx_at, kInv_eq]; rfl

theorem pay42_at (R : Vec Ideal S1x256x128 .f32) (X : Vec Ideal S1x256x3072 .f32) (k : Fin 3072) (c : EReal) (hR : ∀ l, R (ix3 0 r l) = c) :
    k0_pay42 (F := Ideal) R X (ix3 0 r k) = clip (X (ix3 0 r k) * c) := by
  rw [← copies_at (F := EReal) (n := 3072) (shapeCast S256x128 R shapeCasts_S1x256x128_S256x128) r k c (fun l => by rw [← hR l]; pointwise []) (List.replicate 24 ⟨S256x128, shapeCast S256x128 R shapeCasts_S1x256x128_S256x128⟩)
    (show Shape.Concatenates (List.replicate 24 S256x128) S256x3072 1 by decide) (fun p hp => (List.mem_replicate.mp hp).2)]
  unfold k0_pay42
  simp only [List.replicate]
  generalize concatenate _ _ _ _ = C
  pointwise []
  rfl

theorem lnXc_at (k : Fin 3072) : lnXc (F := Ideal) xb (ix3 0 r k) = cent (fun j => xb (ix2 r j)) k := by
  rw [← cent_at]
  unfold lnXc
  pointwise [k0_pay13]

theorem lnH_at (k : Fin 3072) : lnH (F := Ideal) xb (ix3 0 r k) = codes (norm fun j => xb (ix2 r j)) k := by
  unfold lnH
  rw [pay42_at r _ _ k _ (lnRI_at xb r), lnXc_at, ← mul_assoc]; rfl

end
end Cert.Value.Kern
-- ==== Proof.Value.KW.lean ====
module

public import proofs.«01_k».proof.Proof.Value.Lanes
public import proofs.«01_k».proof.Proof.KernelIdeal.Stages
public import Idealize.ShloMosaic.Lib.Pointwise

/-!
# The kernel's three stages, entry by entry
-/

@[expose] public section
set_option maxRecDepth 16384
noncomputable section
namespace Cert.Value.Kern
open Cert.KernelIdeal Cert.KernelIdeal.Gen Cert.KernelIdeal.Hand
open Idealize.ShloMosaic Cert.Value

/-- A modulated row before its weight scale, and its largest magnitude as it lies in the buffer of maxima. -/
def MaxOf (mx : Vec Ideal S1x256x128 .f32) (n : Fin 256) (p : Fin 3072 → EReal) : Prop :=
  Finset.fold max (Ideal.ofBits .f32 0xFF800000#32) (fun l => mx (ix3 0 n l)) Finset.univ = amax p

section
variable (w : Vec Ideal S256x3072 .fp8e4m3) (mr : Vec Ideal S1x8x3072 .f32) (n : Fin 256) (s : Fin 3072 → EReal)

theorem pay69_at (hm : ∀ j k, mr (ix3 0 j k) = s k) (k : Fin 3072) : k0_pay69 (F := Ideal) w mr (ix2 n k) = w (ix2 n k) * s k := by
  pointwise [k0_pay69, k0_pay68]
  rw [hm]

theorem aP_at (hm : ∀ j k, mr (ix3 0 j k) = s k) (k : Fin 3072) : aP (F := Ideal) w mr (ix3 0 n k) = w (ix2 n k) * s k := by
  rw [← pay69_at w mr n s hm]
  unfold aP
  pointwise [k0_pay70]

theorem aM_max : Finset.fold max (Ideal.ofBits .f32 0xFF800000#32) (fun l => aM (F := Ideal) w mr (ix3 0 n l)) Finset.univ
    = amax fun k => k0_pay69 (F := Ideal) w mr (ix2 n k) := by
  unfold aM
  pointwise [k0_pay78, k0_pay73, k0_pay72, k0_pay71]
  exact max_groups _ fun k => max (k0_pay69 (F := Ideal) w mr (ix2 n k)) (-(k0_pay69 (F := Ideal) w mr (ix2 n k)))

theorem aM_at (hm : ∀ j k, mr (ix3 0 j k) = s k) : MaxOf (aM (F := Ideal) w mr) n fun k => w (ix2 n k) * s k := by
  unfold MaxOf
  rw [aM_max]
  simp only [pay69_at w mr n s hm]
end

theorem pay45_at (ws : Vec Ideal S1x1x256 .f32) (mx : Vec Ideal S1x256x128 .f32) (n : Fin 256) :
    k0_pay45 (F := Ideal) ws mx (ix2 0 n) = Finset.fold max (Ideal.ofBits .f32 0xFF800000#32) (fun l => mx (ix3 0 n l)) Finset.univ
      * max (ws (ix3 0 0 n)) (-(ws (ix3 0 0 n))) * κ2 := by
  pointwise [k0_pay45, k0_pay44]
  rfl

/-! ## The exponent of a row's scale -/

def stepW (a : FVec Ideal S1x256 .f32) (k : Fin k0_t3_loop.trips) (x : IVec S1x256 32) : IVec S1x256 32 :=
  select (cmpf .oge a (bitcastToFloat .f32 (shli (addi x (broadcast S1x256 (Scalar.shrsi 128#32 (Scf.iv 0#32 1#32 k)))) (broadcast S1x256 23#32))))
    (addi x (broadcast S1x256 (Scalar.shrsi 128#32 (Scf.iv 0#32 1#32 k)))) x
theorem pay47_eq (ws : Vec Ideal S1x1x256 .f32) (mx : Vec Ideal S1x256x128 .f32) (k : Fin k0_t3_loop.trips) (x : IVec S1x256 32) :
    k0_pay47 (F := Ideal) ws mx k x = stepW (k0_pay45 ws mx) k x := rfl
theorem stepW_at (a : FVec Ideal S1x256 .f32) (k : Fin k0_t3_loop.trips) (x : IVec S1x256 32) (n : Fin 256) :
    stepW a k x (ix2 0 n) = kStep (a (ix2 0 n)) (Scalar.shrsi 128#32 (Scf.iv 0#32 1#32 k.val)) (x (ix2 0 n)) := by
  pointwise [stepW]
  rfl

def zeroW (a : FVec Ideal S1x256 .f32) (e : IVec S1x256 32) : IVec S1x256 32 :=
  select (cmpf .oeq a (broadcast S1x256 (Scalar.ofBits .f32 0x00000000#32))) (broadcast S1x256 0#32) (subi e (broadcast S1x256 126#32))
theorem pay48_eq (ws : Vec Ideal S1x1x256 .f32) (mx : Vec Ideal S1x256x128 .f32) (e : IVec S1x256 32) :
    k0_pay48 (F := Ideal) ws mx e = zeroW (k0_pay45 ws mx) e := rfl
theorem zeroW_at (a : FVec Ideal S1x256 .f32) (e : IVec S1x256 32) (n : Fin 256) :
    zeroW a e (ix2 0 n) = if a (ix2 0 n) = 0 then 0#32 else IntOp.subi (e (ix2 0 n)) 126#32 := by
  pointwise [zeroW]
  try rfl

def sclW (e : IVec S1x256 32) : FVec Ideal S1x256 .f32 :=
  bitcastToFloat (F := Ideal) .f32 (shli (addi (broadcast S1x256 127#32) e) (broadcast S1x256 23#32))
theorem pay49_eq (ws : Vec Ideal S1x1x256 .f32) (mx : Vec Ideal S1x256x128 .f32) (e : IVec S1x256 32) :
    k0_pay49 (F := Ideal) ws mx e = sclW (k0_pay48 ws mx e) := rfl
theorem sclW_at (e : IVec S1x256 32) (n : Fin 256) : sclW e (ix2 0 n) = fv (IntOp.addi 127#32 (e (ix2 0 n))) := by
  pointwise [sclW]
  rfl

def invW (e : IVec S1x256 32) : FVec Ideal S1x256 .f32 :=
  bitcastToFloat (F := Ideal) .f32 (shli (subi (broadcast S1x256 127#32) e) (broadcast S1x256 23#32))
theorem pay50_eq (ws : Vec Ideal S1x1x256 .f32) (mx : Vec Ideal S1x256x128 .f32) (e : IVec S1x256 32) :
    k0_pay50 (F := Ideal) ws mx e = invW (k0_pay48 ws mx e) := rfl
theorem invW_at (e : IVec S1x256 32) (n : Fin 256) : invW e (ix2 0 n) = fv (IntOp.subi 127#32 (e (ix2 0 n))) := by
  pointwise [invW]
  rfl

theorem trips3 : k0_t3_loop.trips = 8 := by decide
theorem kField_trips' (q : EReal) {n : ℕ} (h : n = 8) :
    (List.finRange n).foldl (fun f (k : Fin n) => kStep q (Scalar.shrsi 128#32 (Scf.iv 0#32 1#32 k.val)) f) 0#32 = kField q 8 := by subst h; rfl

section
variable (ws : Vec Ideal S1x1x256 .f32) (mx : Vec Ideal S1x256x128 .f32) (n : Fin 256) (p : Fin 3072 → EReal) (hp : MaxOf mx n p)
include hp

theorem bA_at : k0_pay45 (F := Ideal) ws mx (ix2 0 n) = amax (fun k => p k * ws (ix3 0 0 n)) * κ2 := by
  rw [pay45_at, hp, amax_scale_abs]

theorem bE_at : bE (F := Ideal) ws mx (ix2 0 n) = kField (amax (fun k => p k * ws (ix3 0 0 n)) * κ2) 8 := by
  rw [← bA_at ws mx n p hp, ← kField_trips' _ trips3]
  exact fold_at _ _ _ (fun k f => kStep (k0_pay45 (F := Ideal) ws mx (ix2 0 n)) (Scalar.shrsi 128#32 (Scf.iv 0#32 1#32 k.val)) f)
    (fun k e => (congrFun (pay47_eq _ _ k e) _).trans (stepW_at _ k e n))

theorem bEx_at : k0_pay48 (F := Ideal) ws mx (bE ws mx) (ix2 0 n) = ex (amax fun k => p k * ws (ix3 0 0 n)) := by
  rw [pay48_eq, zeroW_at, bE_at ws mx n p hp, bA_at ws mx n p hp]
  exact kEx_eq _ (amax_nonneg _)

theorem bS_at : bS (F := Ideal) ws mx (ix2 0 n) = scl (amax fun k => p k * ws (ix3 0 0 n)) := by
  unfold bS
  rw [pay49_eq, sclW_at, bEx_at ws mx n p hp]; rfl

omit hp in
theorem up_at (s : Vec Ideal S1x256 .f32) : up (F := Ideal) s (ix3 0 0 n) = s (ix2 0 n) := by
  unfold up
  pointwise [k0_pay59]

omit hp in
theorem pay52_at (a b : FVec Ideal S1x256 .f32) (l : Fin 128) : k0_pay52 (F := Ideal) a b (ix3 0 n l) = a (ix2 0 n) * b (ix2 0 n) := by
  pointwise [k0_pay52]

omit hp in
theorem pay44_at : k0_pay44 (F := Ideal) ws (ix2 0 n) = ws (ix3 0 0 n) := by
  pointwise [k0_pay44]

theorem bR_at (l : Fin 128) : bR (F := Ideal) ws mx (ix3 0 n l) = ws (ix3 0 0 n) * ivl (amax fun k => p k * ws (ix3 0 0 n)) := by
  unfold bR
  rw [pay52_at, pay44_at, pay50_eq, invW_at, bEx_at ws mx n p hp, kInv_eq]; rfl

omit hp in
theorem pay62_at (R : Vec Ideal S1x256x128 .f32) (X : Vec Ideal S1x256x3072 .f32) (k : Fin 3072) (c : EReal) (hR : ∀ l, R (ix3 0 n l) = c) :
    k0_pay62 (F := Ideal) R X (ix3 0 n k) = clip (X (ix3 0 n k) * c) := by
  rw [← copies_at (F := EReal) (n := 3072) (shapeCast S256x128 R shapeCasts_S1x256x128_S256x128) n k c (fun l => by rw [← hR l]; pointwise []) (List.replicate 24 ⟨S256x128, shapeCast S256x128 R shapeCasts_S1x256x128_S256x128⟩)
    (show Shape.Concatenates (List.replicate 24 S256x128) S256x3072 1 by decide) (fun p hp => (List.mem_replicate.mp hp).2)]
  unfold k0_pay62 k0_pay61
  simp only [List.replicate]
  generalize concatenate _ _ _ _ = C
  pointwise []
  rfl

theorem bQ_at (X : Vec Ideal S1x256x3072 .f32) (k : Fin 3072) (hX : X (ix3 0 n k) = p k) :
    bQ (F := Ideal) ws mx X (ix3 0 n k) = codes (fun k => p k * ws (ix3 0 0 n)) k := by
  unfold bQ
  rw [pay62_at n _ _ k _ (bR_at ws mx n p hp), hX, ← mul_assoc]; rfl
end

/-! ## The rows of the shift -/

theorem sh_hi0 (m : Vec Ideal S2x3072 .f32) (k : Fin 3072) : k0_pay29 (F := Ideal) m (ix2 0 k) = m (ix2 0 k) := by
  pointwise [k0_pay29]
theorem sh_hi1 (m : Vec Ideal S2x3072 .f32) (k : Fin 3072) : k0_pay29 (F := Ideal) m (ix2 1 k) = m (ix2 1 k) := by
  pointwise [k0_pay29]
theorem sh_mid0 (m : Vec Ideal S2x3072 .f32) (k : Fin 3072) : k0_pay29 (F := Ideal) m (ix2 2 k) = m (ix2 0 k) - m (ix2 0 k) := by
  pointwise [k0_pay29]
theorem sh_mid1 (m : Vec Ideal S2x3072 .f32) (k : Fin 3072) : k0_pay29 (F := Ideal) m (ix2 3 k) = m (ix2 1 k) - m (ix2 1 k) := by
  pointwise [k0_pay29]
theorem sh_lo0 (m : Vec Ideal S2x3072 .f32) (k : Fin 3072) : k0_pay29 (F := Ideal) m (ix2 4 k) = m (ix2 0 k) - m (ix2 0 k) - (m (ix2 0 k) - m (ix2 0 k)) := by
  pointwise [k0_pay29]
theorem sh_lo1 (m : Vec Ideal S2x3072 .f32) (k : Fin 3072) : k0_pay29 (F := Ideal) m (ix2 5 k) = m (ix2 1 k) - m (ix2 1 k) - (m (ix2 1 k) - m (ix2 1 k)) := by
  pointwise [k0_pay29]

theorem aC_at (sh : Vec Ideal S16x3072 .bf16) (w : Vec Ideal S256x3072 .fp8e4m3) (ws b : Vec Ideal S1x256 .f32) (p : Fin 2) (n : Fin 256) :
    aC (F := Ideal) sh w ws b (ix3 0 p n) = ((∑ k, sh (ix2 ⟨p.val, by omega⟩ k) * w (ix2 n k))
      + ((∑ k, sh (ix2 ⟨2 + p.val, by omega⟩ k) * w (ix2 n k)) + (∑ k, sh (ix2 ⟨4 + p.val, by omega⟩ k) * w (ix2 n k)))) * ws (ix2 0 n) + b (ix2 0 n) := by
  unfold aC
  pointwise [k0_pay1]
  try rfl

section
variable (h : Vec Ideal S1x512x3072 .fp8e4m3) (q : Vec Ideal S1x256x3072 .fp8e4m3) (sc cc : Vec Ideal S1x1x256 .f32) (hr : Vec Ideal S1x512x128 .f32)
theorem cY0_at (r : Fin 512) (l : Fin 128) : cY0 (F := Ideal) h q sc cc hr (ix3 0 r l)
    = (∑ k, h (ix3 0 r k) * q (ix3 0 ⟨l.val, by omega⟩ k)) * hr (ix3 0 r l) * sc (ix3 0 0 ⟨l.val, by omega⟩) + cc (ix3 0 0 ⟨l.val, by omega⟩) := by
  unfold cY0
  pointwise [k0_pay86, k0_pay85, k0_pay84, k0_pay83]
  try rfl
theorem cY1_at (r : Fin 512) (l : Fin 128) : cY1 (F := Ideal) h q sc cc hr (ix3 0 r l)
    = (∑ k, h (ix3 0 r k) * q (ix3 0 ⟨128 + l.val, by omega⟩ k)) * hr (ix3 0 r l) * sc (ix3 0 0 ⟨128 + l.val, by omega⟩) + cc (ix3 0 0 ⟨128 + l.val, by omega⟩) := by
  unfold cY1
  pointwise [k0_pay88, k0_pay87, k0_pay85, k0_pay84, k0_pay83]
  try rfl
theorem pay27_at (m : Vec Ideal S1x3072 .f32) (j : Fin 8) (k : Fin 3072) : k0_pay27 (F := Ideal) m (ix3 0 j k) = 1 + m (ix2 0 k) := by
  pointwise [k0_pay27]
theorem pay28_at (m : Vec Ideal S1x3072 .f32) (j : Fin 8) (k : Fin 3072) : k0_pay28 (F := Ideal) m (ix3 0 j k) = 1 + m (ix2 0 k) := by
  pointwise [k0_pay28]
theorem hs0_at (X : Vec Ideal S1x512x128 .f32) (r : Fin 512) : k0_pay229 (F := Ideal) (k0_pay43 X) (ix2 0 r) = X (ix3 0 r 0) := by
  pointwise [k0_pay229, k0_pay43]
theorem hs1_at (X : Vec Ideal S1x512x128 .f32) (r : Fin 512) : k0_pay230 (F := Ideal) X (ix2 0 r) = X (ix3 0 r 0) := by
  pointwise [k0_pay230]
theorem pay7_at (ws : Vec Ideal S1x256 .f32) (n : Fin 256) : k0_pay7 (F := Ideal) ws (ix3 0 0 n) = ws (ix2 0 n) := by
  pointwise [k0_pay7]
end
end Cert.Value.Kern
-- ==== Proof.Value.KOut.lean ====
module

public import proofs.«01_k».proof.Proof.Value.KLn
public import proofs.«01_k».proof.Proof.Value.KW
public import proofs.«01_k».proof.Proof.KernelIdeal.State

/-!
# What the kernel leaves in its tiles, entry by entry
-/

@[expose] public section
set_option maxRecDepth 16384
noncomputable section
namespace Cert.Value.Kern
open Cert.KernelIdeal Cert.KernelIdeal.Gen Cert.KernelIdeal.Hand
open Idealize.ShloMosaic Cert.Value

section
variable {α : Type} {a b : ℕ}
theorem planes_at0 (A B : (⟨3, ![1, a, b]⟩ : Shape).Idx → α) (i : Fin a) (j : Fin b) : planes A B (ix3 0 i j) = A (ix3 0 i j) :=
  (if_pos rfl).trans (congrArg A (funext fun d => match d with | 0 => rfl | 1 => rfl | 2 => rfl))
theorem planes_at1 (A B : (⟨3, ![1, a, b]⟩ : Shape).Idx → α) (i : Fin a) (j : Fin b) : planes A B (ix3 1 i j) = B (ix3 0 i j) :=
  (if_neg (by show ¬ ((1 : Fin 2) : ℕ) = 0; decide)).trans (congrArg B (funext fun d => match d with | 0 => rfl | 1 => rfl | 2 => rfl))
theorem plane_at (p : Fin 2) (X : (⟨3, ![2, a, b]⟩ : Shape).Idx → α) (i : Fin a) (j : Fin b) : plane p X (ix3 0 i j) = X (ix3 p i j) :=
  congrArg X (funext fun d => match d with | 0 => rfl | 1 => rfl | 2 => rfl)
theorem rows_at0 (A B : (⟨2, ![1, b]⟩ : Shape).Idx → α) (j : Fin b) : rows2 A B (ix2 0 j) = A (ix2 0 j) :=
  (if_pos rfl).trans (congrArg A (funext fun d => match d with | 0 => rfl | 1 => rfl))
theorem rows_at1 (A B : (⟨2, ![1, b]⟩ : Shape).Idx → α) (j : Fin b) : rows2 A B (ix2 1 j) = B (ix2 0 j) :=
  (if_neg (by show ¬ ((1 : Fin 2) : ℕ) = 0; decide)).trans (congrArg B (funext fun d => match d with | 0 => rfl | 1 => rfl))
theorem mrow_at (p : Fin 2) (X : (⟨2, ![2, b]⟩ : Shape).Idx → α) (j : Fin b) : mrow p X (ix2 0 j) = X (ix2 p j) :=
  congrArg X (funext fun d => match d with | 0 => rfl | 1 => rfl)
theorem crow_at (p : Fin 2) (A : (⟨3, ![1, 2, 256]⟩ : Shape).Idx → α) (j : Fin 256) : crow p A (ix3 0 0 j) = A (ix3 0 p j) :=
  congrArg A (funext fun d => match d with | 0 => rfl | 1 => rfl | 2 => rfl)
end

theorem mr_at (ms : Vec Ideal S2x3072 .f32) : ∀ (p : Fin 2) (j : Fin 8) (k : Fin 3072), plane p (mrOf (F := Ideal) ms) (ix3 0 j k) = 1 + ms (ix2 p k)
  | 0, j, k => by unfold mrOf; rw [plane_planes0, pay27_at, mrow_at]
  | 1, j, k => by unfold mrOf; rw [plane_planes1, pay28_at, mrow_at]

/-- The row of the input that entry `(b, r)` of the layer norm is of. -/
def xr (X : Vec Ideal S1024x3072 .bf16) (b : Fin 2) (r : Fin 512) : Fin 3072 → EReal := fun k => X (ix2 ⟨512 * b.val + r.val, by omega⟩ k)

theorem rowsAt_row (X : Vec Ideal S1024x3072 .bf16) (b : Fin 2) (r : Fin 512) :
    (fun k => rowsAt (F := Ideal) X (256 * (2 * b.val + r.val / 256)) (ix2 ⟨r.val % 256, Nat.mod_lt _ (by decide)⟩ k)) = xr X b r :=
  funext fun k => congrArg X (funext fun d => match d with
    | 0 => Fin.ext (by show min (256 * (2 * b.val + r.val / 256) + r.val % 256) 1023 = 512 * b.val + r.val; omega)
    | 1 => rfl)

theorem lnHR_at (X : Vec Ideal S1024x3072 .bf16) (b : Fin 2) (r : Fin 512) (l : Fin 128) :
    lnHR (F := Ideal) X (ix3 b r l) = scl (amax (norm (xr X b r))) := by
  rw [← rowsAt_row, ← lnScale_at _ _ l]
  exact congrArg (lnScale (F := Ideal) _) (funext fun d => match d with | 0 => rfl | 1 => rfl | 2 => rfl)
theorem lnHV_at (X : Vec Ideal S1024x3072 .bf16) (b : Fin 2) (r : Fin 512) (k : Fin 3072) :
    lnHV (F := Ideal) X (ix3 b r k) = codes (norm (xr X b r)) k := by
  rw [← rowsAt_row, ← lnH_at]
  exact congrArg (lnH (F := Ideal) _) (funext fun d => match d with | 0 => rfl | 1 => rfl | 2 => rfl)
theorem hsOf_at (X : Vec Ideal S1024x3072 .bf16) (r : Fin 512) : ∀ b : Fin 2, hsOf (F := Ideal) X (ix2 b r) = scl (amax (norm (xr X b r)))
  | 0 => by unfold hsOf; rw [rows_at0, hs0_at, plane_at, lnHR_at]
  | 1 => by unfold hsOf; rw [rows_at1, hs1_at, plane_at, lnHR_at]

section
variable (O : Ops Ideal) (τ : ℕ) (n : Fin 256)
/-- The modulated row of the weight. -/
abbrev wr (p : Fin 2) : Fin 3072 → EReal := wrow (fun k => O.ms (ix2 p k)) (fun k => O.w τ (ix2 n k)) (O.ws τ (ix2 0 n))

theorem wr_eq (p : Fin 2) : (fun k => O.w τ (ix2 n k) * (1 + O.ms (ix2 p k)) * tK O τ (ix3 0 0 n)) = wr O τ n p := by
  funext k
  show _ = (1 + O.ms (ix2 p k)) * (O.w τ (ix2 n k) * O.ws τ (ix2 0 n))
  rw [show tK O τ (ix3 0 0 n) = O.ws τ (ix2 0 n) from pay7_at _ _, mul_comm (O.w τ (ix2 n k)), mul_assoc]

theorem tP_plane : ∀ p : Fin 2, plane p (tP O τ) = aP (O.w τ) (plane p (mrOf O.ms))
  | 0 => by unfold tP aP2; exact plane_planes0 _ _
  | 1 => by unfold tP aP2; exact plane_planes1 _ _
theorem tM_plane : ∀ p : Fin 2, plane p (tM O τ) = aM (O.w τ) (plane p (mrOf O.ms))
  | 0 => by unfold tM aM2; exact plane_planes0 _ _
  | 1 => by unfold tM aM2; exact plane_planes1 _ _

theorem tM_max (p : Fin 2) : MaxOf (plane p (tM O τ)) n fun k => O.w τ (ix2 n k) * (1 + O.ms (ix2 p k)) := by
  rw [tM_plane]
  exact aM_at _ _ _ _ (mr_at O.ms p)
theorem tP_at (p : Fin 2) (k : Fin 3072) : plane p (tP O τ) (ix3 0 n k) = O.w τ (ix2 n k) * (1 + O.ms (ix2 p k)) := by
  rw [tP_plane]
  exact aP_at _ _ _ (fun k => 1 + O.ms (ix2 p k)) (mr_at O.ms p) k

theorem bQp (p : Fin 2) (k : Fin 3072) : bQ (tK O τ) (plane p (tM O τ)) (plane p (tP O τ)) (ix3 0 n k) = codes (wr O τ n p) k := by
  rw [← wr_eq]
  exact bQ_at (tK O τ) (plane p (tM O τ)) n (fun k => O.w τ (ix2 n k) * (1 + O.ms (ix2 p k))) (tM_max O τ n p) _ k (tP_at O τ n p k)
theorem bSp (p : Fin 2) : bS (tK O τ) (plane p (tM O τ)) (ix2 0 n) = scl (amax (wr O τ n p)) := by
  rw [← wr_eq]
  exact bS_at (tK O τ) (plane p (tM O τ)) n (fun k => O.w τ (ix2 n k) * (1 + O.ms (ix2 p k))) (tM_max O τ n p)

theorem tQ_at (k : Fin 3072) : ∀ p : Fin 2, tQ O τ (ix3 p n k) = codes (wr O τ n p) k
  | 0 => by unfold tQ bQ2; rw [planes_at0, bQp]
  | 1 => by unfold tQ bQ2; rw [planes_at1, bQp]
theorem tS_at : ∀ p : Fin 2, tS O τ (ix2 p n) = scl (amax (wr O τ n p))
  | 0 => by unfold tS bS2; rw [rows_at0, bSp]
  | 1 => by unfold tS bS2; rw [rows_at1, bSp]
theorem tU_at (p : Fin 2) : tU O τ p (ix3 0 0 n) = scl (amax (wr O τ n p)) := by
  unfold tU
  rw [up_at, bSp]

/-- Every entry of the shift is a number. -/
def FinShift (mh : Vec Ideal S2x3072 .f32) : Prop := ∀ (p : Fin 2) (k : Fin 3072), mh (ix2 p k) ≠ ⊤ ∧ mh (ix2 p k) ≠ ⊥

theorem tC_at (hf : FinShift O.mh) : ∀ p : Fin 2,
    tC O τ (ix3 0 p n) = (∑ k, O.mh (ix2 p k) * O.w τ (ix2 n k)) * O.ws τ (ix2 0 n) + O.b τ (ix2 0 n)
  | 0 => by
    have z : ∀ k, O.mh (ix2 0 k) - O.mh (ix2 0 k) = (0 : EReal) := fun k => EReal.sub_self (hf 0 k).1 (hf 0 k).2
    unfold tC
    refine (aC_at _ _ _ _ 0 n).trans ?_
    have e0 : ∀ k, k0_pay29 (F := Ideal) O.mh (ix2 ⟨((0 : Fin 2) : ℕ), by decide⟩ k) = O.mh (ix2 0 k) := sh_hi0 O.mh
    have e2 : ∀ k, k0_pay29 (F := Ideal) O.mh (ix2 ⟨2 + ((0 : Fin 2) : ℕ), by decide⟩ k) = 0 := fun k => (sh_mid0 O.mh k).trans (z k)
    have e4 : ∀ k, k0_pay29 (F := Ideal) O.mh (ix2 ⟨4 + ((0 : Fin 2) : ℕ), by decide⟩ k) = 0 := fun k => (sh_lo0 O.mh k).trans (by rw [z k]; exact sub_zero _)
    simp only [e0, e2, e4, zero_mul, Finset.sum_const_zero, add_zero]
  | 1 => by
    have z : ∀ k, O.mh (ix2 1 k) - O.mh (ix2 1 k) = (0 : EReal) := fun k => EReal.sub_self (hf 1 k).1 (hf 1 k).2
    unfold tC
    refine (aC_at _ _ _ _ 1 n).trans ?_
    have e0 : ∀ k, k0_pay29 (F := Ideal) O.mh (ix2 ⟨((1 : Fin 2) : ℕ), by decide⟩ k) = O.mh (ix2 1 k) := sh_hi1 O.mh
    have e2 : ∀ k, k0_pay29 (F := Ideal) O.mh (ix2 ⟨2 + ((1 : Fin 2) : ℕ), by decide⟩ k) = 0 := fun k => (sh_mid1 O.mh k).trans (z k)
    have e4 : ∀ k, k0_pay29 (F := Ideal) O.mh (ix2 ⟨4 + ((1 : Fin 2) : ℕ), by decide⟩ k) = 0 := fun k => (sh_lo1 O.mh k).trans (by rw [z k]; exact sub_zero _)
    simp only [e0, e2, e4, zero_mul, Finset.sum_const_zero, add_zero]

/-- One entry of a tile of the output. -/
theorem half_at (hf : FinShift O.mh) (p : Fin 2) (r : Fin 512) (l : Fin 128) :
    (∑ k, plane p (lnHV O.X) (ix3 0 r k) * plane p (tQ O τ) (ix3 0 n k)) * plane p (lnHR O.X) (ix3 0 r l) * tU O τ p (ix3 0 0 n) + crow p (tC O τ) (ix3 0 0 n)
      = yval (xr O.X p r) (fun k => O.ms (ix2 p k)) (fun k => O.mh (ix2 p k)) (fun k => O.w τ (ix2 n k)) (O.ws τ (ix2 0 n)) (O.b τ (ix2 0 n)) := by
  simp only [plane_at, lnHV_at, lnHR_at, tQ_at, tU_at, crow_at, tC_at O τ n hf]
  rfl

theorem quads_at {α : Type} (A0 A1 B0 B1 : (⟨3, ![1, 512, 128]⟩ : Shape).Idx → α) (r : Fin 512) (p : Fin 2) (f : α)
    (h : ∀ l : Fin 128, l.val = n.val % 128 → (if p.val = 0 then (if n.val < 128 then A0 (ix3 0 r l) else A1 (ix3 0 r l)) else (if n.val < 128 then B0 (ix3 0 r l) else B1 (ix3 0 r l))) = f) :
    quads A0 A1 B0 B1 (ix3 p r n) = f := by
  rw [← h ⟨n.val % 128, Nat.mod_lt _ (by decide)⟩ rfl]
  have e : (fun d => match d with | 0 => ⟨0, Nat.one_pos⟩ | 1 => r | 2 => ⟨n.val % 128, Nat.mod_lt _ (by decide)⟩ : (⟨3, ![1, 512, 128]⟩ : Shape).Idx)
      = ix3 0 r ⟨n.val % 128, Nat.mod_lt _ (by decide)⟩ := funext fun d => match d with | 0 => rfl | 1 => rfl | 2 => rfl
  rw [← e]; rfl

theorem tY_at (hf : FinShift O.mh) (r : Fin 512) : ∀ p : Fin 2, tY O τ (ix3 p r n)
      = yval (xr O.X p r) (fun k => O.ms (ix2 p k)) (fun k => O.mh (ix2 p k)) (fun k => O.w τ (ix2 n k)) (O.ws τ (ix2 0 n)) (O.b τ (ix2 0 n))
  | 0 => by
    unfold tY cY
    refine quads_at n _ _ _ _ r 0 _ fun l hl => ?_
    refine (if_pos rfl).trans (Eq.trans ?_ (half_at O τ n hf 0 r l))
    by_cases h : n.val < 128
    · have e : (⟨l.val, by omega⟩ : Fin 256) = n := Fin.ext (by show l.val = n.val; omega)
      refine (if_pos h).trans ((cY0_at _ _ _ _ _ r l).trans ?_)
      rw [e]
      try rfl
    · have e : (⟨128 + l.val, by omega⟩ : Fin 256) = n := Fin.ext (by show 128 + l.val = n.val; omega)
      refine (if_neg h).trans ((cY1_at _ _ _ _ _ r l).trans ?_)
      rw [e]
      try rfl
  | 1 => by
    unfold tY cY
    refine quads_at n _ _ _ _ r 1 _ fun l hl => ?_
    refine (if_neg (by decide)).trans (Eq.trans ?_ (half_at O τ n hf 1 r l))
    by_cases h : n.val < 128
    · have e : (⟨l.val, by omega⟩ : Fin 256) = n := Fin.ext (by show l.val = n.val; omega)
      refine (if_pos h).trans ((cY0_at _ _ _ _ _ r l).trans ?_)
      rw [e]
      try rfl
    · have e : (⟨128 + l.val, by omega⟩ : Fin 256) = n := Fin.ext (by show 128 + l.val = n.val; omega)
      refine (if_neg h).trans ((cY1_at _ _ _ _ _ r l).trans ?_)
      rw [e]
      try rfl
end
end Cert.Value.Kern
-- ==== Proof.Value.Ref.lean ====
module

public import proofs.«01_k».proof.Proof.Value.Spec
public import proofs.«01_k».proof.Proof.Gen.ReferenceIdeal.Value
public import Idealize.ShloMosaic.Lib.Pointwise

/-!
# The reference's payloads, entry by entry
-/

@[expose] public section
set_option maxRecDepth 16384
noncomputable section
namespace Cert.Value.Ref
open Cert.ReferenceIdeal Cert.ReferenceIdeal.Gen
open Idealize.ShloMosaic Cert.Value

/-- A row of the input, of the weight, and of the modulation. -/
abbrev xrow (x : Vec Ideal S2x512x3072 .bf16) (b : Fin 2) (r : Fin 512) : Fin 3072 → EReal := fun k => x (ix3 b r k)

theorem pay2_at (x : Vec Ideal S2x512x3072 .bf16) (b : Fin 2) (r : Fin 512) (k : Fin 3072) :
    k0_pay2 (F := Ideal) x (ix3 b r k) = norm (fun j => x (ix3 b r j)) k := by
  pointwise [k0_pay2]
  rfl

theorem pay3_at (x : Vec Ideal S2x512x3072 .bf16) (b : Fin 2) (r : Fin 512) :
    k0_pay3 (F := Ideal) x (ix3 b r 0) = amax (norm fun j => x (ix3 b r j)) := by
  pointwise [k0_pay3]
  simp only [pay2_at]
  rfl

/-- One trip of the count, from the largest magnitudes. -/
def stepH (a : FVec Ideal S2x512x1 .f32) (e : IVec S2x512x1 32) : IVec S2x512x1 32 :=
  select (cmpf .ole (bitcastToFloat .f32 (shli (addi (broadcast S2x512x1 127#32) e) (broadcast S2x512x1 23#32)))
    (mulf a (broadcast S2x512x1 (Scalar.ofBits .f32 0x3B124925#32)))) (addi e (broadcast S2x512x1 1#32)) e
theorem pay5_eq (x : Vec Ideal S2x512x3072 .bf16) : k0_pay5 (F := Ideal) x = stepH (k0_pay3 x) := rfl
theorem stepH_at (a : FVec Ideal S2x512x1 .f32) (e : IVec S2x512x1 32) (b : Fin 2) (r : Fin 512) :
    stepH a e (ix3 b r 0) = rStep (a (ix3 b r 0) * κ2) (e (ix3 b r 0)) := by
  pointwise [stepH]
  rfl

def zeroH (a : FVec Ideal S2x512x1 .f32) (e : IVec S2x512x1 32) : IVec S2x512x1 32 :=
  select (cmpf .oeq a (broadcast S2x512x1 (Scalar.ofBits .f32 0x00000000#32))) (broadcast S2x512x1 0#32) e
theorem pay6_eq (x : Vec Ideal S2x512x3072 .bf16) : k0_pay6 (F := Ideal) x = zeroH (k0_pay3 x) := rfl
theorem zeroH_at (a : FVec Ideal S2x512x1 .f32) (e : IVec S2x512x1 32) (b : Fin 2) (r : Fin 512) :
    zeroH a e (ix3 b r 0) = if a (ix3 b r 0) = 0 then 0#32 else e (ix3 b r 0) := by
  pointwise [zeroH]

/-- The counted exponents. -/
def eH (x : Vec Ideal S2x512x3072 .bf16) : IVec S2x512x1 32 := Scf.fold (fun (_ : Fin k0_t1_loop.trips) => k0_pay5 x) k0_pay4
theorem trips1 : k0_t1_loop.trips = 255 := by decide
theorem rExp_trips (q : EReal) {n : ℕ} (h : n = 255) :
    (List.finRange n).foldl (fun e (_ : Fin n) => rStep q e) 4294967170#32 = rExp q 255 := by subst h; rfl
theorem eH_at (x : Vec Ideal S2x512x3072 .bf16) (b : Fin 2) (r : Fin 512) :
    eH x (ix3 b r 0) = rExp (amax (norm fun j => x (ix3 b r j)) * κ2) 255 := by
  rw [← pay3_at, ← rExp_trips _ trips1]
  exact fold_at _ _ _ (fun _ e => rStep (k0_pay3 (F := Ideal) x (ix3 b r 0) * κ2) e)
    (fun k e => (congrFun (congrFun (pay5_eq x) e) _).trans (stepH_at _ e b r))

theorem pay6_at (x : Vec Ideal S2x512x3072 .bf16) (b : Fin 2) (r : Fin 512) :
    k0_pay6 (F := Ideal) x (eH x) (ix3 b r 0) = ex (amax (norm fun j => x (ix3 b r j))) := by
  rw [pay6_eq, zeroH_at, eH_at, pay3_at]; rfl

def sclH (e : IVec S2x512x1 32) : FVec Ideal S2x512x1 .f32 :=
  bitcastToFloat .f32 (shli (addi (broadcast S2x512x1 127#32) e) (broadcast S2x512x1 23#32))
theorem pay7_eq (x : Vec Ideal S2x512x3072 .bf16) (e : IVec S2x512x1 32) : k0_pay7 (F := Ideal) x e = sclH (k0_pay6 x e) := rfl
theorem sclH_at (e : IVec S2x512x1 32) (b : Fin 2) (r : Fin 512) :
    sclH e (ix3 b r 0) = fv (IntOp.addi 127#32 (e (ix3 b r 0))) := by
  pointwise [sclH]
  rfl
theorem pay7_at (x : Vec Ideal S2x512x3072 .bf16) (b : Fin 2) (r : Fin 512) :
    k0_pay7 (F := Ideal) x (eH x) (ix3 b r 0) = scl (amax (norm fun j => x (ix3 b r j))) := by
  rw [pay7_eq, sclH_at, pay6_at]; rfl

def invH (e : IVec S2x512x1 32) : IVec S2x512x1 32 :=
  addi (broadcast S2x512x1 127#32) (subi (broadcast S2x512x1 0#32) e)
theorem pay8_eq (x : Vec Ideal S2x512x3072 .bf16) (e : IVec S2x512x1 32) : k0_pay8 (F := Ideal) x e = invH (k0_pay6 x e) := rfl
theorem invH_at (e : IVec S2x512x1 32) (b : Fin 2) (r : Fin 512) :
    invH e (ix3 b r 0) = IntOp.addi 127#32 (IntOp.subi 0#32 (e (ix3 b r 0))) := by
  pointwise [invH]
theorem pay9_gen (v : FVec Ideal S2x512x3072 .f32) (e : IVec S2x512x1 32) (b : Fin 2) (r : Fin 512) (k : Fin 3072) :
    k0_pay9 (F := Ideal) v e 23#32 (ix3 b r k) = clip (v (ix3 b r k) * fv (e (ix3 b r 0))) := by
  pointwise [k0_pay9]
  rfl
/-- The codes of the layer norm. -/
def cH (x : Vec Ideal S2x512x3072 .bf16) : FVec Ideal S2x512x3072 .fp8e4m3 := k0_pay9 (k0_pay2 x) (k0_pay8 x (eH x)) 23#32
theorem cH_at (x : Vec Ideal S2x512x3072 .bf16) (b : Fin 2) (r : Fin 512) (k : Fin 3072) :
    cH x (ix3 b r k) = codes (norm fun j => x (ix3 b r j)) k := by
  unfold cH
  rw [pay9_gen, pay2_at, pay8_eq, invH_at, pay6_at]; rfl

theorem pay10_at (w : Vec Ideal S9216x3072 .fp8e4m3) (n : Fin 9216) (k : Fin 3072) :
    k0_pay10 (F := Ideal) w (ix2 n k) = w (ix2 n k) := by
  pointwise [k0_pay10]

theorem pay11_at (w : Vec Ideal S9216x3072 .fp8e4m3) (c : Vec Ideal S9216 .f32) (s : Vec Ideal S2x3072 .f32) (b : Fin 2) (n : Fin 9216) (k : Fin 3072) :
    k0_pay11 (F := Ideal) w c s (ix3 b n k) = wrow (fun j => s (ix2 b j)) (fun j => w (ix2 n j)) (c (ix1 n)) k := by
  pointwise [k0_pay11, k0_pay10]
  rfl

theorem pay12_at (w : Vec Ideal S9216x3072 .fp8e4m3) (c : Vec Ideal S9216 .f32) (s : Vec Ideal S2x3072 .f32) (b : Fin 2) (n : Fin 9216) :
    k0_pay12 (F := Ideal) w c s (ix3 b n 0) = amax (wrow (fun j => s (ix2 b j)) (fun j => w (ix2 n j)) (c (ix1 n))) := by
  pointwise [k0_pay12]
  simp only [pay11_at]
  rfl

def stepW (a : FVec Ideal S2x9216x1 .f32) (e : IVec S2x9216x1 32) : IVec S2x9216x1 32 :=
  select (cmpf .ole (bitcastToFloat .f32 (shli (addi (broadcast S2x9216x1 127#32) e) (broadcast S2x9216x1 23#32)))
    (mulf a (broadcast S2x9216x1 (Scalar.ofBits .f32 0x3B124925#32)))) (addi e (broadcast S2x9216x1 1#32)) e
theorem pay14_eq (w : Vec Ideal S9216x3072 .fp8e4m3) (c : Vec Ideal S9216 .f32) (s : Vec Ideal S2x3072 .f32) :
    k0_pay14 (F := Ideal) w c s = stepW (k0_pay12 w c s) := rfl
theorem stepW_at (a : FVec Ideal S2x9216x1 .f32) (e : IVec S2x9216x1 32) (b : Fin 2) (r : Fin 9216) :
    stepW a e (ix3 b r 0) = rStep (a (ix3 b r 0) * κ2) (e (ix3 b r 0)) := by
  pointwise [stepW]
  rfl
def zeroW (a : FVec Ideal S2x9216x1 .f32) (e : IVec S2x9216x1 32) : IVec S2x9216x1 32 :=
  select (cmpf .oeq a (broadcast S2x9216x1 (Scalar.ofBits .f32 0x00000000#32))) (broadcast S2x9216x1 0#32) e
theorem pay15_eq (w : Vec Ideal S9216x3072 .fp8e4m3) (c : Vec Ideal S9216 .f32) (s : Vec Ideal S2x3072 .f32) :
    k0_pay15 (F := Ideal) w c s = zeroW (k0_pay12 w c s) := rfl
theorem zeroW_at (a : FVec Ideal S2x9216x1 .f32) (e : IVec S2x9216x1 32) (b : Fin 2) (r : Fin 9216) :
    zeroW a e (ix3 b r 0) = if a (ix3 b r 0) = 0 then 0#32 else e (ix3 b r 0) := by
  pointwise [zeroW]
def eW (w : Vec Ideal S9216x3072 .fp8e4m3) (c : Vec Ideal S9216 .f32) (s : Vec Ideal S2x3072 .f32) : IVec S2x9216x1 32 :=
  Scf.fold (fun (_ : Fin k0_t2_loop.trips) => k0_pay14 w c s) k0_pay13
theorem trips2 : k0_t2_loop.trips = 255 := by decide
theorem eW_at (w : Vec Ideal S9216x3072 .fp8e4m3) (c : Vec Ideal S9216 .f32) (s : Vec Ideal S2x3072 .f32) (b : Fin 2) (n : Fin 9216) :
    eW w c s (ix3 b n 0) = rExp (amax (wrow (fun j => s (ix2 b j)) (fun j => w (ix2 n j)) (c (ix1 n))) * κ2) 255 := by
  rw [← pay12_at, ← rExp_trips _ trips2]
  exact fold_at _ _ _ (fun _ e => rStep (k0_pay12 (F := Ideal) w c s (ix3 b n 0) * κ2) e)
    (fun k e => (congrFun (congrFun (pay14_eq w c s) e) _).trans (stepW_at _ e b n))
theorem pay15_at (w : Vec Ideal S9216x3072 .fp8e4m3) (c : Vec Ideal S9216 .f32) (s : Vec Ideal S2x3072 .f32) (b : Fin 2) (n : Fin 9216) :
    k0_pay15 (F := Ideal) w c s (eW w c s) (ix3 b n 0) = ex (amax (wrow (fun j => s (ix2 b j)) (fun j => w (ix2 n j)) (c (ix1 n)))) := by
  rw [pay15_eq, zeroW_at, eW_at, pay12_at]; rfl
def sclW (e : IVec S2x9216x1 32) : FVec Ideal S2x9216x1 .f32 :=
  bitcastToFloat .f32 (shli (addi (broadcast S2x9216x1 127#32) e) (broadcast S2x9216x1 23#32))
theorem pay16_eq (w : Vec Ideal S9216x3072 .fp8e4m3) (c : Vec Ideal S9216 .f32) (s : Vec Ideal S2x3072 .f32) (e : IVec S2x9216x1 32) :
    k0_pay16 (F := Ideal) w c s e = sclW (k0_pay15 w c s e) := rfl
theorem sclW_at (e : IVec S2x9216x1 32) (b : Fin 2) (r : Fin 9216) :
    sclW e (ix3 b r 0) = fv (IntOp.addi 127#32 (e (ix3 b r 0))) := by
  pointwise [sclW]
  rfl
theorem pay16_at (w : Vec Ideal S9216x3072 .fp8e4m3) (c : Vec Ideal S9216 .f32) (s : Vec Ideal S2x3072 .f32) (b : Fin 2) (n : Fin 9216) :
    k0_pay16 (F := Ideal) w c s (eW w c s) (ix3 b n 0) = scl (amax (wrow (fun j => s (ix2 b j)) (fun j => w (ix2 n j)) (c (ix1 n)))) := by
  rw [pay16_eq, sclW_at, pay15_at]; rfl
theorem pay17_gen (v : FVec Ideal S2x9216x3072 .f32) (e : IVec S2x9216x1 32) (b : Fin 2) (n : Fin 9216) (k : Fin 3072) :
    k0_pay17 (F := Ideal) v e 0#32 (ix3 b n k) = clip (v (ix3 b n k) * fv (IntOp.addi 127#32 (IntOp.subi 0#32 (e (ix3 b n 0))))) := by
  pointwise [k0_pay17]
  rfl
/-- The codes of the modulated weight. -/
def cW (w : Vec Ideal S9216x3072 .fp8e4m3) (c : Vec Ideal S9216 .f32) (s : Vec Ideal S2x3072 .f32) : FVec Ideal S2x9216x3072 .fp8e4m3 :=
  k0_pay17 (k0_pay11 w c s) (k0_pay15 w c s (eW w c s)) 0#32
theorem cW_at (w : Vec Ideal S9216x3072 .fp8e4m3) (c : Vec Ideal S9216 .f32) (s : Vec Ideal S2x3072 .f32) (b : Fin 2) (n : Fin 9216) (k : Fin 3072) :
    cW w c s (ix3 b n k) = codes (wrow (fun j => s (ix2 b j)) (fun j => w (ix2 n j)) (c (ix1 n))) k := by
  unfold cW
  rw [pay17_gen, pay11_at, pay15_at]; rfl
theorem pay18_gen (v34 : FVec Ideal S2x512x1 .f32) (v48 : FVec Ideal S2x512x3072 .fp8e4m3) (v50 : FVec Ideal S9216x3072 .f32) (v62 : FVec Ideal S2x9216x3072 .f32) (v74 : IVec S2x9216x1 32) (v79 : FVec Ideal S2x9216x1 .f32) (v95 : Vec Ideal S2x3072 .f32) (v97 : Vec Ideal S9216 .f32) (v101 : Vec Ideal S9216 .f32) (b : Fin 2) (r : Fin 512) (l : Fin 9216) :
    k0_pay18 (F := Ideal) v34 v48 v50 v62 v74 v79 0#32 v95 v97 v101 (ix3 b r l)
      = (∑ k, v48 (ix3 b r k) * k0_pay17 (F := Ideal) v62 v74 0#32 (ix3 b l k)) * v34 (ix3 b r 0) * v79 (ix3 b l 0)
        + ((∑ k, v95 (ix2 b k) * v50 (ix2 l k)) * v97 (ix1 l) + v101 (ix1 l)) := by
  pointwise [k0_pay18]
/-- The output. -/
def yv (x : Vec Ideal S2x512x3072 .bf16) (s h : Vec Ideal S2x3072 .f32) (w : Vec Ideal S9216x3072 .fp8e4m3) (c o : Vec Ideal S9216 .f32) : FVec Ideal S2x512x9216 .bf16 :=
  k0_pay18 (k0_pay7 x (eH x)) (cH x) (k0_pay10 w) (k0_pay11 w c s) (k0_pay15 w c s (eW w c s)) (k0_pay16 w c s (eW w c s)) 0#32 h c o
theorem yv_at (x : Vec Ideal S2x512x3072 .bf16) (s h : Vec Ideal S2x3072 .f32) (w : Vec Ideal S9216x3072 .fp8e4m3) (c o : Vec Ideal S9216 .f32) (b : Fin 2) (r : Fin 512) (n : Fin 9216) :
    yv x s h w c o (ix3 b r n) = yval (fun j => x (ix3 b r j)) (fun j => s (ix2 b j)) (fun j => h (ix2 b j)) (fun j => w (ix2 n j)) (c (ix1 n)) (o (ix1 n)) := by
  unfold yv
  rw [pay18_gen, pay7_at, pay16_at]
  unfold yval
  congr 1
  · congr 2
    exact Finset.sum_congr rfl fun k _ => by rw [cH_at]; congr 1; exact cW_at w c s b n k
theorem pay19_at (v : FVec Ideal S2x512x1 .f32) (b : Fin 2) (r : Fin 512) : k0_pay19 (F := Ideal) v (ix2 b r) = v (ix3 b r 0) := by
  pointwise [k0_pay19]
theorem pay1_at (v : FVec Ideal S2x9216x1 .f32) (b : Fin 2) (r : Fin 9216) : k0_pay1 (F := Ideal) v (ix2 b r) = v (ix3 b r 0) := by
  pointwise [k0_pay1]

end Cert.Value.Ref
-- ==== Proof.Value.KArr.lean ====
module

public import proofs.«01_k».proof.Proof.Value.KOut
public import proofs.«01_k».proof.Proof.Value.Ref
public import proofs.«01_k».proof.Proof.KernelIdeal.Frame
public import Idealize.ShloMosaic.Lib.Pipeline.ValueKit

/-!
# The arrays the kernel leaves
-/

@[expose] public section
set_option maxRecDepth 16384
noncomputable section
namespace Cert.Value.Kern
open Cert.KernelIdeal Cert.KernelIdeal.Gen Cert.KernelIdeal.Hand
open Idealize.ShloMosaic Idealize.ShloMosaic.TcCoe Cert.Value
open Idealize.ShloMosaic.Pipeline (Dat)

variable (m : (ℓ : Loc nD τ sig) → Buf (Elt Ideal) ℓ) (c : Dev nD)

/-! ## The operands, from the arguments -/

theorem i0 : ∀ (t : Fin cfg0.N) a, win0_0.index t a = 0 := (by decide +kernel : ∀ (t : Fin grid0.N) a, win0_0.index t a = 0)
theorem i1 : ∀ (t : Fin cfg0.N) a, win0_1.index t a = 0 := (by decide +kernel : ∀ (t : Fin grid0.N) a, win0_1.index t a = 0)
theorem i2_0 : ∀ t : Fin cfg0.N, win0_2.index t 0 = min t.val 35 := (by decide +kernel : ∀ t : Fin grid0.N, win0_2.index t 0 = min t.val 35)
theorem i2_1 : ∀ t : Fin cfg0.N, win0_2.index t 1 = 0 := (by decide +kernel : ∀ t : Fin grid0.N, win0_2.index t 1 = 0)
theorem i3_0 : ∀ t : Fin cfg0.N, win0_3.index t 0 = 0 := (by decide +kernel : ∀ t : Fin grid0.N, win0_3.index t 0 = 0)
theorem i3_1 : ∀ t : Fin cfg0.N, win0_3.index t 1 = min t.val 35 := (by decide +kernel : ∀ t : Fin grid0.N, win0_3.index t 1 = min t.val 35)
theorem i4_0 : ∀ t : Fin cfg0.N, win0_4.index t 0 = 0 := (by decide +kernel : ∀ t : Fin grid0.N, win0_4.index t 0 = 0)
theorem i4_1 : ∀ t : Fin cfg0.N, win0_4.index t 1 = min t.val 35 := (by decide +kernel : ∀ t : Fin grid0.N, win0_4.index t 1 = min t.val 35)
theorem i5_0 : ∀ t : Fin cfg0.N, win0_5.index t 0 = 0 := (by decide +kernel : ∀ t : Fin grid0.N, win0_5.index t 0 = 0)
theorem i5_1 : ∀ t : Fin cfg0.N, win0_5.index t 1 = 0 := (by decide +kernel : ∀ t : Fin grid0.N, win0_5.index t 1 = 0)
theorem i5_2 : ∀ t : Fin cfg0.N, win0_5.index t 2 = t.val - 2 := (by decide +kernel : ∀ t : Fin grid0.N, win0_5.index t 2 = t.val - 2)
theorem i6 : ∀ (t : Fin cfg0.N) a, win0_6.index t a = 0 := (by decide +kernel : ∀ (t : Fin grid0.N) a, win0_6.index t a = 0)
theorem i7_0 : ∀ t : Fin cfg0.N, win0_7.index t 0 = 0 := (by decide +kernel : ∀ t : Fin grid0.N, win0_7.index t 0 = 0)
theorem i7_1 : ∀ t : Fin cfg0.N, win0_7.index t 1 = min (t.val - 1) 35 := (by decide +kernel : ∀ t : Fin grid0.N, win0_7.index t 1 = min (t.val - 1) 35)
theorem i7_2 : ∀ t : Fin cfg0.N, win0_7.index t 2 = 0 := (by decide +kernel : ∀ t : Fin grid0.N, win0_7.index t 2 = 0)
theorem i8_0 : ∀ t : Fin cfg0.N, win0_8.index t 0 = 0 := (by decide +kernel : ∀ t : Fin grid0.N, win0_8.index t 0 = 0)
theorem i8_1 : ∀ t : Fin cfg0.N, win0_8.index t 1 = min (t.val - 1) 35 := (by decide +kernel : ∀ t : Fin grid0.N, win0_8.index t 1 = min (t.val - 1) 35)
theorem f5 : ∀ t : Fin cfg0.N, (cfg0.win 5).flush t = true → 2 ≤ t.val := (by decide +kernel : ∀ t : Fin grid0.N, (cfg0.win 5).flush t = true → 2 ≤ t.val)
theorem t_lt (t : Fin cfg0.N) : t.val < 38 := N_0 ▸ t.isLt

theorem X_at (b : Fin 2) (r : Fin 512) (k : Fin 3072) : (ops m c).X (ix2 ⟨512 * b.val + r.val, by omega⟩ k) = m ((c : Thread nD τ).loc main_arg0) (ix3 b r k) := by
  show V m c main_v0 _ = _
  entry_read
  pointwise

theorem ms_at : (ops m c).ms = m ((c : Thread nD τ).loc main_arg1) := by
  show iblk m c 0 (pt 0) = _
  funext y; blk_ext [iblk, V]
  all_goals (rw [i0 (pt 0)]; omega)
theorem mh_at : (ops m c).mh = m ((c : Thread nD τ).loc main_arg2) := by
  show iblk m c 1 (pt 0) = _
  funext y; blk_ext [iblk, V]
  all_goals (rw [i1 (pt 0)]; omega)

theorem w_at (q : ℕ) (hq : q ≤ 35) (n : Fin 256) (k : Fin 3072) :
    (ops m c).w q (ix2 n k) = m ((c : Thread nD τ).loc main_arg3) (ix2 ⟨256 * q + n.val, by omega⟩ k) := by
  have hv : (pt q).val = min q 37 := rfl
  show iblk m c 2 (pt q) _ = _
  blk_ext [iblk, V]
  · rw [i2_0 (pt q)]; omega
  · rw [i2_1 (pt q)]; omega

theorem emb3 (q : ℕ) (hq : q ≤ 35) (n : Fin 256) : (win0_3.blk (pt q)).view.emb (ix2 0 n) = ix2 0 ⟨256 * q + n.val, by omega⟩ := by
  have hv : (pt q).val = min q 37 := rfl
  blk_ext
  · rw [i3_0 (pt q)]
  · rw [i3_1 (pt q)]; omega
theorem emb4 (q : ℕ) (hq : q ≤ 35) (n : Fin 256) : (win0_4.blk (pt q)).view.emb (ix2 0 n) = ix2 0 ⟨256 * q + n.val, by omega⟩ := by
  have hv : (pt q).val = min q 37 := rfl
  blk_ext
  · rw [i4_0 (pt q)]
  · rw [i4_1 (pt q)]; omega

theorem ws_at (q : ℕ) (hq : q ≤ 35) (n : Fin 256) :
    (ops m c).ws q (ix2 0 n) = m ((c : Thread nD τ).loc main_arg4) (ix1 ⟨256 * q + n.val, by omega⟩) := by
  refine (congrArg (V m c main_v1) (emb3 q hq n)).trans ?_
  entry_read
  pointwise
theorem b_at (q : ℕ) (hq : q ≤ 35) (n : Fin 256) :
    (ops m c).b q (ix2 0 n) = m ((c : Thread nD τ).loc main_arg5) (ix1 ⟨256 * q + n.val, by omega⟩) := by
  refine (congrArg (V m c main_v2) (emb4 q hq n)).trans ?_
  entry_read
  pointwise

theorem xr_eq (b : Fin 2) (r : Fin 512) : xr (ops m c).X b r = fun k => m ((c : Thread nD τ).loc main_arg0) (ix3 b r k) :=
  funext fun k => X_at m c b r k
theorem w_eq (q : ℕ) (hq : q ≤ 35) (n : Fin 256) :
    (fun k => (ops m c).w q (ix2 n k)) = fun k => m ((c : Thread nD τ).loc main_arg3) (ix2 ⟨256 * q + n.val, by omega⟩ k) :=
  funext fun k => w_at m c q hq n k

/-! ## The tiles, and the arrays they fill -/

theorem tile5 (hf : FinShift (m ((c : Thread nD τ).loc main_arg2))) (q : ℕ) (hq : q ≤ 35) (p : Fin 2) (r : Fin 512) (n : Fin 256) :
    tY (ops m c) q (ix3 p r n) = Ref.yv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 p r ⟨256 * q + n.val, by omega⟩) := by
  rw [Ref.yv_at, tY_at (ops m c) q n (by rw [mh_at]; exact hf) r p, xr_eq, w_eq m c q hq, ws_at m c q hq, b_at m c q hq, ms_at, mh_at]

theorem arr5 (hf : FinShift (m ((c : Thread nD τ).loc main_arg2))) : (dats m 0 c).arrAt 5 cfg0.N = Ref.yv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hfl y => ?_
  have h2 := f5 t hfl
  have h38 := t_lt t
  blk_simp
  rw [after5]
  refine (congrArg (tY (ops m c) (t.val - 2)) (eq_ix3 (n0 := 2) (n1 := 512) (n2 := 256) y)).trans ((tile5 m c hf (t.val - 2) (by omega) (y 0) (y 1) (y 2)).trans (congrArg _ ?_))
  symm
  blk_ext
  · rw [i5_0 t]; omega
  · rw [i5_1 t]; omega
  · rw [i5_2 t]; omega

theorem tile6 (p : Fin 2) (r : Fin 512) :
    hsOf (ops m c).X (ix2 p r) = Cert.ReferenceIdeal.Gen.k0_pay19 (Cert.ReferenceIdeal.Gen.k0_pay7 (F := Ideal) (m ((c : Thread nD τ).loc main_arg0)) (Ref.eH (m ((c : Thread nD τ).loc main_arg0)))) (ix2 p r) := by
  rw [Ref.pay19_at, Ref.pay7_at, hsOf_at, xr_eq]

theorem arr6 : (dats m 0 c).arrAt 6 cfg0.N = Cert.ReferenceIdeal.Gen.k0_pay19 (Cert.ReferenceIdeal.Gen.k0_pay7 (F := Ideal) (m ((c : Thread nD τ).loc main_arg0)) (Ref.eH (m ((c : Thread nD τ).loc main_arg0)))) := by
  refine (dats m 0 c).arrAt_eq_of_covers 6 _ (by decide +kernel) fun t hfl y => ?_
  blk_simp
  rw [after6]
  refine (congrArg (hsOf (ops m c).X) (eq_ix2 (n0 := 2) (n1 := 512) y)).trans ((tile6 m c (y 0) (y 1)).trans (congrArg _ ?_))
  symm
  blk_ext
  all_goals (rw [i6 t]; omega)

theorem wr_at (q : ℕ) (hq : q ≤ 35) (n : Fin 256) (p : Fin 2) : wr (ops m c) q n p
    = wrow (fun j => m ((c : Thread nD τ).loc main_arg1) (ix2 p j)) (fun j => m ((c : Thread nD τ).loc main_arg3) (ix2 ⟨256 * q + n.val, by omega⟩ j)) (m ((c : Thread nD τ).loc main_arg4) (ix1 ⟨256 * q + n.val, by omega⟩)) := by
  unfold wr
  rw [w_eq m c q hq, ws_at m c q hq, ms_at]

theorem tile7 (q : ℕ) (hq : q ≤ 35) (p : Fin 2) (n : Fin 256) (k : Fin 3072) :
    tQ (ops m c) q (ix3 p n k) = Ref.cW (m ((c : Thread nD τ).loc main_arg3)) (m ((c : Thread nD τ).loc main_arg4)) (m ((c : Thread nD τ).loc main_arg1)) (ix3 p ⟨256 * q + n.val, by omega⟩ k) := by
  rw [Ref.cW_at, tQ_at, wr_at m c q hq]

theorem arr7 : (dats m 0 c).arrAt 7 cfg0.N = Ref.cW (m ((c : Thread nD τ).loc main_arg3)) (m ((c : Thread nD τ).loc main_arg4)) (m ((c : Thread nD τ).loc main_arg1)) := by
  refine (dats m 0 c).arrAt_eq_of_covers 7 _ (by decide +kernel) fun t hfl y => ?_
  have h38 := t_lt t
  blk_simp
  rw [after7]
  refine (congrArg (tQ (ops m c) (min (t.val - 1) 35)) (eq_ix3 (n0 := 2) (n1 := 256) (n2 := 3072) y)).trans ((tile7 m c (min (t.val - 1) 35) (by omega) (y 0) (y 1) (y 2)).trans (congrArg _ ?_))
  symm
  blk_ext
  · rw [i7_0 t]; omega
  · rw [i7_1 t]; omega
  · rw [i7_2 t]; omega

theorem tile8 (q : ℕ) (hq : q ≤ 35) (p : Fin 2) (n : Fin 256) :
    tS (ops m c) q (ix2 p n) = Cert.ReferenceIdeal.Gen.k0_pay1 (Cert.ReferenceIdeal.Gen.k0_pay16 (F := Ideal) (m ((c : Thread nD τ).loc main_arg3)) (m ((c : Thread nD τ).loc main_arg4)) (m ((c : Thread nD τ).loc main_arg1)) (Ref.eW (m ((c : Thread nD τ).loc main_arg3)) (m ((c : Thread nD τ).loc main_arg4)) (m ((c : Thread nD τ).loc main_arg1)))) (ix2 p ⟨256 * q + n.val, by omega⟩) := by
  rw [Ref.pay1_at, Ref.pay16_at, tS_at, wr_at m c q hq]

theorem arr8 : (dats m 0 c).arrAt 8 cfg0.N = Cert.ReferenceIdeal.Gen.k0_pay1 (Cert.ReferenceIdeal.Gen.k0_pay16 (F := Ideal) (m ((c : Thread nD τ).loc main_arg3)) (m ((c : Thread nD τ).loc main_arg4)) (m ((c : Thread nD τ).loc main_arg1)) (Ref.eW (m ((c : Thread nD τ).loc main_arg3)) (m ((c : Thread nD τ).loc main_arg4)) (m ((c : Thread nD τ).loc main_arg1)))) := by
  refine (dats m 0 c).arrAt_eq_of_covers 8 _ (by decide +kernel) fun t hfl y => ?_
  have h38 := t_lt t
  blk_simp
  rw [after8]
  refine (congrArg (tS (ops m c) (min (t.val - 1) 35)) (eq_ix2 (n0 := 2) (n1 := 256) y)).trans ((tile8 m c (min (t.val - 1) 35) (by omega) (y 0) (y 1)).trans (congrArg _ ?_))
  symm
  blk_ext
  · rw [i8_0 t]; omega
  · rw [i8_1 t]; omega

theorem tile_h (b : Fin 2) (r : Fin 512) (k : Fin 3072) :
    lnHV (ops m c).X (ix3 b r k) = Ref.cH (m ((c : Thread nD τ).loc main_arg0)) (ix3 b r k) := by
  rw [Ref.cH_at, lnHV_at, xr_eq]

theorem gout : Gout m c main_v3_1 = Ref.cH (m ((c : Thread nD τ).loc main_arg0)) := by
  rw [Gout_h]
  funext y
  exact (congrArg _ (eq_ix3 (n0 := 2) (n1 := 512) (n2 := 3072) y)).trans ((tile_h m c (y 0) (y 1) (y 2)).trans
    (congrArg _ (eq_ix3 (n0 := 2) (n1 := 512) (n2 := 3072) y).symm))

/-- The kernel leaves its arguments as they were. -/
theorem args (m : (ℓ : Loc nD τ sig) → Buf (Elt Ideal) ℓ) {r : PUnit × MemSt nD τ sig (Elt Ideal)}
    (h : Pipeline.FramePostRG cfgs (dats m) 0 R0 (V m) (Gout m) r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(rest_arg m h c main_arg0 (by decide)).trans (V_main_arg0 m c),
    ((h.1 c).1 0).trans (((dats m 0 c).arrAt_in 0 rfl _).trans ((A_eq m c 0).trans (V_main_arg1 m c))),
    ((h.1 c).1 1).trans (((dats m 0 c).arrAt_in 1 rfl _).trans ((A_eq m c 1).trans (V_main_arg2 m c))),
    ((h.1 c).1 2).trans (((dats m 0 c).arrAt_in 2 rfl _).trans ((A_eq m c 2).trans (V_main_arg3 m c))),
    (rest_arg m h c main_arg4 (by decide)).trans (V_main_arg4 m c),
    (rest_arg m h c main_arg5 (by decide)).trans (V_main_arg5 m c)⟩

end Cert.Value.Kern
-- ==== Proof.Value.RefRun.lean ====
module

public import proofs.«01_k».proof.Proof.Value.Ref
public import Idealize.ShloMosaic.Lib.Pipeline.ValueKit
public import Idealize.ShloMosaic.Lib.VecWindow

/-!
# What the reference leaves in its results
-/

@[expose] public section
set_option maxRecDepth 16384
noncomputable section
namespace Cert.Value.Ref
open Cert.ReferenceIdeal Cert.ReferenceIdeal.Gen
open Idealize.ShloMosaic Idealize.ShloMosaic.TcCoe Cert.Value
open Idealize.ShloMosaic.VecWindow

theorem ld {sg : RefSig} {κ : Kind} {sp : Space} {s : Shape} {e : EltTy} (a : Memref sg κ sp s e) (h : a.IsWhole) (x : Vec Ideal s e) {off : Fin s.rank → ℕ}
    (inb : ∀ d, off d + s.size d ≤ s.size d) :
    View.readAt (Elt Ideal) a.view (Rect.unit off s.size inb).toLoadRect (h.unread x) = x :=
  (View.readAt_full _ _ inb).trans (h.read_unread x)

section
variable (c : Dev nD) (arg0 : Memref sig .tc .vmem S2x512x3072 .bf16) (harg0 : arg0.IsWhole) (arg1 : Memref sig .tc .vmem S2x3072 .f32) (harg1 : arg1.IsWhole) (arg2 : Memref sig .tc .vmem S2x3072 .f32) (harg2 : arg2.IsWhole) (arg3 : Memref sig .tc .vmem S9216x3072 .fp8e4m3) (harg3 : arg3.IsWhole) (arg4 : Memref sig .tc .vmem S9216 .f32) (harg4 : arg4.IsWhole) (arg5 : Memref sig .tc .vmem S9216 .f32) (harg5 : arg5.IsWhole) (arg6 : Memref sig .tc .vmem S2x512x9216 .bf16) (harg6 : arg6.IsWhole) (arg7 : Memref sig .tc .vmem S2x512x3072 .fp8e4m3) (harg7 : arg7.IsWhole) (arg8 : Memref sig .tc .vmem S2x512 .f32) (harg8 : arg8.IsWhole) (arg9 : Memref sig .tc .vmem S2x9216x3072 .fp8e4m3) (harg9 : arg9.IsWhole) (arg10 : Memref sig .tc .vmem S2x9216 .f32) (harg10 : arg10.IsWhole)
    (x0 : Vec Ideal S2x512x3072 .bf16) (x1 : Vec Ideal S2x3072 .f32) (x2 : Vec Ideal S2x3072 .f32) (x3 : Vec Ideal S9216x3072 .fp8e4m3) (x4 : Vec Ideal S9216 .f32) (x5 : Vec Ideal S9216 .f32)

theorem r0_eq : kernelRun0_A.sl.r c arg0 harg0 x0 = eH x0 := by
  unfold kernelRun0_A.sl.r; rw [ld]; rfl
theorem r1_eq : kernelRun0_A.sl.r_1 c arg0 harg0 x0 = k0_pay2 x0 := by
  unfold kernelRun0_A.sl.r_1; rw [ld]
theorem r2_eq : kernelRun0_A.sl.r_2 c arg0 harg0 x0 = k0_pay7 x0 (eH x0) := by
  unfold kernelRun0_A.sl.r_2; rw [ld, r0_eq]
theorem r3_eq : kernelRun0_A.sl.r_3 c arg0 harg0 x0 = k0_pay8 x0 (eH x0) := by
  unfold kernelRun0_A.sl.r_3; rw [ld, r0_eq]
theorem r5_eq : kernelRun0_A.sl.r_5 c arg0 harg0 x0 = cH x0 := by
  unfold kernelRun0_A.sl.r_5 cH; rw [r1_eq, r3_eq]
theorem r4_eq : kernelRun0_A.sl.r_4 c arg1 harg1 arg3 harg3 arg4 harg4 x1 x3 x4 = eW x3 x4 x1 := by
  unfold kernelRun0_A.sl.r_4; rw [ld, ld, ld]; rfl
theorem r6_eq : kernelRun0_A.sl.r_6 c arg3 harg3 x3 = k0_pay10 x3 := by
  unfold kernelRun0_A.sl.r_6; rw [ld]
theorem r7_eq : kernelRun0_A.sl.r_7 c arg1 harg1 arg3 harg3 arg4 harg4 x1 x3 x4 = k0_pay11 x3 x4 x1 := by
  unfold kernelRun0_A.sl.r_7; rw [ld, ld, ld]
theorem r8_eq : kernelRun0_A.sl.r_8 c arg1 harg1 arg3 harg3 arg4 harg4 x1 x3 x4 = k0_pay15 x3 x4 x1 (eW x3 x4 x1) := by
  unfold kernelRun0_A.sl.r_8; rw [ld, ld, ld, r4_eq]
theorem r9_eq : kernelRun0_A.sl.r_9 c arg1 harg1 arg3 harg3 arg4 harg4 x1 x3 x4 = k0_pay16 x3 x4 x1 (eW x3 x4 x1) := by
  unfold kernelRun0_A.sl.r_9; rw [ld, ld, ld, r4_eq]
theorem r10_eq : kernelRun0_A.sl.r_10 c arg1 harg1 arg3 harg3 arg4 harg4 x1 x3 x4 = cW x3 x4 x1 := by
  unfold kernelRun0_A.sl.r_10 cW; rw [r7_eq, r8_eq]

theorem o6_eq : out0_A_6 c arg0 harg0 arg1 harg1 arg2 harg2 arg3 harg3 arg4 harg4 arg5 harg5 arg6 harg6 arg7 harg7 arg8 harg8 arg9 harg9 arg10 harg10 x0 x1 x2 x3 x4 x5
    = yv x0 x1 x2 x3 x4 x5 := by
  unfold out0_A_6 kernelRun0_A
  refine (View.read_writes_full _ _ _ _ _).trans ?_
  unfold yv
  rw [r2_eq, r5_eq, r6_eq, r7_eq, r8_eq, r9_eq, ld, ld, ld]
theorem o7_eq : out0_A_7 c arg0 harg0 arg1 harg1 arg2 harg2 arg3 harg3 arg4 harg4 arg5 harg5 arg6 harg6 arg7 harg7 arg8 harg8 arg9 harg9 arg10 harg10 x0 x1 x2 x3 x4 x5
    = cH x0 := by
  unfold out0_A_7 kernelRun0_A
  exact (View.read_writes_full _ _ _ _ _).trans (r5_eq c arg0 harg0 x0)
theorem o8_eq : out0_A_8 c arg0 harg0 arg1 harg1 arg2 harg2 arg3 harg3 arg4 harg4 arg5 harg5 arg6 harg6 arg7 harg7 arg8 harg8 arg9 harg9 arg10 harg10 x0 x1 x2 x3 x4 x5
    = k0_pay19 (k0_pay7 x0 (eH x0)) := by
  unfold out0_A_8 kernelRun0_A
  exact (View.read_writes_full _ _ _ _ _).trans (congrArg k0_pay19 (r2_eq c arg0 harg0 x0))
theorem o9_eq : out0_A_9 c arg0 harg0 arg1 harg1 arg2 harg2 arg3 harg3 arg4 harg4 arg5 harg5 arg6 harg6 arg7 harg7 arg8 harg8 arg9 harg9 arg10 harg10 x0 x1 x2 x3 x4 x5
    = cW x3 x4 x1 := by
  unfold out0_A_9 kernelRun0_A
  exact (View.read_writes_full _ _ _ _ _).trans (r10_eq c arg1 harg1 arg3 harg3 arg4 harg4 x1 x3 x4)
theorem o10_eq : out0_A_10 c arg0 harg0 arg1 harg1 arg2 harg2 arg3 harg3 arg4 harg4 arg5 harg5 arg6 harg6 arg7 harg7 arg8 harg8 arg9 harg9 arg10 harg10 x0 x1 x2 x3 x4 x5
    = k0_pay1 (k0_pay16 x3 x4 x1 (eW x3 x4 x1)) := by
  unfold out0_A_10 kernelRun0_A
  exact (View.read_writes_full _ _ _ _ _).trans (congrArg k0_pay1 (r9_eq c arg1 harg1 arg3 harg3 arg4 harg4 x1 x3 x4))
end

variable (m : (ℓ : Loc nD τ sig) → Buf (Elt Ideal) ℓ)

theorem idx0 : ∀ (t : Fin cfg0.N) a, win0_0.index t a = 0 := (by decide +kernel : ∀ (t : Fin grid0.N) a, win0_0.index t a = 0)
theorem iblk0 (c : Dev nD) (t : Fin cfg0.N) : iblk m c 0 t = m ((c : Thread nD τ).loc main_arg0) := by
  funext y; blk_ext [iblk, V]
  all_goals (rw [idx0 t]; omega)
theorem idx1 : ∀ (t : Fin cfg0.N) a, win0_1.index t a = 0 := (by decide +kernel : ∀ (t : Fin grid0.N) a, win0_1.index t a = 0)
theorem iblk1 (c : Dev nD) (t : Fin cfg0.N) : iblk m c 1 t = m ((c : Thread nD τ).loc main_arg1) := by
  funext y; blk_ext [iblk, V]
  all_goals (rw [idx1 t]; omega)
theorem idx2 : ∀ (t : Fin cfg0.N) a, win0_2.index t a = 0 := (by decide +kernel : ∀ (t : Fin grid0.N) a, win0_2.index t a = 0)
theorem iblk2 (c : Dev nD) (t : Fin cfg0.N) : iblk m c 2 t = m ((c : Thread nD τ).loc main_arg2) := by
  funext y; blk_ext [iblk, V]
  all_goals (rw [idx2 t]; omega)
theorem idx3 : ∀ (t : Fin cfg0.N) a, win0_3.index t a = 0 := (by decide +kernel : ∀ (t : Fin grid0.N) a, win0_3.index t a = 0)
theorem iblk3 (c : Dev nD) (t : Fin cfg0.N) : iblk m c 3 t = m ((c : Thread nD τ).loc main_arg3) := by
  funext y; blk_ext [iblk, V]
  all_goals (rw [idx3 t]; omega)
theorem idx4 : ∀ (t : Fin cfg0.N) a, win0_4.index t a = 0 := (by decide +kernel : ∀ (t : Fin grid0.N) a, win0_4.index t a = 0)
theorem iblk4 (c : Dev nD) (t : Fin cfg0.N) : iblk m c 4 t = m ((c : Thread nD τ).loc main_arg4) := by
  funext y; blk_ext [iblk, V]
  all_goals (rw [idx4 t]; omega)
theorem idx5 : ∀ (t : Fin cfg0.N) a, win0_5.index t a = 0 := (by decide +kernel : ∀ (t : Fin grid0.N) a, win0_5.index t a = 0)
theorem iblk5 (c : Dev nD) (t : Fin cfg0.N) : iblk m c 5 t = m ((c : Thread nD τ).loc main_arg5) := by
  funext y; blk_ext [iblk, V]
  all_goals (rw [idx5 t]; omega)
theorem idx6 : ∀ (t : Fin cfg0.N) a, win0_6.index t a = 0 := (by decide +kernel : ∀ (t : Fin grid0.N) a, win0_6.index t a = 0)
theorem arr6 (c : Dev nD) : (dats m 0 c).arrAt 6 cfg0.N = yv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  simp only [outsAt0]
  rw [o6_eq]
  simp only [iblk0, iblk1, iblk2, iblk3, iblk4, iblk5]
  blk_ext
  all_goals (rw [idx6 t]; omega)
theorem idx7 : ∀ (t : Fin cfg0.N) a, win0_7.index t a = 0 := (by decide +kernel : ∀ (t : Fin grid0.N) a, win0_7.index t a = 0)
theorem arr7 (c : Dev nD) : (dats m 0 c).arrAt 7 cfg0.N = cH (m ((c : Thread nD τ).loc main_arg0)) := by
  refine (dats m 0 c).arrAt_eq_of_covers 7 _ (by decide +kernel) fun t hf y => ?_
  blk_simp
  rw [after0_7]
  simp only [outsAt0]
  rw [o7_eq]
  simp only [iblk0]
  blk_ext
  all_goals (rw [idx7 t]; omega)
theorem idx8 : ∀ (t : Fin cfg0.N) a, win0_8.index t a = 0 := (by decide +kernel : ∀ (t : Fin grid0.N) a, win0_8.index t a = 0)
theorem arr8 (c : Dev nD) : (dats m 0 c).arrAt 8 cfg0.N = k0_pay19 (k0_pay7 (F := Ideal) (m ((c : Thread nD τ).loc main_arg0)) (eH (m ((c : Thread nD τ).loc main_arg0)))) := by
  refine (dats m 0 c).arrAt_eq_of_covers 8 _ (by decide +kernel) fun t hf y => ?_
  blk_simp
  rw [after0_8]
  simp only [outsAt0]
  rw [o8_eq]
  simp only [iblk0]
  blk_ext
  all_goals (rw [idx8 t]; omega)
theorem idx9 : ∀ (t : Fin cfg0.N) a, win0_9.index t a = 0 := (by decide +kernel : ∀ (t : Fin grid0.N) a, win0_9.index t a = 0)
theorem arr9 (c : Dev nD) : (dats m 0 c).arrAt 9 cfg0.N = cW (m ((c : Thread nD τ).loc main_arg3)) (m ((c : Thread nD τ).loc main_arg4)) (m ((c : Thread nD τ).loc main_arg1)) := by
  refine (dats m 0 c).arrAt_eq_of_covers 9 _ (by decide +kernel) fun t hf y => ?_
  blk_simp
  rw [after0_9]
  simp only [outsAt0]
  rw [o9_eq]
  simp only [iblk3, iblk4, iblk1]
  blk_ext
  all_goals (rw [idx9 t]; omega)
theorem idx10 : ∀ (t : Fin cfg0.N) a, win0_10.index t a = 0 := (by decide +kernel : ∀ (t : Fin grid0.N) a, win0_10.index t a = 0)
theorem arr10 (c : Dev nD) : (dats m 0 c).arrAt 10 cfg0.N = k0_pay1 (k0_pay16 (F := Ideal) (m ((c : Thread nD τ).loc main_arg3)) (m ((c : Thread nD τ).loc main_arg4)) (m ((c : Thread nD τ).loc main_arg1)) (eW (m ((c : Thread nD τ).loc main_arg3)) (m ((c : Thread nD τ).loc main_arg4)) (m ((c : Thread nD τ).loc main_arg1)))) := by
  refine (dats m 0 c).arrAt_eq_of_covers 10 _ (by decide +kernel) fun t hf y => ?_
  blk_simp
  rw [after0_10]
  simp only [outsAt0]
  rw [o10_eq]
  simp only [iblk3, iblk4, iblk1]
  blk_ext
  all_goals (rw [idx10 t]; omega)

end Cert.Value.Ref
-- ==== Proof.Value.Alg.lean ====
module

public import proofs.«01_k».proof.Defs
public import proofs.«01_k».proof.Proof.Value.KArr
public import proofs.«01_k».proof.Proof.Value.RefRun
public import Idealize.ShloMosaic.Lib.ReduceAll

/-!
# The kernel and the reference leave the same five results

The precondition is read back as "no entry of the shift is infinite"; then each result of either program is the same
function of the arguments.
-/

@[expose] public section
noncomputable section
namespace Cert.Value
open Idealize.ShloMosaic Idealize.ShloMosaic.TcCoe Idealize.SL.Sem

/-! ## The precondition -/

theorem preFacts : Cert.Pre_finite_shift.Facts := ⟨by decide, by decide, by decide⟩

theorem maxFinite_lt_top : Ideal.ofBits .f32 0x7F7FFFFF#32 < ⊤ := by
  simp only [Ideal.ofBits, Ideal.ieee]
  norm_num
  exact EReal.coe_lt_top (16777215 * 2 ^ 104)

/-- Where `finite_shift` holds, no entry of the shift is infinite. -/
theorem finShift_of_pre (x0 : FVec Ideal Cert.Pre_finite_shift.S2x512x3072 .bf16) (x1 x2 : FVec Ideal Cert.Pre_finite_shift.S2x3072 .f32)
    (x3 : FVec Ideal Cert.Pre_finite_shift.S9216x3072 .fp8e4m3) (x4 x5 : FVec Ideal Cert.Pre_finite_shift.S9216 .f32)
    (h : @Cert.Pre_finite_shift.fn preFacts Ideal _ x0 x1 x2 x3 x4 x5 = fun _ => 1#1) : Kern.FinShift x2 := by
  intro p k
  have hs : Subsingleton Cert.Pre_finite_shift.S_.Idx := ⟨fun a b => funext fun i => i.elim0⟩
  have e := Host.reduce_andi_all _ _ _ _ (fun i => i.elim0) (congrFun h fun i => i.elim0) (ix2 p k)
  have e' : BitVec.ofBool (decide (max (x2 (ix2 p k)) (-(x2 (ix2 p k))) ≤ Ideal.ofBits .f32 0x7F7FFFFF#32)) = 1#1 := e
  have le : max (x2 (ix2 p k)) (-(x2 (ix2 p k))) ≤ Ideal.ofBits .f32 0x7F7FFFFF#32 := by
    by_contra hn
    rw [decide_eq_false hn] at e'
    exact absurd e' (by decide)
  have lt := le.trans_lt maxFinite_lt_top
  constructor
  · intro ht
    rw [ht] at lt
    exact absurd lt (by simp)
  · intro hb
    rw [hb] at lt
    exact absurd lt (by simp)

/-! ## The two runs -/

theorem algebraic : @Cert.algebraic_KernelIdeal_ReferenceIdeal_pre_finite_shift Cert.KernelIdeal.Gen.facts Cert.ReferenceIdeal.Gen.facts preFacts := by
  intro m g m' g' hp hm
  refine ⟨fun c => Ref.yv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Ref.cH (m ((c.tc : Thread Cert.KernelIdeal.nD Cert.KernelIdeal.τ).loc Cert.KernelIdeal.main_arg0)),
    fun c => Cert.ReferenceIdeal.Gen.k0_pay19 (Cert.ReferenceIdeal.Gen.k0_pay7 (F := Ideal) (m ((c.tc : Thread Cert.KernelIdeal.nD Cert.KernelIdeal.τ).loc Cert.KernelIdeal.main_arg0)) (Ref.eH (m ((c.tc : Thread Cert.KernelIdeal.nD Cert.KernelIdeal.τ).loc Cert.KernelIdeal.main_arg0)))),
    fun c => Ref.cW (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg1)),
    fun c => Cert.ReferenceIdeal.Gen.k0_pay1 (Cert.ReferenceIdeal.Gen.k0_pay16 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg1)) (Ref.eW (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg1)))), ?_, ?_⟩
  · refine (θ_run _ _ _).mono (fun r h c => ?_) (Cert.KernelIdeal.Hand.run_main m g)
    have hf : Kern.FinShift (m ((c.tc : Thread Cert.KernelIdeal.nD Cert.KernelIdeal.τ).loc Cert.KernelIdeal.main_arg2)) := finShift_of_pre _ _ _ _ _ _ (hp c)
    exact ⟨((h.1.1 c).1 5).trans (Kern.arr5 m c hf), (h.1.2 c Cert.KernelIdeal.main_v3_1 (by decide)).trans (Kern.gout m c),
      ((h.1.1 c).1 6).trans (Kern.arr6 m c), ((h.1.1 c).1 7).trans (Kern.arr7 m c), ((h.1.1 c).1 8).trans (Kern.arr8 m c),
      Kern.args m h.1 c⟩
  · refine (θ_run _ _ _).mono (fun r h c => ?_) (Cert.ReferenceIdeal.Value.run_blocks m' g')
    obtain ⟨h0, h1, h2, h3, h4, hargs⟩ := h c
    obtain ⟨e0, e1, e2, e3, e4, e5⟩ := hm c
    rw [Ref.arr6 m' c] at h0
    rw [Ref.arr7 m' c] at h1
    rw [Ref.arr8 m' c] at h2
    rw [Ref.arr9 m' c] at h3
    rw [Ref.arr10 m' c] at h4
    refine ⟨h0.trans ?_, h1.trans ?_, h2.trans ?_, h3.trans ?_, h4.trans ?_, hargs⟩
    · exact congr (congr (congr (congr (congr (congrArg Ref.yv e0) e1) e2) e3) e4) e5
    · exact congrArg Ref.cH e0
    · exact congrArg (fun x => Cert.ReferenceIdeal.Gen.k0_pay19 (Cert.ReferenceIdeal.Gen.k0_pay7 (F := Ideal) x (Ref.eH x))) e0
    · exact congr (congr (congrArg Ref.cW e3) e4) e1
    · show Cert.ReferenceIdeal.Gen.k0_pay1 (Cert.ReferenceIdeal.Gen.k0_pay16 (F := Ideal) _ _ _ (Ref.eW _ _ _)) = _
      rw [e3, e4, e1]

end Cert.Value
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Value.Alg

@[expose] public section

namespace Cert.Proof

open Idealize.ShloMosaic Idealize.SL.Sem

theorem claim : Cert.Claim := ⟨Cert.Kernel.Gen.facts, Cert.KernelIdeal.Gen.facts, Cert.ReferenceIdeal.Gen.facts, Cert.Value.preFacts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  Cert.Value.algebraic⟩

end Cert.Proof

end
